-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v8) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1x2304 : Shape := ⟨3, ![3, 1, 2304]⟩
abbrev S2304 : Shape := ⟨1, ![2304]⟩
abbrev S2304x9216 : Shape := ⟨2, ![2304, 9216]⟩
abbrev S3x2304 : Shape := ⟨2, ![3, 2304]⟩
abbrev S1x2304 : Shape := ⟨2, ![1, 2304]⟩
abbrev S3x9216 : Shape := ⟨2, ![3, 9216]⟩
abbrev S3x18 : Shape := ⟨2, ![3, 18]⟩
abbrev S9x2x72 : Shape := ⟨3, ![9, 2, 72]⟩
abbrev S256x9216 : Shape := ⟨2, ![256, 9216]⟩
abbrev S1x2x72 : Shape := ⟨3, ![1, 2, 72]⟩
abbrev S9x16x256 : Shape := ⟨3, ![9, 16, 256]⟩
abbrev S8x9216 : Shape := ⟨2, ![8, 9216]⟩
abbrev S3 : Shape := ⟨1, ![3]⟩
abbrev S3x1 : Shape := ⟨2, ![3, 1]⟩
abbrev S3x128 : Shape := ⟨2, ![3, 128]⟩
abbrev S1x256 : Shape := ⟨2, ![1, 256]⟩
abbrev S3x256 : Shape := ⟨2, ![3, 256]⟩
abbrev S1x3x128 : Shape := ⟨3, ![1, 3, 128]⟩
abbrev S1x4x128 : Shape := ⟨3, ![1, 4, 128]⟩
abbrev S1x16x256 : Shape := ⟨3, ![1, 16, 256]⟩
abbrev S16x256 : Shape := ⟨2, ![16, 256]⟩
abbrev S128x128 : Shape := ⟨2, ![128, 128]⟩
abbrev S8x16x128 : Shape := ⟨3, ![8, 16, 128]⟩
abbrev S16x128 : Shape := ⟨2, ![16, 128]⟩
abbrev S1x16x128 : Shape := ⟨3, ![1, 16, 128]⟩
abbrev S1 : Shape := ⟨1, ![1]⟩
abbrev S1x1x1 : Shape := ⟨3, ![1, 1, 1]⟩
abbrev S1x1 : Shape := ⟨2, ![1, 1]⟩
abbrev S8x128 : Shape := ⟨2, ![8, 128]⟩
abbrev S8x256 : Shape := ⟨2, ![8, 256]⟩
abbrev S256x256 : Shape := ⟨2, ![256, 256]⟩
abbrev S3x1x9216 : Shape := ⟨3, ![3, 1, 9216]⟩
abbrev S3x1x18 : Shape := ⟨3, ![3, 1, 18]⟩
abbrev S18x72 : Shape := ⟨2, ![18, 72]⟩

abbrev nBuf : Space → Nat
  | .hbm => 18
  | .vmem => 15
  | .smem => 0
  | _ => 0

abbrev bufTy : (tb : Table) → Fin (tcTables nBuf tb) → BufTy
  | .hbm, ⟨0, _⟩ => ⟨S3x1x2304, .bf16⟩
  | .hbm, ⟨1, _⟩ => ⟨S3x1x2304, .bf16⟩
  | .hbm, ⟨2, _⟩ => ⟨S2304, .f32⟩
  | .hbm, ⟨3, _⟩ => ⟨S2304x9216, .bf16⟩
  | .hbm, ⟨4, _⟩ => ⟨S3x2304, .bf16⟩
  | .hbm, ⟨5, _⟩ => ⟨S3x2304, .bf16⟩
  | .hbm, ⟨6, _⟩ => ⟨S1x2304, .f32⟩
  | .hbm, ⟨7, _⟩ => ⟨S3x9216, .bf16⟩
  | .hbm, ⟨8, _⟩ => ⟨S3x2304, .bf16⟩
  | .hbm, ⟨9, _⟩ => ⟨S3x2304, .fp8e4m3⟩
  | .hbm, ⟨10, _⟩ => ⟨S3x18, .f32⟩
  | .hbm, ⟨11, _⟩ => ⟨S2304x9216, .fp8e4m3⟩
  | .hbm, ⟨12, _⟩ => ⟨S9x2x72, .f32⟩
  | .hbm, ⟨13, _⟩ => ⟨S3x1x9216, .bf16⟩
  | .hbm, ⟨14, _⟩ => ⟨S3x1x2304, .bf16⟩
  | .hbm, ⟨15, _⟩ => ⟨S3x1x2304, .fp8e4m3⟩
  | .hbm, ⟨16, _⟩ => ⟨S3x1x18, .f32⟩
  | .hbm, ⟨17, _⟩ => ⟨S18x72, .f32⟩
  | .local _ .vmem, ⟨0, _⟩ => ⟨S3x2304, .bf16⟩
  | .local _ .vmem, ⟨1, _⟩ => ⟨S3x2304, .bf16⟩
  | .local _ .vmem, ⟨2, _⟩ => ⟨S1x2304, .f32⟩
  | .local _ .vmem, ⟨3, _⟩ => ⟨S256x9216, .bf16⟩
  | .local _ .vmem, ⟨4, _⟩ => ⟨S256x9216, .bf16⟩
  | .local _ .vmem, ⟨5, _⟩ => ⟨S3x9216, .bf16⟩
  | .local _ .vmem, ⟨6, _⟩ => ⟨S3x2304, .bf16⟩
  | .local _ .vmem, ⟨7, _⟩ => ⟨S3x2304, .fp8e4m3⟩
  | .local _ .vmem, ⟨8, _⟩ => ⟨S3x18, .f32⟩
  | .local _ .vmem, ⟨9, _⟩ => ⟨S256x9216, .fp8e4m3⟩
  | .local _ .vmem, ⟨10, _⟩ => ⟨S256x9216, .fp8e4m3⟩
  | .local _ .vmem, ⟨11, _⟩ => ⟨S1x2x72, .f32⟩
  | .local _ .vmem, ⟨12, _⟩ => ⟨S1x2x72, .f32⟩
  | .local _ .vmem, ⟨13, _⟩ => ⟨S9x16x256, .bf16⟩
  | .local _ .vmem, ⟨14, _⟩ => ⟨S8x9216, .f32⟩
  | _, _ => ⟨S3x1x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![9], ![false]⟩

def k0_off1 (i : grid0.Coords) : Fin 3 → Nat :=
  let arg0 : BitVec 32 := BitVec.ofNat 32 (i 0).val
  let v3 : Index := Scalar.indexCast arg0
  let c0 : Index := 0#32
  let c0_1 : Index := 0#32
  ![v3.toNat, 0, 0]
def k0_cond2 (i : grid0.Coords) : BitVec 1 :=
  let arg0 : BitVec 32 := BitVec.ofNat 32 (i 0).val
  let c8_i32 : BitVec 32 := 8#32
  let v9330 : BitVec 1 := Scalar.cmpi .eq arg0 c8_i32
  let v9331 : BitVec 32 := Scalar.extui v9330
  let c0_i32_3706 : BitVec 32 := 0#32
  let v9332 : BitVec 1 := Scalar.cmpi .ne v9331 c0_i32_3706
  v9332

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S3x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x9216 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x9216 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x2304 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x18 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x9216 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x72 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S3x1x2304 : Shape := ⟨3, ![3, 1, 2304]⟩
abbrev S2304 : Shape := ⟨1, ![2304]⟩
abbrev S2304x9216 : Shape := ⟨2, ![2304, 9216]⟩
abbrev S3x1x9216 : Shape := ⟨3, ![3, 1, 9216]⟩
abbrev S3x1x18 : Shape := ⟨3, ![3, 1, 18]⟩
abbrev S18x72 : Shape := ⟨2, ![18, 72]⟩
abbrev S3x1 : Shape := ⟨2, ![3, 1]⟩
abbrev S3x1x1 : Shape := ⟨3, ![3, 1, 1]⟩
abbrev S1x1x2304 : Shape := ⟨3, ![1, 1, 2304]⟩
abbrev S3x1x18x128 : Shape := ⟨4, ![3, 1, 18, 128]⟩
abbrev S3x1x18x1 : Shape := ⟨4, ![3, 1, 18, 1]⟩
abbrev S18x128x72x128 : Shape := ⟨4, ![18, 128, 72, 128]⟩
abbrev S18x1x72x1 : Shape := ⟨4, ![18, 1, 72, 1]⟩
abbrev S3x18x128 : Shape := ⟨3, ![3, 18, 128]⟩
abbrev S3x18 : Shape := ⟨2, ![3, 18]⟩
abbrev S3x18x1 : Shape := ⟨3, ![3, 18, 1]⟩
abbrev S18x3x128 : Shape := ⟨3, ![18, 3, 128]⟩
abbrev S18x128x9216 : Shape := ⟨3, ![18, 128, 9216]⟩
abbrev S18x3x9216 : Shape := ⟨3, ![18, 3, 9216]⟩
abbrev S18x3x72x128 : Shape := ⟨4, ![18, 3, 72, 128]⟩
abbrev S3x72x128 : Shape := ⟨3, ![3, 72, 128]⟩

abbrev nBuf : Space → Nat
  | .hbm => 10
  | .vmem => 10
  | .smem => 0
  | _ => 0

abbrev bufTy : (tb : Table) → Fin (tcTables nBuf tb) → BufTy
  | .hbm, ⟨0, _⟩ => ⟨S3x1x2304, .bf16⟩
  | .hbm, ⟨1, _⟩ => ⟨S3x1x2304, .bf16⟩
  | .hbm, ⟨2, _⟩ => ⟨S2304, .f32⟩
  | .hbm, ⟨3, _⟩ => ⟨S2304x9216, .bf16⟩
  | .hbm, ⟨4, _⟩ => ⟨S3x1x9216, .bf16⟩
  | .hbm, ⟨5, _⟩ => ⟨S3x1x2304, .bf16⟩
  | .hbm, ⟨6, _⟩ => ⟨S3x1x2304, .fp8e4m3⟩
  | .hbm, ⟨7, _⟩ => ⟨S3x1x18, .f32⟩
  | .hbm, ⟨8, _⟩ => ⟨S2304x9216, .fp8e4m3⟩
  | .hbm, ⟨9, _⟩ => ⟨S18x72, .f32⟩
  | .local _ .vmem, ⟨0, _⟩ => ⟨S3x1x2304, .bf16⟩
  | .local _ .vmem, ⟨1, _⟩ => ⟨S3x1x2304, .bf16⟩
  | .local _ .vmem, ⟨2, _⟩ => ⟨S2304, .f32⟩
  | .local _ .vmem, ⟨3, _⟩ => ⟨S2304x9216, .bf16⟩
  | .local _ .vmem, ⟨4, _⟩ => ⟨S3x1x9216, .bf16⟩
  | .local _ .vmem, ⟨5, _⟩ => ⟨S3x1x2304, .bf16⟩
  | .local _ .vmem, ⟨6, _⟩ => ⟨S3x1x2304, .fp8e4m3⟩
  | .local _ .vmem, ⟨7, _⟩ => ⟨S3x1x18, .f32⟩
  | .local _ .vmem, ⟨8, _⟩ => ⟨S2304x9216, .fp8e4m3⟩
  | .local _ .vmem, ⟨9, _⟩ => ⟨S18x72, .f32⟩
  | _, _ => ⟨S3x1x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S3x1x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2304x9216 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1x9216 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x1x2304 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x1x18 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2304x9216 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S18x72 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kernel.Rolled.lean ====
/- The kernel's body, rolled up: the printed body writes its 36 column chunks and its 18 activation groups out one after
   another; here each is ONE program in its number, and the printed body is shown to be their sequence. -/
module

public import proofs.«01_k».proof.Proof.Gen.Kernel

@[expose] public section

set_option maxRecDepth 65536

noncomputable section

namespace Cert.Kernel.Rolled

open Cert.Kernel Cert.Kernel.Gen
open Idealize.ShloMosaic Idealize.ShloMosaic.TcCoe
open Idealize.SL Idealize.SL.Sem

variable {F : FTy → Type} [FloatOps F]

/-! ## The values -/

/-- The thresholds: lane `k` is the f32 whose exponent field is `k`. -/
def lanes : IVec S1x256 32 := iota .tc S1x256 32 [1] iota_S1x256_d1_w32
def thresholds : FVec F S1x256 .f32 := bitcastToFloat .f32 (shli lanes (broadcast S1x256 23#32))
/-- What lane `k` stands for: the field `k`, or 255 from `2^120` on. -/
def fields : IVec S1x256 32 :=
  select (cmpi .slt lanes (broadcast S1x256 247#32)) lanes (broadcast S1x256 255#32)

/-- The exponent field of one number. -/
def fieldW (t : FVec F S1x1 .f32) : IVec S1x1 32 :=
  shapeCast S1x1
    (multiReductionI .maxsi [1] S1
      (select (cmpf .oge (broadcastTo S1x256 t broadcasts_S1x1_S1x256) thresholds) fields (broadcast S1x256 0#32))
      2147483648#32 reduces_S1x256_S1 rfl)
    shapeCasts_S1_S1x1
/-- The exponent of one number's power of two. -/
def expoW (t : FVec F S1x1 .f32) : IVec S1x1 32 :=
  select (ori (cmpi .eq (fieldW t) (broadcast S1x1 0#32)) (cmpi .eq (fieldW t) (broadcast S1x1 255#32)))
    (broadcast S1x1 0#32) (subi (fieldW t) (broadcast S1x1 126#32))
def pow2W (e : IVec S1x1 32) : FVec F S1x1 .f32 :=
  bitcastToFloat .f32 (shli (addi (broadcast S1x1 127#32) e) (broadcast S1x1 23#32))
def invW (e : IVec S1x1 32) : FVec F S1x1 .f32 :=
  bitcastToFloat .f32 (shli (subi (broadcast S1x1 127#32) e) (broadcast S1x1 23#32))
/-- The largest magnitude of a weight block, over 448. -/
def ratioW (v : Vec F S128x128 .bf16) : FVec F S1x1 .f32 :=
  mulf
    (broadcast S1x1
      (extractAt ![0, 0, 0]
        (shapeCast S1x1x1
          (multiReduction .maximumf [1, 2] S1
            (shapeCast S1x16x128
              (extf .f32
                (multiReduction .maximumf [0] S16x128
                  (absf (shapeCast S8x16x128 v shapeCasts_S128x128_S8x16x128)) 0xFF80#16
                  reduces_S8x16x128_S16x128 (.inr rfl) rfl)
                bitsLt_bf16_f32)
              shapeCasts_S16x128_S1x16x128)
            0xFF800000#32 reduces_S1x16x128_S1 (.inl rfl) rfl)
          shapeCasts_S1_S1x1x1)
        inpos_S1x1x1_p0_0_0))
    (broadcast S1x1 (Scalar.ofBits .f32 0x3B124925#32))
/-- A weight block's scale. -/
def scaleW (v : Vec F S128x128 .bf16) : FVec F S1x1 .f32 :=
  bitcastToFloat .f32 (shli (addi (broadcast S1x1 127#32) (expoW (ratioW v))) (broadcast S1x1 23#32))
/-- A weight block's codes. -/
def codesW (v : Vec F S128x128 .bf16) : FVec F S128x128 .fp8e4m3 :=
  truncf .fp8e4m3
    (minimumf (broadcast S128x128 (Scalar.truncf .bf16 bitsLt_bf16_f32 (Scalar.ofBits .f32 0x43E00000#32)))
      (maximumf (broadcast S128x128 (Scalar.truncf .bf16 bitsLt_bf16_f32 (Scalar.ofBits .f32 0xC3E00000#32)))
        (mulf v (broadcastTo S128x128 (truncf .bf16 (invW (expoW (ratioW v))) bitsLt_bf16_f32) broadcasts_S1x1_S128x128))))
    bitsLt_fp8e4m3_bf16
/-- Two scales laid over the columns they multiply. -/
def scaleRow (s0 s1 : FVec F S1x1 .f32) : FVec F S8x256 .f32 :=
  concatenate S8x256 1
    [⟨S8x128, broadcastTo S8x128 (shapeCast S1x1 s0 shapeCasts_S1x1_S1x1) broadcasts_S1x1_S8x128⟩,
      ⟨S8x128, broadcastTo S8x128 (shapeCast S1x1 s1 shapeCasts_S1x1_S1x1) broadcasts_S1x1_S8x128⟩]
    concatenates_S8x128_S8x128_S8x256_d1
/-- A chunk's accumulator after its step. -/
def accStep (x : FVec F S16x256 .bf16) (w : Vec F S256x256 .fp8e4m3) (a : Vec F S8x256 .f32) (s00 s01 s10 s11 : FVec F S1x1 .f32) :
    FVec F S8x256 .f32 :=
  shapeCast S8x256
    (addf a
      (addf
        (mulf (extractStridedSlice S8x256 ![0, 0]
          (matmul dot_S16x256_S256x256_S16x256_1_0_0_1_n_n none x (shapeCast S256x256 w shapeCasts_S256x256_S256x256)
            (constant S16x256 .f32 0x00000000#32)) slices_S16x256_o0_0_S8x256) (scaleRow s00 s01))
        (mulf (extractStridedSlice S8x256 ![8, 0]
          (matmul dot_S16x256_S256x256_S16x256_1_0_0_1_n_n none x (shapeCast S256x256 w shapeCasts_S256x256_S256x256)
            (constant S16x256 .f32 0x00000000#32)) slices_S16x256_o8_0_S8x256) (scaleRow s10 s11))))
    shapeCasts_S8x256_S8x256

/-! The same for the three rows of one activation group. -/

/-- The exponent field of each of three numbers. -/
def fieldX (t : FVec F S3x1 .f32) : IVec S3x1 32 :=
  shapeCast S3x1
    (multiReductionI .maxsi [1] S3
      (select (cmpf .oge (broadcastTo S3x256 t broadcasts_S3x1_S3x256) (broadcastTo S3x256 thresholds broadcasts_S1x256_S3x256))
        (broadcastTo S3x256 (shapeCast S1x256 fields shapeCasts_S1x256_S1x256) broadcasts_S1x256_S3x256)
        (broadcast S3x256 0#32))
      2147483648#32 reduces_S3x256_S3 rfl)
    shapeCasts_S3_S3x1
/-- The exponents of three numbers' powers of two. -/
def expoX (t : FVec F S3x1 .f32) : IVec S3x1 32 :=
  select (ori (cmpi .eq (fieldX t) (broadcast S3x1 0#32)) (cmpi .eq (fieldX t) (broadcast S3x1 255#32)))
    (broadcast S3x1 0#32) (subi (fieldX t) (broadcast S3x1 126#32))
/-- The largest magnitude of each row of a group, over 448. -/
def ratioX (v : FVec F S3x128 .f32) : FVec F S3x1 .f32 :=
  mulf
    (shapeCast S3x1 (multiReduction .maximumf [1] S3 (absf v) 0xFF800000#32 reduces_S3x128_S3 (.inl rfl) rfl) shapeCasts_S3_S3x1)
    (broadcast S3x1 (Scalar.ofBits .f32 0x3B124925#32))
/-- A group's scales. -/
def scaleX (v : FVec F S3x128 .f32) : FVec F S3x1 .f32 :=
  bitcastToFloat .f32 (shli (addi (broadcast S3x1 127#32) (expoX (ratioX v))) (broadcast S3x1 23#32))
/-- A group's codes. -/
def codesX (v : FVec F S3x128 .f32) : FVec F S3x128 .fp8e4m3 :=
  truncf .fp8e4m3
    (minimumf (broadcast S3x128 (Scalar.ofBits .f32 0x43E00000#32))
      (maximumf (broadcast S3x128 (Scalar.ofBits .f32 0xC3E00000#32))
        (mulf v
          (broadcastTo S3x128
            (bitcastToFloat .f32 (shli (subi (broadcast S3x1 127#32) (expoX (ratioX v))) (broadcast S3x1 23#32)) : FVec F S3x1 .f32)
            broadcasts_S3x1_S3x128))))
    bitsLt_fp8e4m3_f32
/-- A group's numbers as the matmul takes them: codes times scales. -/
def backX (v : FVec F S3x128 .f32) : FVec F S1x3x128 .bf16 :=
  shapeCast S1x3x128
    (mulf (extf .bf16 (codesX v) bitsLt_fp8e4m3_bf16)
      (broadcastTo S3x128 (truncf .bf16 (scaleX v) bitsLt_bf16_f32) broadcasts_S3x1_S3x128))
    shapeCasts_S3x128_S1x3x128
/-- The residual stream, rounded. -/
def resid (x r : Vec F S3x2304 .bf16) : FVec F S3x2304 .bf16 :=
  truncf .bf16
    (addf (extf .f32 (shapeCast S3x2304 x shapeCasts_S3x2304_S3x2304) bitsLt_bf16_f32)
      (extf .f32 (shapeCast S3x2304 r shapeCasts_S3x2304_S3x2304) bitsLt_bf16_f32)) bitsLt_bf16_f32
/-- The normed rows. -/
def normed (h : FVec F S3x2304 .bf16) (g : Vec F S1x2304 .f32) : FVec F S3x2304 .f32 :=
  mulf
    (mulf (extf .f32 h bitsLt_bf16_f32)
      (broadcastTo S3x2304
        (rsqrt
          (addf
            (divf
              (shapeCast S3x1
                (multiReduction .add [1] S3 (mulf (extf .f32 h bitsLt_bf16_f32) (extf .f32 h bitsLt_bf16_f32)) 0x00000000#32
                  reduces_S3x2304_S3 (.inl rfl) rfl)
                shapeCasts_S3_S3x1)
              (broadcast S3x1 (Scalar.ofBits .f32 0x45100000#32)))
            (broadcast S3x1 (Scalar.ofBits .f32 0x358637BD#32))))
        broadcasts_S3x1_S3x2304))
    (broadcastTo S3x2304 (shapeCast S1x2304 g shapeCasts_S1x2304_S1x2304) broadcasts_S1x2304_S3x2304)

theorem slicesG {g : ℕ} (hg : g < 18) : S3x2304.Slices ![0, 128 * g] S3x128 :=
  (by decide +kernel : ∀ g : Fin 18, S3x2304.Slices ![0, 128 * (g : ℕ)] S3x128) ⟨g, hg⟩

/-! ## The rectangles -/

theorem inbW {b q : ℕ} (hb : b < 2) (hq : q < 72) :
    ∀ a, (![128 * b, 128 * q] : Fin 2 → ℕ) a + S128x128.size a ≤ S256x9216.size a := by
  intro a; fin_cases a <;> simp [S128x128, S256x9216] <;> omega
theorem inbS {b q : ℕ} (hb : b < 2) (hq : q < 72) :
    ∀ a, (![0, b, q] : Fin 3 → ℕ) a + S1x1x1.size a ≤ S1x2x72.size a := by
  intro a; fin_cases a <;> simp [S1x1x1, S1x2x72] <;> omega
theorem inbP {c : ℕ} (hc : c < 36) :
    ∀ a, (![0, 256 * c] : Fin 2 → ℕ) a + S256x256.size a ≤ S256x9216.size a := by
  intro a; fin_cases a <;> simp [S256x256, S256x9216] <;> omega
theorem inbA {c : ℕ} (hc : c < 36) :
    ∀ a, (![0, 256 * c] : Fin 2 → ℕ) a + S8x256.size a ≤ S8x9216.size a := by
  intro a; fin_cases a <;> simp [S8x256, S8x9216] <;> omega

abbrev rW {b q : ℕ} (hb : b < 2) (hq : q < 72) : Rect S256x9216 :=
  Rect.unit (s := S256x9216) ![128 * b, 128 * q] S128x128.size (inbW hb hq)
abbrev rS {b q : ℕ} (hb : b < 2) (hq : q < 72) : Rect S1x2x72 :=
  Rect.unit (s := S1x2x72) ![0, b, q] S1x1x1.size (inbS hb hq)
abbrev rP {c : ℕ} (hc : c < 36) : Rect S256x9216 :=
  Rect.unit (s := S256x9216) ![0, 256 * c] S256x256.size (inbP hc)
abbrev rA {c : ℕ} (hc : c < 36) : Rect S8x9216 :=
  Rect.unit (s := S8x9216) ![0, 256 * c] S8x256.size (inbA hc)

theorem packedW : ∀ (b : Fin 2) (q : Fin 72), (rW b.2 q.2).PackedRows (EltTy.packing .fp8e4m3) := by
  decide +kernel

theorem inbC {g : ℕ} (hg : g < 18) :
    ∀ a, (![0, 128 * g] : Fin 2 → ℕ) a + S3x128.size a ≤ S3x2304.size a := by
  intro a; fin_cases a <;> simp [S3x128, S3x2304] <;> omega
theorem inbT {g : ℕ} (hg : g < 18) :
    ∀ a, (![0, g] : Fin 2 → ℕ) a + S3x1.size a ≤ S3x18.size a := by
  intro a; fin_cases a <;> simp [S3x1, S3x18] <;> omega
theorem inbL3 {s h : ℕ} (hs : s < 9) (hh : h < 2) :
    ∀ a, (![s, 8 * h, 128 * h] : Fin 3 → ℕ) a + S1x3x128.size a ≤ S9x16x256.size a := by
  intro a; fin_cases a <;> simp [S1x3x128, S9x16x256] <;> omega
theorem inbL {s h : ℕ} (hs : s < 9) (hh : h < 2) :
    ∀ a, (![s, 8 * h, 128 * h] : Fin 3 → ℕ) a + S1x4x128.size a ≤ S9x16x256.size a := by
  intro a; fin_cases a <;> simp [S1x4x128, S9x16x256] <;> omega

abbrev rC {g : ℕ} (hg : g < 18) : Rect S3x2304 :=
  Rect.unit (s := S3x2304) ![0, 128 * g] S3x128.size (inbC hg)
abbrev rT {g : ℕ} (hg : g < 18) : Rect S3x18 :=
  Rect.unit (s := S3x18) ![0, g] S3x1.size (inbT hg)
abbrev rL3 {s h : ℕ} (hs : s < 9) (hh : h < 2) : Rect S9x16x256 :=
  Rect.unit (s := S9x16x256) ![s, 8 * h, 128 * h] S1x3x128.size (inbL3 hs hh)
abbrev rL {s h : ℕ} (hs : s < 9) (hh : h < 2) : Rect S9x16x256 :=
  Rect.unit (s := S9x16x256) ![s, 8 * h, 128 * h] S1x4x128.size (inbL hs hh)

theorem packedC : ∀ g : Fin 18, (rC g.2).PackedTiles := by decide +kernel
theorem packedL : ∀ (s : Fin 9) (h : Fin 2), (rL s.2 h.2).PackedRows (EltTy.packing .bf16) := by decide +kernel

/-! ## The programs -/

abbrev P := Prog (TpuEff nD τ sig (Elt F) Λ₀ .tc)

section
variable (arg4 : Memref sig .tc .vmem S256x9216 .bf16)
  (arg9 : Memref sig .tc .vmem S256x9216 .fp8e4m3) (harg9 : arg9.IsWhole)
  (arg10 : Memref sig .tc .vmem S1x2x72 .f32) (arg12 : Memref sig .tc .vmem S8x9216 .f32)

/-- One weight block quantised: its codes and its scale stored. -/
def block {b q : ℕ} (hb : b < 2) (hq : q < 72) (K : FVec F S1x1 .f32 → P (F := F) PUnit) : P (F := F) PUnit :=
  .op (.load arg4 (rW hb hq).toLoadRect (View.loadsAt_vmem h_S128x128)) fun v : Vec F S128x128 .bf16 =>
  .op (.load arg9 (rW hb hq).toLoadRect (View.loadsAt_vmem h_S128x128)) fun _ =>
  .op (.store arg9 (rW hb hq) (codesW v) Finset.univ (View.stores_vmem h_S128x128 (harg9.storeExact_slice rfl _ (packedW ⟨b, hb⟩ ⟨q, hq⟩)) (fun _ => rfl)) (.inl rfl)) fun _ =>
  .op (.load arg10 (rS hb hq).toLoadRect (View.loadsAt_vmem h_S1x1x1)) fun _ =>
  .op (.store arg10 (rS hb hq) (shapeCast S1x1x1 (scaleW v) shapeCasts_S1x1_S1x1x1) Finset.univ (View.stores_vmem_bits_univ h_S1x1x1 rfl) (.inl rfl)) fun _ =>
  K (scaleW v)

/-- One column chunk: its four weight blocks, and its columns of the accumulator. -/
def chunk (x : FVec F S16x256 .bf16) {c : ℕ} (hc : c < 36) (K : P (F := F) PUnit) : P (F := F) PUnit :=
  block arg4 arg9 harg9 arg10 (b := 0) (q := 2 * c) (by omega) (by omega) fun s00 =>
  block arg4 arg9 harg9 arg10 (b := 0) (q := 2 * c + 1) (by omega) (by omega) fun s01 =>
  block arg4 arg9 harg9 arg10 (b := 1) (q := 2 * c) (by omega) (by omega) fun s10 =>
  block arg4 arg9 harg9 arg10 (b := 1) (q := 2 * c + 1) (by omega) (by omega) fun s11 =>
  .op (.load arg9 (rP hc).toLoadRect (View.loadsAt_vmem h_S256x256)) fun w : Vec F S256x256 .fp8e4m3 =>
  .op (.load arg12 (rA hc).toLoadRect (View.loadsAt_vmem h_S8x256)) fun a : Vec F S8x256 .f32 =>
  .op (.load arg12 (rA hc).toLoadRect (View.loadsAt_vmem h_S8x256)) fun _ =>
  .op (.store arg12 (rA hc) (accStep x w a s00 s01 s10 s11) Finset.univ (View.stores_vmem_bits_univ h_S8x256 rfl) (.inl rfl)) fun _ =>
  K

/-- The last `n` column chunks. -/
def chunks (x : FVec F S16x256 .bf16) (K : P (F := F) PUnit) : (n : ℕ) → n ≤ 36 → P (F := F) PUnit
  | 0, _ => K
  | n + 1, h => chunk arg4 arg9 harg9 arg10 arg12 x (c := 35 - n) (by omega) (chunks x K n (by omega))

end

section
variable (i : grid0.Coords) (arg1 : Memref sig .tc .vmem S3x2304 .bf16) (harg1 : arg1.IsWhole) (arg2 : Memref sig .tc .vmem S3x2304 .bf16) (harg2 : arg2.IsWhole) (arg3 : Memref sig .tc .vmem S1x2304 .f32) (harg3 : arg3.IsWhole) (arg4 : Memref sig .tc .vmem S256x9216 .bf16) (harg4 : arg4.IsWhole) (arg5 : Memref sig .tc .vmem S3x9216 .bf16) (harg5 : arg5.IsWhole) (arg6 : Memref sig .tc .vmem S3x2304 .bf16) (harg6 : arg6.IsWhole) (arg7 : Memref sig .tc .vmem S3x2304 .fp8e4m3) (harg7 : arg7.IsWhole) (arg8 : Memref sig .tc .vmem S3x18 .f32) (harg8 : arg8.IsWhole) (arg9 : Memref sig .tc .vmem S256x9216 .fp8e4m3) (harg9 : arg9.IsWhole) (arg10 : Memref sig .tc .vmem S1x2x72 .f32) (harg10 : arg10.IsWhole) (arg11 : Memref sig .tc .vmem S9x16x256 .bf16) (harg11 : arg11.IsWhole) (arg12 : Memref sig .tc .vmem S8x9216 .f32) (harg12 : arg12.IsWhole)

/-- The last store: the accumulator's rows, rounded, at the last step. -/
def finish : P (F := F) PUnit :=
  if k0_h2 : k0_cond2 i = 1#1 then
    .op (.load arg12 (Rect.unit (s := S8x9216) ![0, 0] S3x9216.size inb_S8x9216_S3x9216_0_0).toLoadRect (View.loadsAt_vmem h_S3x9216)) fun v : Vec F S3x9216 .f32 =>
    .op (.load arg5 (Rect.unit (s := S3x9216) ![0, 0] S3x9216.size inb_S3x9216_S3x9216_0_0).toLoadRect (View.loadsAt_vmem h_S3x9216)) fun _ =>
    .op (.store arg5 (Rect.unit (s := S3x9216) ![0, 0] S3x9216.size inb_S3x9216_S3x9216_0_0) (truncf .bf16 v bitsLt_bf16_f32) Finset.univ (View.stores_vmem h_S3x9216 (harg5.storeExact_slice rfl _ packedbf16_S3x9216_S3x9216_0_0) (fun _ => rfl)) (.inl rfl)) fun _ =>
    .ret ⟨⟩
  else .ret ⟨⟩

/-- A step after its prologue. -/
def step : P (F := F) PUnit :=
  .op (.load arg11 (Rect.unit (s := S9x16x256) (k0_off1 i) S1x16x256.size (k0_off1_inb i)).toLoadRect (View.loadsAt_vmem h_S1x16x256)) fun v4 : Vec F S1x16x256 .bf16 =>
  chunks arg4 arg9 harg9 arg10 arg12 (shapeCast S16x256 v4 shapeCasts_S1x16x256_S16x256)
    (finish i arg5 harg5 arg12) 36 le_rfl

/-- One activation group quantised: its codes and scales stored, its numbers put in their place among the matmul's rows. -/
def group (n : FVec F S3x2304 .f32) {g s h : ℕ} (hg : g < 18) (hs : s < 9) (hh : h < 2) (K : P (F := F) PUnit) : P (F := F) PUnit :=
  .op (.load arg7 (rC hg).toLoadRect (View.loadsAt_vmem h_S3x128)) fun _ =>
  .op (.store arg7 (rC hg) (codesX (extractStridedSlice S3x128 ![0, 128 * g] n (slicesG hg))) Finset.univ (View.stores_vmem h_S3x128 (harg7.storeExact_slice_tiles rfl _ (packedC ⟨g, hg⟩)) (fun _ => rfl)) (.inl rfl)) fun _ =>
  .op (.load arg8 (rT hg).toLoadRect (View.loadsAt_vmem h_S3x1)) fun _ =>
  .op (.store arg8 (rT hg) (scaleX (extractStridedSlice S3x128 ![0, 128 * g] n (slicesG hg))) Finset.univ (View.stores_vmem_bits_univ h_S3x1 rfl) (.inl rfl)) fun _ =>
  .op (.load arg11 (rL3 hs hh).toLoadRect (View.loadsAt_vmem h_S1x3x128)) fun _ =>
  .op (.load arg11 (rL hs hh).toLoadRect (View.loadsAt_vmem h_S1x4x128)) fun old : Vec F S1x4x128 .bf16 =>
  .op (.store arg11 (rL hs hh) (updateSlice old (backX (extractStridedSlice S3x128 ![0, 128 * g] n (slicesG hg))) ![0, 0, 0] slices_S1x4x128_S1x3x128_0_0_0) Finset.univ (View.stores_vmem h_S1x4x128 (harg11.storeExact_slice rfl _ (packedL ⟨s, hs⟩ ⟨h, hh⟩)) (fun _ => rfl)) (.inl rfl)) fun _ =>
  K

/-- The last `n` activation groups. -/
def groups (n : FVec F S3x2304 .f32) (K : P (F := F) PUnit) : (k : ℕ) → k ≤ 18 → P (F := F) PUnit
  | 0, _ => K
  | k + 1, h => group arg7 harg7 arg8 arg11 harg11 n (g := 17 - k) (s := (17 - k) / 2) (h := (17 - k) % 2) (by omega) (by omega) (by omega)
      (groups n K k (by omega))

/-- The first step's prologue. -/
def prologue (K : P (F := F) PUnit) : P (F := F) PUnit :=
  .op (.load arg1 (Rect.unit (s := S3x2304) ![0, 0] S3x2304.size inb_S3x2304_S3x2304_0_0).toLoadRect (View.loadsAt_vmem h_S3x2304)) fun x : Vec F S3x2304 .bf16 =>
  .op (.load arg2 (Rect.unit (s := S3x2304) ![0, 0] S3x2304.size inb_S3x2304_S3x2304_0_0).toLoadRect (View.loadsAt_vmem h_S3x2304)) fun r : Vec F S3x2304 .bf16 =>
  .op (.load arg6 (Rect.unit (s := S3x2304) ![0, 0] S3x2304.size inb_S3x2304_S3x2304_0_0).toLoadRect (View.loadsAt_vmem h_S3x2304)) fun _ =>
  .op (.store arg6 (Rect.unit (s := S3x2304) ![0, 0] S3x2304.size inb_S3x2304_S3x2304_0_0) (resid x r) Finset.univ (View.stores_vmem h_S3x2304 (harg6.storeExact_slice rfl _ packedbf16_S3x2304_S3x2304_0_0) (fun _ => rfl)) (.inl rfl)) fun _ =>
  .op (.load arg3 (Rect.unit (s := S1x2304) ![0, 0] S1x2304.size inb_S1x2304_S1x2304_0_0).toLoadRect (View.loadsAt_vmem h_S1x2304)) fun g : Vec F S1x2304 .f32 =>
  .op (.load arg11 (Rect.unit (s := S9x16x256) ![0, 0, 0] S9x16x256.size inb_S9x16x256_S9x16x256_0_0_0).toLoadRect (View.loadsAt_vmem h_S9x16x256)) fun _ =>
  .op (.store arg11 (Rect.unit (s := S9x16x256) ![0, 0, 0] S9x16x256.size inb_S9x16x256_S9x16x256_0_0_0) (shapeCast S9x16x256 (broadcast S9x16x256 (Scalar.ofBits .bf16 0x0000#16)) shapeCasts_S9x16x256_S9x16x256) Finset.univ (View.stores_vmem h_S9x16x256 (harg11.storeExact_slice rfl _ packedbf16_S9x16x256_S9x16x256_0_0_0) (fun _ => rfl)) (.inl rfl)) fun _ =>
  .op (.load arg12 (Rect.unit (s := S8x9216) ![0, 0] S8x9216.size inb_S8x9216_S8x9216_0_0).toLoadRect (View.loadsAt_vmem h_S8x9216)) fun _ =>
  .op (.store arg12 (Rect.unit (s := S8x9216) ![0, 0] S8x9216.size inb_S8x9216_S8x9216_0_0) (shapeCast S8x9216 (broadcast S8x9216 (Scalar.ofBits .f32 0x00000000#32)) shapeCasts_S8x9216_S8x9216) Finset.univ (View.stores_vmem_bits_univ h_S8x9216 rfl) (.inl rfl)) fun _ =>
  groups arg7 harg7 arg8 arg11 harg11 (normed (resid x r) g) K 18 le_rfl

/-- The body, rolled up. -/
def body : P (F := F) PUnit :=
  if k0_h1 : k0_cond1 i = 1#1 then
    prologue arg1 arg2 arg3 arg6 harg6 arg7 harg7 arg8 arg11 harg11 arg12
      (step i arg4 arg5 harg5 arg9 harg9 arg10 arg11 arg12)
  else step i arg4 arg5 harg5 arg9 harg9 arg10 arg11 arg12

set_option maxHeartbeats 0 in
/-- The printed body is the rolled one. -/
theorem body_eq :
    cc0_prenorm_requant_linear (F := F) i arg1 harg1 arg2 harg2 arg3 harg3 arg4 harg4 arg5 harg5 arg6 harg6 arg7 harg7 arg8 harg8 arg9 harg9 arg10 harg10 arg11 harg11 arg12 harg12
      = body i arg1 arg2 arg3 arg4 arg5 harg5 arg6 harg6 arg7 harg7 arg8 arg9 harg9 arg10 arg11 harg11 arg12 := by
  unfold body step finish
  by_cases h1 : k0_cond1 i = 1#1 <;> by_cases h2 : k0_cond2 i = 1#1
  all_goals first | rw [dif_pos h1] | rw [dif_neg h1]
  all_goals first | rw [dif_pos h2] | rw [dif_neg h2]
  · simp only [cc0_prenorm_requant_linear, k0_part252, k0_part27, dif_pos h1, dif_pos h2]; rfl
  · simp only [cc0_prenorm_requant_linear, k0_part252, k0_part27, dif_pos h1, dif_neg h2]; rfl
  · simp only [cc0_prenorm_requant_linear, k0_part252, k0_part27, dif_neg h1, dif_pos h2]; rfl
  · simp only [cc0_prenorm_requant_linear, k0_part252, k0_part27, dif_neg h1, dif_neg h2]; rfl

end

end Cert.Kernel.Rolled
-- ==== Proof.Kernel.Triple.lean ====
/- What the rolled-up body does to the buffers it works on: each piece as a rule about whole buffers at known contents. -/
module

public import proofs.«01_k».proof.Proof.Kernel.Rolled
public import proofs.«01_k».proof.Proof.Gen.Kernel.Frame
public import Idealize.ShloMosaic.Lib.VecWindow

@[expose] public section

set_option maxRecDepth 65536

noncomputable section

namespace Cert.Kernel.Rolled

open Cert.Kernel Cert.Kernel.Gen
open Idealize.ShloMosaic Idealize.ShloMosaic.TcCoe
open Idealize.SL
open Idealize.SL.BI (sProp)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (UR sig nD τ) ℕ

/-- A core running this kernel's program: from `X` the program `p` runs to the end, and then `Q` holds. -/
abbrev Wp (c : Dev nD) (p : P (F := F) PUnit) (Q : PUnit.{1} → sProp 𝕄) : sProp 𝕄 :=
  wp frame (wpE (defs₀ (F := F)) Variants.none (c : Thread nD τ) none) Set.univ p Q

/-- The contents `X` with `w` over a rectangle of step one. -/
abbrev upd {s : Shape} {e : EltTy} (X : s.Idx → Elt F e) {off size : Fin s.rank → ℕ} (inb : ∀ a, off a + size a ≤ s.size a)
    (w : (Rect.unit off size inb).shape.Idx → Elt F e) : s.Idx → Elt F e :=
  VecWindow.put X off size w

variable (c : Dev nD)

section
variable {s : Shape} {e : EltTy} (m : Memref sig .tc .vmem s e)

/-- A load from a whole buffer. -/
theorem own_load (Q : PUnit.{1} → sProp 𝕄) (hm : m.IsWhole) (X : s.Idx → Elt F e) (r : Rect s) (hl : m.view.LoadsAt r.toLoadRect)
    (k : (r.shape.Idx → Elt F e) → P (F := F) PUnit) :
    owns (c : Thread nD τ) m fullShare X
      ⊢ iprop((owns (c : Thread nD τ) m fullShare X -∗ Wp c (k (View.ld (Val := Elt F) X r)) Q)
        -∗ Wp c (.op (.load m r.toLoadRect hl) k) Q) := by
  have hS : m.view.setOn r.toLoadRect.set ⊆ m.view.set := by rw [hm.set_eq_univ]; exact Finset.subset_univ _
  unfold owns
  iintro ⟨%f, %hf, H⟩ HK
  subst hf
  iapply (wp_load (𝒱 := Variants.none) (c := (c : Thread nD τ)) (bd := none) (E := Set.univ) (m := m) (r := r.toLoadRect) (hl := hl) (S := m.view.set) hS) $$ H
  iintro H
  iapply HK
  iexists f
  isplitr
  · ipureintro; rfl
  · iexact H

/-- A store over a rectangle of a whole buffer. -/
theorem own_store (Q : PUnit.{1} → sProp 𝕄) (hm : m.IsWhole) (X : s.Idx → Elt F e) {off size : Fin s.rank → ℕ} (inb : ∀ a, off a + size a ≤ s.size a)
    (w : (Rect.unit off size inb).shape.Idx → Elt F e) (hx : (m.access (Rect.unit off size inb)).Stores Finset.univ) (hu)
    (k : PUnit.{1} → P (F := F) PUnit) :
    owns (c : Thread nD τ) m fullShare X
      ⊢ iprop((owns (c : Thread nD τ) m fullShare (upd X inb w) -∗ Wp c (k ⟨⟩) Q)
        -∗ Wp c (.op (.store m (Rect.unit off size inb) w Finset.univ hx hu) k) Q) := by
  have hS : (m.access (Rect.unit off size inb)).setOn Finset.univ ⊆ m.view.set := by rw [hm.set_eq_univ]; exact Finset.subset_univ _
  unfold owns
  iintro ⟨%f, %hf, H⟩ HK
  subst hf
  iapply (wp_store (𝒱 := Variants.none) (c := (c : Thread nD τ)) (bd := none) (E := Set.univ) (m := m) (r := Rect.unit off size inb) (w := w) (Mk := Finset.univ) (hx := hx) (S := m.view.set) hS) $$ H
  iintro H
  iapply HK
  iexists ((m.access (Rect.unit off size inb)).write (Elt F) f w Finset.univ)
  isplitr
  · ipureintro
    exact View.read_writes_cons_put m.view f inb w [] rfl
  · iexact H

end

/-! ## What the pieces leave -/

section
variable (W : S256x9216.Idx → Elt F .bf16)

/-- A weight block's scale. -/
abbrev sc {b q : ℕ} (hb : b < 2) (hq : q < 72) : FVec F S1x1 .f32 := scaleW (View.ld (Val := Elt F) W (rW hb hq))
/-- The codes with one block's put in. -/
abbrev blockC {b q : ℕ} (hb : b < 2) (hq : q < 72) (C : S256x9216.Idx → Elt F .fp8e4m3) : S256x9216.Idx → Elt F .fp8e4m3 :=
  upd C (inbW hb hq) (codesW (View.ld (Val := Elt F) W (rW hb hq)))
/-- The scales with one block's put in. -/
abbrev blockS {b q : ℕ} (hb : b < 2) (hq : q < 72) (S : S1x2x72.Idx → Elt F .f32) : S1x2x72.Idx → Elt F .f32 :=
  upd S (inbS hb hq) (shapeCast S1x1x1 (sc W hb hq) shapeCasts_S1x1_S1x1x1)

/-- The codes after a chunk. -/
abbrev chunkC {c : ℕ} (hc : c < 36) (C : S256x9216.Idx → Elt F .fp8e4m3) : S256x9216.Idx → Elt F .fp8e4m3 :=
  blockC W (b := 1) (q := 2 * c + 1) (by omega) (by omega) (blockC W (b := 1) (q := 2 * c) (by omega) (by omega)
    (blockC W (b := 0) (q := 2 * c + 1) (by omega) (by omega) (blockC W (b := 0) (q := 2 * c) (by omega) (by omega) C)))
/-- The scales after a chunk. -/
abbrev chunkS {c : ℕ} (hc : c < 36) (S : S1x2x72.Idx → Elt F .f32) : S1x2x72.Idx → Elt F .f32 :=
  blockS W (b := 1) (q := 2 * c + 1) (by omega) (by omega) (blockS W (b := 1) (q := 2 * c) (by omega) (by omega)
    (blockS W (b := 0) (q := 2 * c + 1) (by omega) (by omega) (blockS W (b := 0) (q := 2 * c) (by omega) (by omega) S)))
/-- The accumulator after a chunk whose codes are then `C`. -/
abbrev chunkA (x : FVec F S16x256 .bf16) {c : ℕ} (hc : c < 36) (C : S256x9216.Idx → Elt F .fp8e4m3) (A : S8x9216.Idx → Elt F .f32) :
    S8x9216.Idx → Elt F .f32 :=
  upd A (inbA hc) (accStep x (View.ld (Val := Elt F) C (rP hc)) (View.ld (Val := Elt F) A (rA hc))
    (sc W (b := 0) (q := 2 * c) (by omega) (by omega)) (sc W (b := 0) (q := 2 * c + 1) (by omega) (by omega))
    (sc W (b := 1) (q := 2 * c) (by omega) (by omega)) (sc W (b := 1) (q := 2 * c + 1) (by omega) (by omega)))

/-- The codes after the last `n` chunks. -/
def chunksC : (n : ℕ) → n ≤ 36 → (S256x9216.Idx → Elt F .fp8e4m3) → S256x9216.Idx → Elt F .fp8e4m3
  | 0, _, C => C
  | n + 1, h, C => chunksC n (by omega) (chunkC W (c := 35 - n) (by omega) C)
/-- The scales after the last `n` chunks. -/
def chunksS : (n : ℕ) → n ≤ 36 → (S1x2x72.Idx → Elt F .f32) → S1x2x72.Idx → Elt F .f32
  | 0, _, S => S
  | n + 1, h, S => chunksS n (by omega) (chunkS W (c := 35 - n) (by omega) S)
/-- The accumulator after the last `n` chunks, from codes `C`. -/
def chunksA (x : FVec F S16x256 .bf16) : (n : ℕ) → n ≤ 36 → (S256x9216.Idx → Elt F .fp8e4m3) → (S8x9216.Idx → Elt F .f32) →
    S8x9216.Idx → Elt F .f32
  | 0, _, C, A => A
  | n + 1, h, C, A => chunksA x n (by omega) (chunkC W (c := 35 - n) (by omega) C)
      (chunkA W x (c := 35 - n) (by omega) (chunkC W (c := 35 - n) (by omega) C) A)

end

section
variable (arg4 : Memref sig .tc .vmem S256x9216 .bf16) (harg4 : arg4.IsWhole)
  (arg9 : Memref sig .tc .vmem S256x9216 .fp8e4m3) (harg9 : arg9.IsWhole)
  (arg10 : Memref sig .tc .vmem S1x2x72 .f32) (harg10 : arg10.IsWhole)
  (arg12 : Memref sig .tc .vmem S8x9216 .f32) (harg12 : arg12.IsWhole)
  (W : S256x9216.Idx → Elt F .bf16)

include harg4 harg10 in
/-- One weight block. -/
theorem block_wp (Q : PUnit.{1} → sProp 𝕄) {b q : ℕ} (hb : b < 2) (hq : q < 72) (K : FVec F S1x1 .f32 → P (F := F) PUnit)
    (C : S256x9216.Idx → Elt F .fp8e4m3) (S : S1x2x72.Idx → Elt F .f32) :
    iprop(owns (c : Thread nD τ) arg4 fullShare W ∗ owns (c : Thread nD τ) arg9 fullShare C ∗ owns (c : Thread nD τ) arg10 fullShare S)
      ⊢ iprop((owns (c : Thread nD τ) arg4 fullShare W -∗ owns (c : Thread nD τ) arg9 fullShare (blockC W hb hq C)
          -∗ owns (c : Thread nD τ) arg10 fullShare (blockS W hb hq S) -∗ Wp c (K (sc W hb hq)) Q)
        -∗ Wp c (block arg4 arg9 harg9 arg10 hb hq K) Q) := by
  unfold block
  iintro ⟨H4, H9, H10⟩ HK
  iapply (own_load c arg4 Q harg4 W (rW hb hq)) $$ H4; iintro H4
  iapply (own_load c arg9 Q harg9 C (rW hb hq)) $$ H9; iintro H9
  iapply (own_store c arg9 Q harg9 C (inbW hb hq)) $$ H9; iintro H9
  iapply (own_load c arg10 Q harg10 S (rS hb hq)) $$ H10; iintro H10
  iapply (own_store c arg10 Q harg10 S (inbS hb hq)) $$ H10; iintro H10
  iapply HK $$ H4 H9 H10

include harg4 harg10 harg12 in
/-- One chunk. -/
theorem chunk_wp (Q : PUnit.{1} → sProp 𝕄) (x : FVec F S16x256 .bf16) {n : ℕ} (hc : n < 36) (K : P (F := F) PUnit)
    (C : S256x9216.Idx → Elt F .fp8e4m3) (S : S1x2x72.Idx → Elt F .f32) (A : S8x9216.Idx → Elt F .f32) :
    iprop(owns (c : Thread nD τ) arg4 fullShare W ∗ owns (c : Thread nD τ) arg9 fullShare C ∗ owns (c : Thread nD τ) arg10 fullShare S
        ∗ owns (c : Thread nD τ) arg12 fullShare A)
      ⊢ iprop((owns (c : Thread nD τ) arg4 fullShare W -∗ owns (c : Thread nD τ) arg9 fullShare (chunkC W hc C)
          -∗ owns (c : Thread nD τ) arg10 fullShare (chunkS W hc S) -∗ owns (c : Thread nD τ) arg12 fullShare (chunkA W x hc (chunkC W hc C) A) -∗ Wp c K Q)
        -∗ Wp c (chunk arg4 arg9 harg9 arg10 arg12 x hc K) Q) := by
  unfold chunk
  iintro ⟨H4, H9, H10, H12⟩ HK
  iapply (block_wp c arg4 harg4 arg9 harg9 arg10 harg10 W Q) $$ [H4 H9 H10]
  · iframe
  iintro H4 H9 H10
  iapply (block_wp c arg4 harg4 arg9 harg9 arg10 harg10 W Q) $$ [H4 H9 H10]
  · iframe
  iintro H4 H9 H10
  iapply (block_wp c arg4 harg4 arg9 harg9 arg10 harg10 W Q) $$ [H4 H9 H10]
  · iframe
  iintro H4 H9 H10
  iapply (block_wp c arg4 harg4 arg9 harg9 arg10 harg10 W Q) $$ [H4 H9 H10]
  · iframe
  iintro H4 H9 H10
  iapply (own_load c arg9 Q harg9 _ (rP hc)) $$ H9; iintro H9
  iapply (own_load c arg12 Q harg12 A (rA hc)) $$ H12; iintro H12
  iapply (own_load c arg12 Q harg12 A (rA hc)) $$ H12; iintro H12
  iapply (own_store c arg12 Q harg12 A (inbA hc)) $$ H12; iintro H12
  iapply HK $$ H4 H9 H10 H12

include harg4 harg10 harg12 in
/-- The chunks. -/
theorem chunks_wp (Q : PUnit.{1} → sProp 𝕄) (x : FVec F S16x256 .bf16) (K : P (F := F) PUnit) : ∀ (n : ℕ) (h : n ≤ 36)
    (C : S256x9216.Idx → Elt F .fp8e4m3) (S : S1x2x72.Idx → Elt F .f32) (A : S8x9216.Idx → Elt F .f32),
    iprop(owns (c : Thread nD τ) arg4 fullShare W ∗ owns (c : Thread nD τ) arg9 fullShare C ∗ owns (c : Thread nD τ) arg10 fullShare S
        ∗ owns (c : Thread nD τ) arg12 fullShare A)
      ⊢ iprop((owns (c : Thread nD τ) arg4 fullShare W -∗ owns (c : Thread nD τ) arg9 fullShare (chunksC W n h C)
          -∗ owns (c : Thread nD τ) arg10 fullShare (chunksS W n h S) -∗ owns (c : Thread nD τ) arg12 fullShare (chunksA W x n h C A) -∗ Wp c K Q)
        -∗ Wp c (chunks arg4 arg9 harg9 arg10 arg12 x K n h) Q)
  | 0, h, C, S, A => by
    unfold chunks chunksC chunksS chunksA
    iintro ⟨H4, H9, H10, H12⟩ HK
    iapply HK $$ H4 H9 H10 H12
  | n + 1, h, C, S, A => by
    unfold chunks chunksC chunksS chunksA
    iintro H HK
    iapply (chunk_wp c arg4 harg4 arg9 harg9 arg10 harg10 arg12 harg12 W Q x) $$ H
    iintro H4 H9 H10 H12
    iapply (chunks_wp Q x K n _) $$ [H4 H9 H10 H12]
    · iframe
    iexact HK

end

/-! ## The prologue -/

section
variable (n : FVec F S3x2304 .f32)

/-- An activation group. -/
abbrev grp {g : ℕ} (hg : g < 18) : FVec F S3x128 .f32 := extractStridedSlice S3x128 ![0, 128 * g] n (slicesG hg)
/-- The activation codes with one group's put in. -/
abbrev groupC {g : ℕ} (hg : g < 18) (C : S3x2304.Idx → Elt F .fp8e4m3) : S3x2304.Idx → Elt F .fp8e4m3 :=
  upd C (inbC hg) (codesX (grp n hg))
/-- The activation scales with one group's put in. -/
abbrev groupT {g : ℕ} (hg : g < 18) (T : S3x18.Idx → Elt F .f32) : S3x18.Idx → Elt F .f32 :=
  upd T (inbT hg) (scaleX (grp n hg))
/-- The matmul's rows with one group's put in. -/
abbrev groupL {g s h : ℕ} (hg : g < 18) (hs : s < 9) (hh : h < 2) (L : S9x16x256.Idx → Elt F .bf16) : S9x16x256.Idx → Elt F .bf16 :=
  upd L (inbL hs hh) (updateSlice (View.ld (Val := Elt F) L (rL hs hh)) (backX (grp n hg)) ![0, 0, 0] slices_S1x4x128_S1x3x128_0_0_0)

/-- The activation codes after the last `k` groups. -/
def groupsC : (k : ℕ) → k ≤ 18 → (S3x2304.Idx → Elt F .fp8e4m3) → S3x2304.Idx → Elt F .fp8e4m3
  | 0, _, C => C
  | k + 1, h, C => groupsC k (by omega) (groupC n (g := 17 - k) (by omega) C)
/-- The activation scales after the last `k` groups. -/
def groupsT : (k : ℕ) → k ≤ 18 → (S3x18.Idx → Elt F .f32) → S3x18.Idx → Elt F .f32
  | 0, _, T => T
  | k + 1, h, T => groupsT k (by omega) (groupT n (g := 17 - k) (by omega) T)
/-- The matmul's rows after the last `k` groups. -/
def groupsL : (k : ℕ) → k ≤ 18 → (S9x16x256.Idx → Elt F .bf16) → S9x16x256.Idx → Elt F .bf16
  | 0, _, L => L
  | k + 1, h, L => groupsL k (by omega)
      (groupL n (g := 17 - k) (s := (17 - k) / 2) (h := (17 - k) % 2) (by omega) (by omega) (by omega) L)

end

section
variable (arg7 : Memref sig .tc .vmem S3x2304 .fp8e4m3) (harg7 : arg7.IsWhole)
  (arg8 : Memref sig .tc .vmem S3x18 .f32) (harg8 : arg8.IsWhole)
  (arg11 : Memref sig .tc .vmem S9x16x256 .bf16) (harg11 : arg11.IsWhole)
  (N : FVec F S3x2304 .f32)

include harg8 in
/-- One group. -/
theorem group_wp (Q : PUnit.{1} → sProp 𝕄) {g s h : ℕ} (hg : g < 18) (hs : s < 9) (hh : h < 2) (K : P (F := F) PUnit)
    (C : S3x2304.Idx → Elt F .fp8e4m3) (T : S3x18.Idx → Elt F .f32) (L : S9x16x256.Idx → Elt F .bf16) :
    iprop(owns (c : Thread nD τ) arg7 fullShare C ∗ owns (c : Thread nD τ) arg8 fullShare T ∗ owns (c : Thread nD τ) arg11 fullShare L)
      ⊢ iprop((owns (c : Thread nD τ) arg7 fullShare (groupC N hg C) -∗ owns (c : Thread nD τ) arg8 fullShare (groupT N hg T)
          -∗ owns (c : Thread nD τ) arg11 fullShare (groupL N hg hs hh L) -∗ Wp c K Q)
        -∗ Wp c (group arg7 harg7 arg8 arg11 harg11 N hg hs hh K) Q) := by
  unfold group
  iintro ⟨H7, H8, H11⟩ HK
  iapply (own_load c arg7 Q harg7 C (rC hg)) $$ H7; iintro H7
  iapply (own_store c arg7 Q harg7 C (inbC hg)) $$ H7; iintro H7
  iapply (own_load c arg8 Q harg8 T (rT hg)) $$ H8; iintro H8
  iapply (own_store c arg8 Q harg8 T (inbT hg)) $$ H8; iintro H8
  iapply (own_load c arg11 Q harg11 L (rL3 hs hh)) $$ H11; iintro H11
  iapply (own_load c arg11 Q harg11 L (rL hs hh)) $$ H11; iintro H11
  iapply (own_store c arg11 Q harg11 L (inbL hs hh)) $$ H11; iintro H11
  iapply HK $$ H7 H8 H11

include harg8 in
/-- The groups. -/
theorem groups_wp (Q : PUnit.{1} → sProp 𝕄) (K : P (F := F) PUnit) : ∀ (k : ℕ) (h : k ≤ 18)
    (C : S3x2304.Idx → Elt F .fp8e4m3) (T : S3x18.Idx → Elt F .f32) (L : S9x16x256.Idx → Elt F .bf16),
    iprop(owns (c : Thread nD τ) arg7 fullShare C ∗ owns (c : Thread nD τ) arg8 fullShare T ∗ owns (c : Thread nD τ) arg11 fullShare L)
      ⊢ iprop((owns (c : Thread nD τ) arg7 fullShare (groupsC N k h C) -∗ owns (c : Thread nD τ) arg8 fullShare (groupsT N k h T)
          -∗ owns (c : Thread nD τ) arg11 fullShare (groupsL N k h L) -∗ Wp c K Q)
        -∗ Wp c (groups arg7 harg7 arg8 arg11 harg11 N K k h) Q)
  | 0, h, C, T, L => by
    unfold groups groupsC groupsT groupsL
    iintro ⟨H7, H8, H11⟩ HK
    iapply HK $$ H7 H8 H11
  | k + 1, h, C, T, L => by
    unfold groups groupsC groupsT groupsL
    iintro H HK
    iapply (group_wp c arg7 harg7 arg8 harg8 arg11 harg11 N Q) $$ H
    iintro H7 H8 H11
    iapply (groups_wp Q K k _) $$ [H7 H8 H11]
    · iframe
    iexact HK

end

end Cert.Kernel.Rolled
-- ==== Proof.Kernel.Closed.lean ====
/- What a whole step leaves, entry by entry: each buffer's contents after all the chunks and all the groups, which do not
   depend on what the buffer held before. -/
module

public import proofs.«01_k».proof.Proof.Kernel.Triple
public import Idealize.ShloMosaic.Lib.Pointwise.Index

@[expose] public section

set_option maxRecDepth 65536

noncomputable section

namespace Cert.Kernel.Rolled

open Cert.Kernel Cert.Kernel.Gen
open Idealize.ShloMosaic Idealize.ShloMosaic.TcCoe

variable {F : FTy → Type} [FloatOps F]

/-! ## A rectangle put over contents, read at an index -/

section
variable {s : Shape} {α : Type} (X : s.Idx → α) (off size : Fin s.rank → ℕ) (w : ((a : Fin s.rank) → Fin (size a)) → α) (y : s.Idx)

theorem put_at (z : (a : Fin s.rank) → Fin (size a)) (hz : ∀ a, (y a).val = off a + (z a).val) :
    VecWindow.put X off size w y = w z := by
  unfold VecWindow.put
  rw [dif_pos (fun a => by have := (z a).isLt; have := hz a; omega)]
  exact congrArg w (funext fun a => Fin.ext (by simp [hz a]))

theorem put_off (a : Fin s.rank) (ha : (y a).val < off a ∨ off a + size a ≤ (y a).val) :
    VecWindow.put X off size w y = X y := by
  unfold VecWindow.put
  rw [dif_neg (fun h => by have := h a; omega)]

end

/-! ## The chunks -/

section
variable (W : S256x9216.Idx → Elt F .bf16)

theorem lt0 (y : S256x9216.Idx) : (y 0).val < 256 := (y 0).isLt
theorem lt1 (y : S256x9216.Idx) : (y 1).val < 9216 := (y 1).isLt

/-- Every weight code. -/
def codesAll : S256x9216.Idx → Elt F .fp8e4m3 := fun y =>
  codesW (View.ld (Val := Elt F) W (rW (b := (y 0).val / 128) (q := (y 1).val / 128) (by have := lt0 y; omega) (by have := lt1 y; omega)))
    (ix2 (n0 := 128) (n1 := 128) ⟨(y 0).val % 128, by omega⟩ ⟨(y 1).val % 128, by omega⟩)

theorem blockC_at (C : S256x9216.Idx → Elt F .fp8e4m3) (y : S256x9216.Idx) {b q : ℕ} (hb : b < 2) (hq : q < 72)
    (h0 : (y 0).val / 128 = b) (h1 : (y 1).val / 128 = q) : blockC W hb hq C y = codesAll W y := by
  subst h0 h1
  exact put_at C _ _ _ y (ix2 (n0 := 128) (n1 := 128) ⟨(y 0).val % 128, by omega⟩ ⟨(y 1).val % 128, by omega⟩) fun a => by
    fin_cases a
    · show (y 0).val = 128 * ((y 0).val / 128) + (y 0).val % 128; omega
    · show (y 1).val = 128 * ((y 1).val / 128) + (y 1).val % 128; omega

theorem blockC_off (C : S256x9216.Idx → Elt F .fp8e4m3) (y : S256x9216.Idx) {b q : ℕ} (hb : b < 2) (hq : q < 72)
    (h : (y 0).val / 128 ≠ b ∨ (y 1).val / 128 ≠ q) : blockC W hb hq C y = C y := by
  rcases h with h | h
  · exact put_off C _ _ _ y 0 (by show (y 0).val < 128 * b ∨ 128 * b + 128 ≤ (y 0).val; omega)
  · exact put_off C _ _ _ y 1 (by show (y 1).val < 128 * q ∨ 128 * q + 128 ≤ (y 1).val; omega)

theorem chunkC_off (C : S256x9216.Idx → Elt F .fp8e4m3) (y : S256x9216.Idx) {c : ℕ} (hc : c < 36) (h : (y 1).val / 256 ≠ c) :
    chunkC W hc C y = C y := by
  exact (blockC_off W _ y _ _ (.inr (by omega))).trans ((blockC_off W _ y _ _ (.inr (by omega))).trans ((blockC_off W _ y _ _ (.inr (by omega))).trans (blockC_off W _ y _ _ (.inr (by omega)))))

theorem chunkC_at (C : S256x9216.Idx → Elt F .fp8e4m3) (y : S256x9216.Idx) {c : ℕ} (hc : c < 36) (h : (y 1).val / 256 = c) :
    chunkC W hc C y = codesAll W y := by
  have := lt0 y
  by_cases h0 : (y 0).val / 128 = 0 <;> by_cases h1 : (y 1).val / 128 = 2 * c
  · exact (blockC_off W _ y _ _ (.inl (by omega))).trans ((blockC_off W _ y _ _ (.inl (by omega))).trans ((blockC_off W _ y _ _ (.inr (by omega))).trans (blockC_at W _ y _ _ (by omega) (by omega))))
  · exact (blockC_off W _ y _ _ (.inl (by omega))).trans ((blockC_off W _ y _ _ (.inl (by omega))).trans (blockC_at W _ y _ _ (by omega) (by omega)))
  · exact (blockC_off W _ y _ _ (.inr (by omega))).trans (blockC_at W _ y _ _ (by omega) (by omega))
  · exact blockC_at W _ y _ _ (by omega) (by omega)

theorem chunksC_apply : ∀ (n : ℕ) (h : n ≤ 36) (C : S256x9216.Idx → Elt F .fp8e4m3) (y : S256x9216.Idx),
    chunksC W n h C y = if 36 - n ≤ (y 1).val / 256 then codesAll W y else C y
  | 0, h, C, y => by
    have := lt1 y
    rw [chunksC, if_neg (by omega)]
  | n + 1, h, C, y => by
    rw [chunksC, chunksC_apply n]
    by_cases h1 : 36 - n ≤ (y 1).val / 256
    · rw [if_pos h1, if_pos (by omega)]
    · rw [if_neg h1]
      by_cases h2 : (y 1).val / 256 = 35 - n
      · rw [if_pos (by omega), chunkC_at _ _ _ _ h2]
      · rw [if_neg (by omega), chunkC_off _ _ _ _ h2]

/-- The codes after the whole step. -/
theorem chunksC_all (C : S256x9216.Idx → Elt F .fp8e4m3) : chunksC W 36 le_rfl C = codesAll W :=
  funext fun y => by rw [chunksC_apply, if_pos (by omega)]

theorem lts1 (y : S1x2x72.Idx) : (y 1).val < 2 := (y 1).isLt
theorem lts2 (y : S1x2x72.Idx) : (y 2).val < 72 := (y 2).isLt

/-- Every weight scale. -/
def scalesAll : S1x2x72.Idx → Elt F .f32 := fun y =>
  shapeCast S1x1x1 (sc W (lts1 y) (lts2 y)) shapeCasts_S1x1_S1x1x1 (ix3 (n0 := 1) (n1 := 1) (n2 := 1) 0 0 0)

theorem blockS_at (S : S1x2x72.Idx → Elt F .f32) (y : S1x2x72.Idx) {b q : ℕ} (hb : b < 2) (hq : q < 72)
    (h0 : (y 1).val = b) (h1 : (y 2).val = q) : blockS W hb hq S y = scalesAll W y := by
  subst h0 h1
  exact put_at S _ _ _ y (ix3 (n0 := 1) (n1 := 1) (n2 := 1) 0 0 0) fun a => by
    fin_cases a
    · show (y 0).val = 0 + 0; have : (y 0).val < 1 := (y 0).isLt; omega
    · show (y 1).val = (y 1).val + 0; omega
    · show (y 2).val = (y 2).val + 0; omega

theorem blockS_off (S : S1x2x72.Idx → Elt F .f32) (y : S1x2x72.Idx) {b q : ℕ} (hb : b < 2) (hq : q < 72)
    (h : (y 1).val ≠ b ∨ (y 2).val ≠ q) : blockS W hb hq S y = S y := by
  rcases h with h | h
  · exact put_off S _ _ _ y 1 (by show (y 1).val < b ∨ b + 1 ≤ (y 1).val; omega)
  · exact put_off S _ _ _ y 2 (by show (y 2).val < q ∨ q + 1 ≤ (y 2).val; omega)

theorem chunkS_off (S : S1x2x72.Idx → Elt F .f32) (y : S1x2x72.Idx) {c : ℕ} (hc : c < 36) (h : (y 2).val / 2 ≠ c) :
    chunkS W hc S y = S y := by
  exact (blockS_off W _ y _ _ (.inr (by omega))).trans ((blockS_off W _ y _ _ (.inr (by omega))).trans ((blockS_off W _ y _ _ (.inr (by omega))).trans (blockS_off W _ y _ _ (.inr (by omega)))))

theorem chunkS_at (S : S1x2x72.Idx → Elt F .f32) (y : S1x2x72.Idx) {c : ℕ} (hc : c < 36) (h : (y 2).val / 2 = c) :
    chunkS W hc S y = scalesAll W y := by
  have := lts1 y
  by_cases h0 : (y 1).val = 0 <;> by_cases h1 : (y 2).val = 2 * c
  · exact (blockS_off W _ y _ _ (.inl (by omega))).trans ((blockS_off W _ y _ _ (.inl (by omega))).trans ((blockS_off W _ y _ _ (.inr (by omega))).trans (blockS_at W _ y _ _ (by omega) (by omega))))
  · exact (blockS_off W _ y _ _ (.inl (by omega))).trans ((blockS_off W _ y _ _ (.inl (by omega))).trans (blockS_at W _ y _ _ (by omega) (by omega)))
  · exact (blockS_off W _ y _ _ (.inr (by omega))).trans (blockS_at W _ y _ _ (by omega) (by omega))
  · exact blockS_at W _ y _ _ (by omega) (by omega)

theorem chunksS_apply : ∀ (n : ℕ) (h : n ≤ 36) (S : S1x2x72.Idx → Elt F .f32) (y : S1x2x72.Idx),
    chunksS W n h S y = if 36 - n ≤ (y 2).val / 2 then scalesAll W y else S y
  | 0, h, S, y => by
    have := lts2 y
    rw [chunksS, if_neg (by omega)]
  | n + 1, h, S, y => by
    rw [chunksS, chunksS_apply n]
    by_cases h1 : 36 - n ≤ (y 2).val / 2
    · rw [if_pos h1, if_pos (by omega)]
    · rw [if_neg h1]
      by_cases h2 : (y 2).val / 2 = 35 - n
      · rw [if_pos (by omega), chunkS_at _ _ _ _ h2]
      · rw [if_neg (by omega), chunkS_off _ _ _ _ h2]

/-- The scales after the whole step. -/
theorem chunksS_all (S : S1x2x72.Idx → Elt F .f32) : chunksS W 36 le_rfl S = scalesAll W :=
  funext fun y => by rw [chunksS_apply, if_pos (by omega)]

theorem lta1 (y : S8x9216.Idx) : (y 1).val < 9216 := (y 1).isLt

/-- One chunk's columns of the accumulator. -/
def accChunk (x : FVec F S16x256 .bf16) (A : S8x9216.Idx → Elt F .f32) {c : ℕ} (hc : c < 36) : FVec F S8x256 .f32 :=
  accStep x (View.ld (Val := Elt F) (codesAll W) (rP hc)) (View.ld (Val := Elt F) A (rA hc))
    (sc W (b := 0) (q := 2 * c) (by omega) (by omega)) (sc W (b := 0) (q := 2 * c + 1) (by omega) (by omega))
    (sc W (b := 1) (q := 2 * c) (by omega) (by omega)) (sc W (b := 1) (q := 2 * c + 1) (by omega) (by omega))

/-- The accumulator after a step that found it at `A`. -/
def accAll (x : FVec F S16x256 .bf16) (A : S8x9216.Idx → Elt F .f32) : S8x9216.Idx → Elt F .f32 := fun y =>
  accChunk W x A (c := (y 1).val / 256) (by have := lta1 y; omega)
    (ix2 (n0 := 8) (n1 := 256) (y 0) ⟨(y 1).val % 256, by omega⟩)

theorem panel (C : S256x9216.Idx → Elt F .fp8e4m3) {c : ℕ} (hc : c < 36) :
    View.ld (Val := Elt F) (chunkC W hc C) (rP hc) = View.ld (Val := Elt F) (codesAll W) (rP hc) :=
  funext fun z => chunkC_at W C _ hc (by
    have h : (((rP hc).idx z) 1).val = 256 * c + 1 * (z 1).val := rfl
    have hz : (z 1).val < 256 := (z 1).isLt
    rw [h]; omega)

theorem chunkA_off (x : FVec F S16x256 .bf16) (C : S256x9216.Idx → Elt F .fp8e4m3) (A : S8x9216.Idx → Elt F .f32) (y : S8x9216.Idx)
    {c : ℕ} (hc : c < 36) (h : (y 1).val / 256 ≠ c) : chunkA W x hc C A y = A y :=
  put_off A _ _ _ y 1 (by show (y 1).val < 256 * c ∨ 256 * c + 256 ≤ (y 1).val; omega)

theorem chunkA_at (x : FVec F S16x256 .bf16) (C : S256x9216.Idx → Elt F .fp8e4m3) (A : S8x9216.Idx → Elt F .f32) (y : S8x9216.Idx)
    {c : ℕ} (hc : c < 36) (h : (y 1).val / 256 = c) : chunkA W x hc (chunkC W hc C) A y = accAll W x A y := by
  subst h
  unfold chunkA
  rw [panel]
  exact put_at A _ _ _ y (ix2 (n0 := 8) (n1 := 256) (y 0) ⟨(y 1).val % 256, by omega⟩) fun a => by
    fin_cases a
    · show (y 0).val = 0 + (y 0).val; omega
    · show (y 1).val = 256 * ((y 1).val / 256) + (y 1).val % 256; omega

theorem accAll_chunkA (x : FVec F S16x256 .bf16) (C : S256x9216.Idx → Elt F .fp8e4m3) (A : S8x9216.Idx → Elt F .f32) (y : S8x9216.Idx)
    {c : ℕ} (hc : c < 36) (h : (y 1).val / 256 ≠ c) : accAll W x (chunkA W x hc C A) y = accAll W x A y := by
  have e : View.ld (Val := Elt F) (chunkA W x hc C A) (rA (c := (y 1).val / 256) (by have := lta1 y; omega))
      = View.ld (Val := Elt F) A (rA (c := (y 1).val / 256) (by have := lta1 y; omega)) :=
    funext fun z => chunkA_off W x C A _ hc (by
      have e : (((rA (c := (y 1).val / 256) (by have := lta1 y; omega)).idx z) 1).val = 256 * ((y 1).val / 256) + 1 * (z 1).val := rfl
      have hz : (z 1).val < 256 := (z 1).isLt
      rw [e]; omega)
  unfold accAll accChunk
  rw [e]

theorem chunksA_apply (x : FVec F S16x256 .bf16) : ∀ (n : ℕ) (h : n ≤ 36) (C : S256x9216.Idx → Elt F .fp8e4m3)
    (A : S8x9216.Idx → Elt F .f32) (y : S8x9216.Idx),
    chunksA W x n h C A y = if 36 - n ≤ (y 1).val / 256 then accAll W x A y else A y
  | 0, h, C, A, y => by
    have := lta1 y
    rw [chunksA, if_neg (by omega)]
  | n + 1, h, C, A, y => by
    rw [chunksA, chunksA_apply x n]
    by_cases h1 : 36 - n ≤ (y 1).val / 256
    · rw [if_pos h1, if_pos (by omega), accAll_chunkA _ _ _ _ _ _ (by omega)]
    · rw [if_neg h1]
      by_cases h2 : (y 1).val / 256 = 35 - n
      · rw [if_pos (by omega), chunkA_at _ _ _ _ _ _ h2]
      · rw [if_neg (by omega), chunkA_off _ _ _ _ _ _ h2]

/-- The accumulator after the whole step. -/
theorem chunksA_all (x : FVec F S16x256 .bf16) (C : S256x9216.Idx → Elt F .fp8e4m3) (A : S8x9216.Idx → Elt F .f32) :
    chunksA W x 36 le_rfl C A = accAll W x A :=
  funext fun y => by rw [chunksA_apply, if_pos (by omega)]

end

/-! ## The groups -/

section
variable (N : FVec F S3x2304 .f32)

theorem ltx1 (y : S3x2304.Idx) : (y 1).val < 2304 := (y 1).isLt
theorem ltt1 (y : S3x18.Idx) : (y 1).val < 18 := (y 1).isLt
theorem ltl0 (y : S9x16x256.Idx) : (y 0).val < 9 := (y 0).isLt
theorem ltl1 (y : S9x16x256.Idx) : (y 1).val < 16 := (y 1).isLt
theorem ltl2 (y : S9x16x256.Idx) : (y 2).val < 256 := (y 2).isLt

/-- Every activation code. -/
def actCodes : S3x2304.Idx → Elt F .fp8e4m3 := fun y =>
  codesX (grp N (g := (y 1).val / 128) (by have := ltx1 y; omega))
    (ix2 (n0 := 3) (n1 := 128) (y 0) ⟨(y 1).val % 128, by omega⟩)
/-- Every activation scale. -/
def actScales : S3x18.Idx → Elt F .f32 := fun y => scaleX (grp N (ltt1 y)) (ix2 (n0 := 3) (n1 := 1) (y 0) 0)

theorem groupsC_apply : ∀ (k : ℕ) (h : k ≤ 18) (C : S3x2304.Idx → Elt F .fp8e4m3) (y : S3x2304.Idx),
    groupsC N k h C y = if 18 - k ≤ (y 1).val / 128 then actCodes N y else C y
  | 0, h, C, y => by
    have := ltx1 y
    rw [groupsC, if_neg (by omega)]
  | k + 1, h, C, y => by
    rw [groupsC, groupsC_apply k]
    by_cases h1 : 18 - k ≤ (y 1).val / 128
    · rw [if_pos h1, if_pos (by omega)]
    · rw [if_neg h1]
      by_cases h2 : (y 1).val / 128 = 17 - k
      · rw [if_pos (by omega)]
        have e : ∀ (g : ℕ) (hg : g < 18), (y 1).val / 128 = g → groupC N hg C y = actCodes N y := by
          rintro g hg rfl
          exact put_at C _ _ _ y (ix2 (n0 := 3) (n1 := 128) (y 0) ⟨(y 1).val % 128, by omega⟩) fun a => by
            fin_cases a
            · show (y 0).val = 0 + (y 0).val; omega
            · show (y 1).val = 128 * ((y 1).val / 128) + (y 1).val % 128; omega
        exact e _ _ h2
      · rw [if_neg (by omega)]
        exact put_off C _ _ _ y 1 (by show (y 1).val < 128 * (17 - k) ∨ 128 * (17 - k) + 128 ≤ (y 1).val; omega)

/-- The activation codes after the groups. -/
theorem groupsC_all (C : S3x2304.Idx → Elt F .fp8e4m3) : groupsC N 18 le_rfl C = actCodes N :=
  funext fun y => by rw [groupsC_apply, if_pos (by omega)]

theorem groupsT_apply : ∀ (k : ℕ) (h : k ≤ 18) (T : S3x18.Idx → Elt F .f32) (y : S3x18.Idx),
    groupsT N k h T y = if 18 - k ≤ (y 1).val then actScales N y else T y
  | 0, h, T, y => by
    have := ltt1 y
    rw [groupsT, if_neg (by omega)]
  | k + 1, h, T, y => by
    rw [groupsT, groupsT_apply k]
    by_cases h1 : 18 - k ≤ (y 1).val
    · rw [if_pos h1, if_pos (by omega)]
    · rw [if_neg h1]
      by_cases h2 : (y 1).val = 17 - k
      · rw [if_pos (by omega)]
        have e : ∀ (g : ℕ) (hg : g < 18), (y 1).val = g → groupT N hg T y = actScales N y := by
          rintro g hg rfl
          exact put_at T _ _ _ y (ix2 (n0 := 3) (n1 := 1) (y 0) 0) fun a => by
            fin_cases a
            · show (y 0).val = 0 + (y 0).val; omega
            · show (y 1).val = (y 1).val + 0; omega
        exact e _ _ h2
      · rw [if_neg (by omega)]
        exact put_off T _ _ _ y 1 (by show (y 1).val < (17 - k) ∨ (17 - k) + 1 ≤ (y 1).val; omega)

/-- The activation scales after the groups. -/
theorem groupsT_all (T : S3x18.Idx → Elt F .f32) : groupsT N 18 le_rfl T = actScales N :=
  funext fun y => by rw [groupsT_apply, if_pos (by omega)]

/-- A number of the matmul's rows, where one is put. -/
def rowsAt (y : S9x16x256.Idx) : Elt F .bf16 :=
  backX (grp N (g := 2 * (y 0).val + (y 2).val / 128) (by have := ltl0 y; have := ltl2 y; omega))
    (ix3 (n0 := 1) (n1 := 3) (n2 := 128) 0 ⟨(y 1).val % 8 % 3, by omega⟩ ⟨(y 2).val % 128, by omega⟩)

theorem groupL_at (L : S9x16x256.Idx → Elt F .bf16) (y : S9x16x256.Idx) {g s h : ℕ} (hg : g < 18) (hs : s < 9) (hh : h < 2) (hgs : g = 2 * s + h)
    (h0 : (y 0).val = s) (h1 : (y 1).val / 8 = h) (h2 : (y 2).val / 128 = h) (h3 : (y 1).val % 8 < 3) :
    groupL N hg hs hh L y = rowsAt N y := by
  subst hgs h0 h2
  refine (put_at L _ _ _ y (ix3 (n0 := 1) (n1 := 4) (n2 := 128) 0 ⟨(y 1).val % 8, by omega⟩ ⟨(y 2).val % 128, by omega⟩) fun a => ?_).trans ?_
  · fin_cases a
    · show (y 0).val = (y 0).val + 0; omega
    · show (y 1).val = 8 * ((y 2).val / 128) + (y 1).val % 8; omega
    · show (y 2).val = 128 * ((y 2).val / 128) + (y 2).val % 128; omega
  · refine (congrFun (VecWindow.put_eq_updateSlice (s := S1x4x128) _ _ S1x3x128.size slices_S1x4x128_S1x3x128_0_0_0.2 _).symm _).trans ?_
    refine put_at (s := S1x4x128) _ _ _ _ _ (ix3 (n0 := 1) (n1 := 3) (n2 := 128) 0 ⟨(y 1).val % 8 % 3, by omega⟩ ⟨(y 2).val % 128, by omega⟩) fun a => ?_
    fin_cases a
    · rfl
    · show (y 1).val % 8 = 0 + (y 1).val % 8 % 3; omega
    · show (y 2).val % 128 = 0 + (y 2).val % 128; omega

theorem groupL_off (L : S9x16x256.Idx → Elt F .bf16) (y : S9x16x256.Idx) {g s h : ℕ} (hg : g < 18) (hs : s < 9) (hh : h < 2)
    (hy : (y 0).val ≠ s ∨ (y 1).val / 8 ≠ h ∨ (y 2).val / 128 ≠ h ∨ 3 ≤ (y 1).val % 8) :
    groupL N hg hs hh L y = L y := by
  by_cases h0 : (y 0).val = s
  swap
  · exact put_off L _ _ _ y 0 (by show (y 0).val < s ∨ s + 1 ≤ (y 0).val; omega)
  by_cases h2 : (y 2).val / 128 = h
  swap
  · exact put_off L _ _ _ y 2 (by show (y 2).val < 128 * h ∨ 128 * h + 128 ≤ (y 2).val; omega)
  by_cases h1 : 8 * h ≤ (y 1).val ∧ (y 1).val < 8 * h + 4
  swap
  · exact put_off L _ _ _ y 1 (by show (y 1).val < 8 * h ∨ 8 * h + 4 ≤ (y 1).val; omega)
  have h3 : 3 ≤ (y 1).val % 8 := by omega
  subst h0 h2
  refine (put_at L _ _ _ y (ix3 (n0 := 1) (n1 := 4) (n2 := 128) 0 ⟨(y 1).val % 8, by omega⟩ ⟨(y 2).val % 128, by omega⟩) fun a => ?_).trans ?_
  · fin_cases a
    · show (y 0).val = (y 0).val + 0; omega
    · show (y 1).val = 8 * ((y 2).val / 128) + (y 1).val % 8; omega
    · show (y 2).val = 128 * ((y 2).val / 128) + (y 2).val % 128; omega
  · refine (congrFun (VecWindow.put_eq_updateSlice (s := S1x4x128) _ _ S1x3x128.size slices_S1x4x128_S1x3x128_0_0_0.2 _).symm _).trans ?_
    refine (put_off _ _ _ _ _ 1 (Or.inr ?_)).trans ?_
    · show 0 + 3 ≤ (y 1).val % 8; omega
    · refine congrArg L (funext fun a => Fin.ext ?_)
      fin_cases a
      · show (y 0).val + 1 * 0 = (y 0).val; omega
      · show 8 * ((y 2).val / 128) + 1 * ((y 1).val % 8) = (y 1).val; omega
      · show 128 * ((y 2).val / 128) + 1 * ((y 2).val % 128) = (y 2).val; omega

theorem groupsL_apply : ∀ (k : ℕ) (h : k ≤ 18) (L : S9x16x256.Idx → Elt F .bf16) (y : S9x16x256.Idx),
    groupsL N k h L y = if 18 - k ≤ 2 * (y 0).val + (y 2).val / 128 ∧ (y 1).val / 8 = (y 2).val / 128 ∧ (y 1).val % 8 < 3
      then rowsAt N y else L y
  | 0, h, L, y => by
    have := ltl0 y; have := ltl2 y
    rw [groupsL, if_neg (by omega)]
  | k + 1, h, L, y => by
    have := ltl2 y
    rw [groupsL, groupsL_apply k]
    by_cases h1 : 18 - k ≤ 2 * (y 0).val + (y 2).val / 128 ∧ (y 1).val / 8 = (y 2).val / 128 ∧ (y 1).val % 8 < 3
    · rw [if_pos h1, if_pos (by omega)]
    · rw [if_neg h1]
      by_cases h2 : 2 * (y 0).val + (y 2).val / 128 = 17 - k ∧ (y 1).val / 8 = (y 2).val / 128 ∧ (y 1).val % 8 < 3
      · rw [if_pos (by omega), groupL_at _ _ _ _ _ _ (by omega) (by omega) (by omega) (by omega) (by omega)]
      · rw [if_neg (by omega), groupL_off _ _ _ _ _ _ (by omega)]

/-- The matmul's rows, put over contents `L`. -/
def rowsAll (L : S9x16x256.Idx → Elt F .bf16) : S9x16x256.Idx → Elt F .bf16 := fun y =>
  if (y 1).val / 8 = (y 2).val / 128 ∧ (y 1).val % 8 < 3 then rowsAt N y else L y

/-- The matmul's rows after the groups. -/
theorem groupsL_all (L : S9x16x256.Idx → Elt F .bf16) : groupsL N 18 le_rfl L = rowsAll N L :=
  funext fun y => by
    rw [groupsL_apply, rowsAll]
    by_cases h : (y 1).val / 8 = (y 2).val / 128 ∧ (y 1).val % 8 < 3
    · rw [if_pos h, if_pos ⟨by omega, h⟩]
    · rw [if_neg h, if_neg (fun h' => h h'.2)]

end

end Cert.Kernel.Rolled
-- ==== Proof.Kernel.Step.lean ====
/- The whole body, run: what a step leaves in every buffer, from what it finds there. -/
module

public import proofs.«01_k».proof.Proof.Kernel.Closed

@[expose] public section

set_option maxRecDepth 65536

noncomputable section

namespace Cert.Kernel.Rolled

open Cert.Kernel Cert.Kernel.Gen
open Idealize.ShloMosaic Idealize.ShloMosaic.TcCoe
open Idealize.SL
open Idealize.SL.BI (sProp)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (UR sig nD τ) ℕ

section
variable {s : Shape} {e : EltTy} (X : s.Idx → Elt F e) {off : Fin s.rank → ℕ} (inb : ∀ a, off a + s.size a ≤ s.size a)

/-- A load of the whole buffer reads the buffer. -/
theorem ld_full : View.ld (Val := Elt F) X (Rect.unit off s.size inb) = X :=
  funext fun y => congrArg X (funext fun a => Fin.ext (by
    show off a + 1 * (y a).val = (y a).val
    have := inb a; omega))

/-- A store over the whole buffer leaves the payload. -/
theorem upd_full (w : s.Idx → Elt F e) : upd X inb w = w :=
  funext fun y => put_at X off s.size w y y fun a => by have := inb a; omega

end

/-- The rows the matmul of step `i` takes, of all the steps' rows. -/
def rowsOf (i : grid0.Coords) (L : S9x16x256.Idx → Elt F .bf16) : FVec F S16x256 .bf16 :=
  shapeCast S16x256 (View.ld (Val := Elt F) L (Rect.unit (s := S9x16x256) (k0_off1 i) S1x16x256.size (k0_off1_inb i)))
    shapeCasts_S1x16x256_S16x256

/-- The result `y`, of the accumulator after the last step. -/
def yOf (A : S8x9216.Idx → Elt F .f32) : S3x9216.Idx → Elt F .bf16 :=
  truncf .bf16 (View.ld (Val := Elt F) A (Rect.unit (s := S8x9216) ![0, 0] S3x9216.size inb_S8x9216_S3x9216_0_0)) bitsLt_bf16_f32

/-- The matmul's rows before any group is put there. -/
def rows0 : S9x16x256.Idx → Elt F .bf16 :=
  shapeCast S9x16x256 (broadcast S9x16x256 (Scalar.ofBits .bf16 0x0000#16)) shapeCasts_S9x16x256_S9x16x256
/-- The accumulator before the first step. -/
def acc0 : S8x9216.Idx → Elt F .f32 :=
  shapeCast S8x9216 (broadcast S8x9216 (Scalar.ofBits .f32 0x00000000#32)) shapeCasts_S8x9216_S8x9216

variable (c : Dev nD)

section
variable (i : grid0.Coords) (arg1 : Memref sig .tc .vmem S3x2304 .bf16) (harg1 : arg1.IsWhole)
  (arg2 : Memref sig .tc .vmem S3x2304 .bf16) (harg2 : arg2.IsWhole) (arg3 : Memref sig .tc .vmem S1x2304 .f32) (harg3 : arg3.IsWhole)
  (arg4 : Memref sig .tc .vmem S256x9216 .bf16) (harg4 : arg4.IsWhole) (arg5 : Memref sig .tc .vmem S3x9216 .bf16) (harg5 : arg5.IsWhole)
  (arg6 : Memref sig .tc .vmem S3x2304 .bf16) (harg6 : arg6.IsWhole) (arg7 : Memref sig .tc .vmem S3x2304 .fp8e4m3) (harg7 : arg7.IsWhole)
  (arg8 : Memref sig .tc .vmem S3x18 .f32) (harg8 : arg8.IsWhole) (arg9 : Memref sig .tc .vmem S256x9216 .fp8e4m3) (harg9 : arg9.IsWhole)
  (arg10 : Memref sig .tc .vmem S1x2x72 .f32) (harg10 : arg10.IsWhole) (arg11 : Memref sig .tc .vmem S9x16x256 .bf16) (harg11 : arg11.IsWhole)
  (arg12 : Memref sig .tc .vmem S8x9216 .f32) (harg12 : arg12.IsWhole)

include harg12 in
/-- The last step's store. -/
theorem finish_wp_last (Q : PUnit.{1} → sProp 𝕄) (h2 : k0_cond2 i = 1#1) (Y : S3x9216.Idx → Elt F .bf16) (A : S8x9216.Idx → Elt F .f32) :
    iprop(owns (c : Thread nD τ) arg5 fullShare Y ∗ owns (c : Thread nD τ) arg12 fullShare A)
      ⊢ iprop((owns (c : Thread nD τ) arg5 fullShare (yOf A) -∗ owns (c : Thread nD τ) arg12 fullShare A -∗ Q ⟨⟩)
        -∗ Wp c (finish i arg5 harg5 arg12) Q) := by
  unfold finish yOf
  rw [dif_pos h2]
  iintro ⟨H5, H12⟩ HK
  iapply (own_load c arg12 Q harg12 A) $$ H12; iintro H12
  iapply (own_load c arg5 Q harg5 Y) $$ H5; iintro H5
  iapply (own_store c arg5 Q harg5 Y inb_S3x9216_S3x9216_0_0) $$ H5
  rw [upd_full]
  iintro H5
  iapply le_wp_ret
  iapply HK $$ H5 H12

/-- The other steps store nothing there. -/
theorem finish_wp_not (Q : PUnit.{1} → sProp 𝕄) (h2 : k0_cond2 i ≠ 1#1) : Q ⟨⟩ ⊢ Wp c (finish i arg5 harg5 arg12) Q := by
  unfold finish
  rw [dif_neg h2]
  exact le_wp_ret _ _ _ _ _

include harg4 harg10 harg11 harg12 in
/-- A step after its prologue, up to the last store. -/
theorem step_wp (Q : PUnit.{1} → sProp 𝕄) (W : S256x9216.Idx → Elt F .bf16) (C : S256x9216.Idx → Elt F .fp8e4m3)
    (S : S1x2x72.Idx → Elt F .f32) (L : S9x16x256.Idx → Elt F .bf16) (A : S8x9216.Idx → Elt F .f32) :
    iprop(owns (c : Thread nD τ) arg4 fullShare W ∗ owns (c : Thread nD τ) arg9 fullShare C ∗ owns (c : Thread nD τ) arg10 fullShare S
        ∗ owns (c : Thread nD τ) arg11 fullShare L ∗ owns (c : Thread nD τ) arg12 fullShare A)
      ⊢ iprop((owns (c : Thread nD τ) arg4 fullShare W -∗ owns (c : Thread nD τ) arg9 fullShare (codesAll W)
          -∗ owns (c : Thread nD τ) arg10 fullShare (scalesAll W) -∗ owns (c : Thread nD τ) arg11 fullShare L
          -∗ owns (c : Thread nD τ) arg12 fullShare (accAll W (rowsOf i L) A) -∗ Wp c (finish i arg5 harg5 arg12) Q)
        -∗ Wp c (step i arg4 arg5 harg5 arg9 harg9 arg10 arg11 arg12) Q) := by
  unfold step rowsOf
  iintro ⟨H4, H9, H10, H11, H12⟩ HK
  iapply (own_load c arg11 Q harg11 L) $$ H11; iintro H11
  iapply (chunks_wp c arg4 harg4 arg9 harg9 arg10 harg10 arg12 harg12 W Q) $$ [H4 H9 H10 H12]
  · iframe
  rw [chunksC_all, chunksS_all, chunksA_all]
  iintro H4 H9 H10 H12
  iapply HK $$ H4 H9 H10 H11 H12

include harg1 harg2 harg3 harg8 harg12 in
/-- The prologue. -/
theorem prologue_wp (Q : PUnit.{1} → sProp 𝕄) (K : P (F := F) PUnit) (x r : S3x2304.Idx → Elt F .bf16) (g : S1x2304.Idx → Elt F .f32)
    (O : S3x2304.Idx → Elt F .bf16) (C : S3x2304.Idx → Elt F .fp8e4m3) (T : S3x18.Idx → Elt F .f32) (L : S9x16x256.Idx → Elt F .bf16)
    (A : S8x9216.Idx → Elt F .f32) :
    iprop(owns (c : Thread nD τ) arg1 fullShare x ∗ owns (c : Thread nD τ) arg2 fullShare r ∗ owns (c : Thread nD τ) arg3 fullShare g
        ∗ owns (c : Thread nD τ) arg6 fullShare O ∗ owns (c : Thread nD τ) arg7 fullShare C ∗ owns (c : Thread nD τ) arg8 fullShare T
        ∗ owns (c : Thread nD τ) arg11 fullShare L ∗ owns (c : Thread nD τ) arg12 fullShare A)
      ⊢ iprop((owns (c : Thread nD τ) arg1 fullShare x -∗ owns (c : Thread nD τ) arg2 fullShare r -∗ owns (c : Thread nD τ) arg3 fullShare g
          -∗ owns (c : Thread nD τ) arg6 fullShare (resid x r) -∗ owns (c : Thread nD τ) arg7 fullShare (actCodes (normed (resid x r) g))
          -∗ owns (c : Thread nD τ) arg8 fullShare (actScales (normed (resid x r) g))
          -∗ owns (c : Thread nD τ) arg11 fullShare (rowsAll (normed (resid x r) g) rows0)
          -∗ owns (c : Thread nD τ) arg12 fullShare acc0 -∗ Wp c K Q)
        -∗ Wp c (prologue arg1 arg2 arg3 arg6 harg6 arg7 harg7 arg8 arg11 harg11 arg12 K) Q) := by
  unfold prologue rows0 acc0
  iintro ⟨H1, H2, H3, H6, H7, H8, H11, H12⟩ HK
  iapply (own_load c arg1 Q harg1 x) $$ H1; iintro H1
  iapply (own_load c arg2 Q harg2 r) $$ H2; iintro H2
  iapply (own_load c arg6 Q harg6 O) $$ H6; iintro H6
  rw [ld_full, ld_full]
  iapply (own_store c arg6 Q harg6 O inb_S3x2304_S3x2304_0_0) $$ H6
  rw [upd_full]
  iintro H6
  iapply (own_load c arg3 Q harg3 g) $$ H3; iintro H3
  rw [ld_full]
  iapply (own_load c arg11 Q harg11 L) $$ H11; iintro H11
  iapply (own_store c arg11 Q harg11 L inb_S9x16x256_S9x16x256_0_0_0) $$ H11
  rw [upd_full]
  iintro H11
  iapply (own_load c arg12 Q harg12 A) $$ H12; iintro H12
  iapply (own_store c arg12 Q harg12 A inb_S8x9216_S8x9216_0_0) $$ H12
  rw [upd_full]
  iintro H12
  iapply (groups_wp c arg7 harg7 arg8 harg8 arg11 harg11 (normed (resid x r) g) Q) $$ [H7 H8 H11]
  · iframe
  rw [groupsC_all, groupsT_all, groupsL_all]
  iintro H7 H8 H11
  iapply HK $$ H1 H2 H3 H6 H7 H8 H11 H12

end

end Cert.Kernel.Rolled
-- ==== Proof.Kernel.Run.lean ====
/- The run: what every buffer holds at every step, the body's obligation at each, and the whole program's run from it. -/
module

public import proofs.«01_k».proof.Proof.Kernel.Step

@[expose] public section

set_option maxRecDepth 65536

noncomputable section

namespace Cert.Kernel.Rolled

open Cert.Kernel Cert.Kernel.Gen
open Idealize.ShloMosaic Idealize.ShloMosaic.TcCoe
open Idealize.SL
open Idealize.SL.BI (sProp)
open scoped Idealize.SL.BI
open Idealize.SL.BI.BIBase Idealize.SL.BI.Laws Idealize.SL.Sem Idealize.SL.ProofMode
open Idealize.SL.RA
open Idealize.SL.BI (bigSep)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The first point. -/
def t0 : Fin cfg0.N := ⟨0, by decide⟩

/-- The activations after the residual, the residual itself and the gain, as the first step finds them. -/
def residV (c : Dev nD) : S3x2304.Idx → Elt F .bf16 := resid (iblk m c 0 t0) (iblk m c 1 t0)
/-- The normalised activations. -/
def normV (c : Dev nD) : FVec F S3x2304 .f32 := normed (residV m c) (iblk m c 2 t0)
/-- The matmul's rows, all steps'. -/
def lhsV (c : Dev nD) : S9x16x256.Idx → Elt F .bf16 := rowsAll (normV m c) rows0
/-- The weights' rows of a step. -/
def wV (c : Dev nD) (t : Fin cfg0.N) : S256x9216.Idx → Elt F .bf16 := iblk m c 3 t
/-- The accumulator before step `n`. -/
def accV (c : Dev nD) : ℕ → S8x9216.Idx → Elt F .f32
  | 0 => acc0
  | n + 1 => if h : n < cfg0.N then accAll (wV m c ⟨n, h⟩) (rowsOf (grid0.coords ⟨n, h⟩) (lhsV m c)) (accV c n) else accV c n

/-- The invariant before point `n`: the scratch buffers hold the rows and the accumulator, from the second point on. -/
def PhiS (c : Dev nD) : ℕ → sProp 𝕄
  | 0 => Pipeline.ΦA spec0 c
  | n + 1 => iprop(owns (c : Thread nD τ) (Memref.whole cc0_scratch0) fullShare (lhsV m c)
      ∗ owns (c : Thread nD τ) (Memref.whole cc0_scratch1) fullShare (accV m c (n + 1)) ∗ ∃ r, prngReg c r)

/-- The proof data. -/
def dat (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => yOf (accV m c 9)
    | 5 => residV m c
    | 6 => actCodes (normV m c)
    | 7 => actScales (normV m c)
    | 8 => codesAll (wV m c t)
    | 9 => scalesAll (wV m c t)
    | ⟨_ + 10, h⟩ => absurd h (Nat.not_lt.2 (Nat.le_add_left _ _))
  Φ t := PhiS m c t.val
  q _ := fullShare
  owed _ := 0

theorem dat_A (c : Dev nD) (w : Fin cfg0.W) : (dat m c).A w = V m c (Pipeline.arrRef spec0 w) := by
  dsimp only [dat]

/-! ## The points -/

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val = 8 :=
  (by decide +kernel : ∀ t : Fin grid0.N, k0_cond2 (grid0.coords t) = 1#1 ↔ t.val = 8)
theorem lt9 (t : Fin cfg0.N) : t.val < 9 := lt_of_lt_of_eq t.isLt N_0

/-- A window that only the first point stores, written back at the end: at every later point its buffer holds what the
    first left. -/
theorem before_kept {c : Dev nD} (d : Dat τ (Elt F) Unit ℕ (UR sig nD τ) ℕ cfg0 c) (w : Fin cfg0.W) (hw : (cfg0.win w).isOut = true)
    (hflush : ∀ t : Fin cfg0.N, (cfg0.win w).flush t = true ↔ t.val % 9 = 8)
    (hidle : ∀ t : Fin cfg0.N, cfg0.idle w (grid0.coords t) = false ↔ t.val = 0)
    (hclip : ∀ (i : cfg0.grid.Coords) a, (cfg0.win w).clip i a = none) (hconst : ∀ t, d.after w t = d.after w t0) :
    ∀ (n : ℕ) (h : n + 1 < cfg0.N) (e), d.before w ⟨n + 1, h⟩ e = d.after w t0
  | 0, h, e => by
    have hN : cfg0.N = 9 := N_0
    rw [d.before_of_pos w _ (Nat.succ_ne_zero 0) ((cfg0.win w).fetch_out hw _), if_neg (by rw [hflush]; simp)]
    unfold Dat.left
    rw [(hidle _).mpr rfl]
    show d.kept w _ e = _
    unfold Dat.kept
    rw [Pipeline.fill_of_clip_none w _ (hclip _) e (d.after w _), Window.fill_cut]
    exact hconst _
  | n + 1, h, e => by
    have hN : cfg0.N = 9 := N_0
    have hi : cfg0.idle w (grid0.coords ⟨n + 1, Nat.lt_of_succ_lt h⟩) = true := by
      have := (hidle ⟨n + 1, Nat.lt_of_succ_lt h⟩).not.mpr (by simp)
      simpa using this
    rw [d.before_of_pos w _ (Nat.succ_ne_zero _) ((cfg0.win w).fetch_out hw _), if_neg (by rw [hflush]; simp; have := (show n + 1 + 1 < cfg0.N from h); omega)]
    unfold Dat.left
    show (match cfg0.idle w (grid0.coords ⟨n + 1, Nat.lt_of_succ_lt h⟩) with
      | true => d.before w ⟨n + 1, Nat.lt_of_succ_lt h⟩ e
      | false => d.kept w ⟨n + 1, Nat.lt_of_succ_lt h⟩ e) = _
    rw [hi]
    exact before_kept d w hw hflush hidle hclip hconst n (Nat.lt_of_succ_lt h) e

theorem idle_pro : ∀ t : Fin cfg0.N, (!(k0_cond1 (grid0.coords t) == 1#1)) = false ↔ t.val = 0 := fun t => by
  rw [← cond1_iff t]; simp

theorem before5 (c : Dev nD) (t : Fin cfg0.N) (ht : t.val ≠ 0) (e) : (dat m c).before 5 t e = residV m c := by
  obtain ⟨n, hn⟩ : ∃ n, t.val = n + 1 := ⟨t.val - 1, by omega⟩
  have h : n + 1 < cfg0.N := hn ▸ t.isLt
  obtain rfl : t = ⟨n + 1, h⟩ := Fin.ext hn
  exact before_kept (dat m c) 5 rfl flush0_5 idle_pro (fun _ _ => rfl) (fun _ => rfl) n h e
theorem before6 (c : Dev nD) (t : Fin cfg0.N) (ht : t.val ≠ 0) (e) : (dat m c).before 6 t e = actCodes (normV m c) := by
  obtain ⟨n, hn⟩ : ∃ n, t.val = n + 1 := ⟨t.val - 1, by omega⟩
  have h : n + 1 < cfg0.N := hn ▸ t.isLt
  obtain rfl : t = ⟨n + 1, h⟩ := Fin.ext hn
  exact before_kept (dat m c) 6 rfl flush0_6 idle_pro (fun _ _ => rfl) (fun _ => rfl) n h e
theorem before7 (c : Dev nD) (t : Fin cfg0.N) (ht : t.val ≠ 0) (e) : (dat m c).before 7 t e = actScales (normV m c) := by
  obtain ⟨n, hn⟩ : ∃ n, t.val = n + 1 := ⟨t.val - 1, by omega⟩
  have h : n + 1 < cfg0.N := hn ▸ t.isLt
  obtain rfl : t = ⟨n + 1, h⟩ := Fin.ext hn
  exact before_kept (dat m c) 7 rfl flush0_7 idle_pro (fun _ _ => rfl) (fun _ => rfl) n h e

/-- What a window's buffer is left at, as the obligation states it. -/
def Left (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dat m c).before w t d))
    | true => owns (c : Thread nD τ) ((cfg0.win w).stage (cfg0.slots t w)) fullShare ((dat m c).after w t)
  | false => owns (c : Thread nD τ) ((cfg0.win w).stage (cfg0.slots t w)) fullShare ((dat m c).after w t)

theorem left_live (c : Dev nD) (w : Fin cfg0.W) (t : Fin cfg0.N) (h : cfg0.idle w (cfg0.grid.coords t) = false) :
    Left m c w t = owns (c : Thread nD τ) ((cfg0.win w).stage (cfg0.slots t w)) fullShare ((dat m c).after w t) := by
  unfold Left; rw [h]
theorem left_flush (c : Dev nD) (w : Fin cfg0.W) (t : Fin cfg0.N) (h : (cfg0.win w).flush t = true) :
    Left m c w t = owns (c : Thread nD τ) ((cfg0.win w).stage (cfg0.slots t w)) fullShare ((dat m c).after w t) := by
  unfold Left; rw [h]; cases cfg0.idle w (cfg0.grid.coords t) <;> rfl
theorem left_idle (c : Dev nD) (w : Fin cfg0.W) (t : Fin cfg0.N) (h : cfg0.idle w (cfg0.grid.coords t) = true)
    (hf : (cfg0.win w).flush t = false) :
    Left m c w t = iprop(∃ d, owns (c : Thread nD τ) ((cfg0.win w).stage (cfg0.slots t w)) fullShare ((dat m c).before w t d)) := by
  unfold Left; rw [h, hf]

theorem row (t : Fin cfg0.N) : defs₀ (F := F) .tc cfg0.body (cfg0.bodyArgs t (cfg0.slots t)) = bodyAt0 t := by
  unfold defs₀; rw [Defs.onTc_tc]

/-- The ten windows' buffers before the body runs at a point. -/
def Pre (c : Dev nD) (t : Fin cfg0.N) : sProp 𝕄 :=
  bigSep Finset.univ fun w : Fin cfg0.W => iprop(∃ d, owns (c : Thread nD τ) ((cfg0.win w).stage (cfg0.slots t w)) fullShare ((dat m c).before w t d))

theorem accV_succ (c : Dev nD) (t : Fin cfg0.N) :
    accV m c (t.val + 1) = accAll (wV m c t) (rowsOf (grid0.coords t) (lhsV m c)) (accV m c t.val) := by
  rw [accV, dif_pos t.isLt]

theorem flush_of {w : Fin cfg0.W} (hflush : ∀ t : Fin cfg0.N, (cfg0.win w).flush t = true ↔ t.val % 9 = 8) (t : Fin cfg0.N) (h : t.val ≠ 8) :
    (cfg0.win w).flush t = false := by
  have := (hflush t).not.mpr (by have := lt9 t; omega)
  simpa using this

/-- What is held between two steps, `n` of them done: the coded rows and the sums so far. -/
def Held (c : Dev nD) (n : ℕ) : sProp 𝕄 :=
  iprop(owns (c : Thread nD τ) (Memref.whole cc0_scratch0) fullShare (lhsV m c)
    ∗ owns (c : Thread nD τ) (Memref.whole cc0_scratch1) fullShare (accV m c n) ∗ ∃ r, prngReg c r)

/-- The body at the first point. -/
theorem body_first (c : Dev nD) :
    iprop(Pipeline.ΦA spec0 c ∗ Pre m c t0) ⊢ Wp c (bodyAt0 t0) fun _ => iprop(Held m c (t0.val + 1) ∗ bigSep Finset.univ (fun w => Left m c w t0)) := by
  have h1 : k0_cond1 (grid0.coords t0) = 1#1 := (cond1_iff t0).mpr rfl
  have h2 : k0_cond2 (grid0.coords t0) ≠ 1#1 := (cond2_iff t0).not.mpr (by decide)
  have hi4 : cfg0.idle 4 (cfg0.grid.coords t0) = true := by show (!(k0_cond2 (grid0.coords t0) == 1#1)) = true; simpa using h2
  have hi : (!(k0_cond1 (grid0.coords t0) == 1#1)) = false := (idle_pro t0).mpr rfl
  unfold bodyAt0 Pre Held
  rw [body_eq, bigSep_W0, bigSep_W0]
  unfold body
  rw [dif_pos h1]
  unfold Pipeline.ΦA
  rw [scopedRest0_eq]
  simp only [← owns_whole]
  rw [left_live m c 0 t0 rfl, left_live m c 1 t0 rfl, left_live m c 2 t0 rfl, left_live m c 3 t0 rfl,
    left_idle m c 4 t0 hi4 (flush_of flush0_4 t0 (by decide)), left_live m c 5 t0 hi, left_live m c 6 t0 hi, left_live m c 7 t0 hi,
    left_live m c 8 t0 rfl, left_live m c 9 t0 rfl, accV_succ]
  iintro ⟨⟨⟨⟨%L, H11⟩, %A, H12⟩, HR⟩, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩⟩
  rw [before0_0_of m (dat m c) rfl (fun _ => rfl), before0_1_of m (dat m c) rfl (fun _ => rfl), before0_2_of m (dat m c) rfl (fun _ => rfl),
    before0_3_of m (dat m c) rfl (fun _ => rfl)]
  iapply (prologue_wp c _ (hstage0_0 _) _ (hstage0_1 _) _ (hstage0_2 _) _ (hstage0_5 _) _ (hstage0_6 _) _ (hstage0_7 _) _ (Memref.isWhole_whole _)
    _ (Memref.isWhole_whole _)) $$ [H1 H2 H3 H6 H7 H8 H11 H12]
  · iframe
  iintro H1 H2 H3 H6 H7 H8 H11 H12
  iapply (step_wp c (grid0.coords t0) _ (hstage0_3 _) _ (hstage0_4 _) _ (hstage0_8 _) _ (hstage0_9 _) _ (Memref.isWhole_whole _)
    _ (Memref.isWhole_whole _)) $$ [H4 H9 H10 H11 H12]
  · iframe
  iintro H4 H9 H10 H11 H12
  iapply finish_wp_not c (grid0.coords t0) _ _ _ _ h2
  isplitl [H11 H12 HR]
  · isplitl [H11]
    · iexact H11
    isplitl [H12]
    · iexact H12
    · iexact HR
  · isplitl [H1]; · iexact H1
    isplitl [H2]; · iexact H2
    isplitl [H3]; · iexact H3
    isplitl [H4]; · iexact H4
    isplitl [H5]; · iexists d4; iexact H5
    isplitl [H6]; · iexact H6
    isplitl [H7]; · iexact H7
    isplitl [H8]; · iexact H8
    isplitl [H9]; · iexact H9
    iexact H10

/-- The body at a point after the first and before the last. -/
theorem body_mid (c : Dev nD) (t : Fin cfg0.N) (ht : t.val ≠ 0) (ht' : t.val ≠ 8) :
    iprop(Held m c t.val ∗ Pre m c t) ⊢ Wp c (bodyAt0 t) fun _ => iprop(Held m c (t.val + 1) ∗ bigSep Finset.univ (fun w => Left m c w t)) := by
  have h1 : k0_cond1 (grid0.coords t) ≠ 1#1 := (cond1_iff t).not.mpr ht
  have h2 : k0_cond2 (grid0.coords t) ≠ 1#1 := (cond2_iff t).not.mpr ht'
  have hi4 : cfg0.idle 4 (cfg0.grid.coords t) = true := by show (!(k0_cond2 (grid0.coords t) == 1#1)) = true; simpa using h2
  have hi : (!(k0_cond1 (grid0.coords t) == 1#1)) = true := by simpa using h1
  unfold bodyAt0 Pre Held
  rw [body_eq, bigSep_W0, bigSep_W0]
  unfold body
  rw [dif_neg h1]
  rw [left_live m c 0 t rfl, left_live m c 1 t rfl, left_live m c 2 t rfl, left_live m c 3 t rfl,
    left_idle m c 4 t hi4 (flush_of flush0_4 t ht'), left_idle m c 5 t hi (flush_of flush0_5 t ht'), left_idle m c 6 t hi (flush_of flush0_6 t ht'),
    left_idle m c 7 t hi (flush_of flush0_7 t ht'), left_live m c 8 t rfl, left_live m c 9 t rfl, accV_succ]
  iintro ⟨⟨H11, H12, HR⟩, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩⟩
  rw [before0_0_of m (dat m c) rfl (fun _ => rfl), before0_1_of m (dat m c) rfl (fun _ => rfl), before0_2_of m (dat m c) rfl (fun _ => rfl),
    before0_3_of m (dat m c) rfl (fun _ => rfl)]
  iapply (step_wp c (grid0.coords t) _ (hstage0_3 _) _ (hstage0_4 _) _ (hstage0_8 _) _ (hstage0_9 _) _ (Memref.isWhole_whole _)
    _ (Memref.isWhole_whole _)) $$ [H4 H9 H10 H11 H12]
  · iframe
  iintro H4 H9 H10 H11 H12
  iapply finish_wp_not c (grid0.coords t) _ _ _ _ h2
  isplitl [H11 H12 HR]
  · isplitl [H11]
    · iexact H11
    isplitl [H12]
    · iexact H12
    · iexact HR
  · isplitl [H1]; · iexact H1
    isplitl [H2]; · iexact H2
    isplitl [H3]; · iexact H3
    isplitl [H4]; · iexact H4
    isplitl [H5]; · iexists d4; iexact H5
    isplitl [H6]; · iexists d5; iexact H6
    isplitl [H7]; · iexists d6; iexact H7
    isplitl [H8]; · iexists d7; iexact H8
    isplitl [H9]; · iexact H9
    iexact H10

theorem acc_last (c : Dev nD) (t : Fin cfg0.N) (ht : t.val = 8) :
    accAll (wV m c t) (rowsOf (grid0.coords t) (lhsV m c)) (accV m c t.val) = accV m c 9 := by
  rw [← accV_succ, ht]

/-- The body at the last point. -/
theorem body_last (c : Dev nD) (t : Fin cfg0.N) (ht : t.val = 8) :
    iprop(Held m c t.val ∗ Pre m c t) ⊢ Wp c (bodyAt0 t) fun _ => iprop(Held m c (t.val + 1) ∗ bigSep Finset.univ (fun w => Left m c w t)) := by
  have ht0 : t.val ≠ 0 := by omega
  have h1 : k0_cond1 (grid0.coords t) ≠ 1#1 := (cond1_iff t).not.mpr ht0
  have h2 : k0_cond2 (grid0.coords t) = 1#1 := (cond2_iff t).mpr ht
  unfold bodyAt0 Pre Held
  rw [body_eq, bigSep_W0, bigSep_W0]
  unfold body
  rw [dif_neg h1]
  rw [left_live m c 0 t rfl, left_live m c 1 t rfl, left_live m c 2 t rfl, left_live m c 3 t rfl,
    left_flush m c 4 t ((flush0_4 t).mpr (by omega)), left_flush m c 5 t ((flush0_5 t).mpr (by omega)),
    left_flush m c 6 t ((flush0_6 t).mpr (by omega)), left_flush m c 7 t ((flush0_7 t).mpr (by omega)),
    left_live m c 8 t rfl, left_live m c 9 t rfl, accV_succ]
  iintro ⟨⟨H11, H12, HR⟩, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩⟩
  rw [before0_0_of m (dat m c) rfl (fun _ => rfl), before0_1_of m (dat m c) rfl (fun _ => rfl), before0_2_of m (dat m c) rfl (fun _ => rfl),
    before0_3_of m (dat m c) rfl (fun _ => rfl)]
  rw [before5 m c t ht0, before6 m c t ht0, before7 m c t ht0]
  iapply (step_wp c (grid0.coords t) _ (hstage0_3 _) _ (hstage0_4 _) _ (hstage0_8 _) _ (hstage0_9 _) _ (Memref.isWhole_whole _)
    _ (Memref.isWhole_whole _)) $$ [H4 H9 H10 H11 H12]
  · iframe
  iintro H4 H9 H10 H11 H12
  rw [acc_last m c t ht, show accAll (iblk m c 3 t) (rowsOf (grid0.coords t) (lhsV m c)) (accV m c t.val) = accV m c 9 from acc_last m c t ht]
  iapply (finish_wp_last c (grid0.coords t) _ (hstage0_4 _) _ (Memref.isWhole_whole _) _ h2) $$ [H5 H12]
  · iframe
  iintro H5 H12
  isplitl [H11 H12 HR]
  · isplitl [H11]
    · iexact H11
    isplitl [H12]
    · iexact H12
    · iexact HR
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body's obligation at every point. -/
theorem body_obligation (c : Dev nD) : BodyObligation (dat m c) (defs₀ (F := F)) Variants.none () Set.univ := fun t => by
  rw [row]
  have key : iprop((dat m c).Φ t.castSucc ∗ Pre m c t) ⊢ Wp c (bodyAt0 t) fun _ =>
      iprop((dat m c).Φ t.succ ∗ bigSep Finset.univ (fun w => Left m c w t)) := by
    rcases Nat.eq_zero_or_pos t.val with h | h
    · obtain rfl : t = t0 := Fin.ext h
      exact body_first m c
    · have hP : (dat m c).Φ t.castSucc = Held m c t.val := by
        obtain ⟨n, hn⟩ : ∃ n, t.val = n + 1 := ⟨t.val - 1, by omega⟩
        show PhiS m c t.val = _
        rw [hn]; rfl
      rw [hP]
      by_cases h8 : t.val = 8
      · exact body_last m c t h8
      · exact body_mid m c t (by omega) h8
  show iprop((dat m c).Φ t.castSucc ∗ (dat m c).owesAt () t.castSucc ∗ Pre m c t) ⊢ Wp c (bodyAt0 t) fun _ =>
      iprop((dat m c).Φ t.succ ∗ (dat m c).owesAt () t.succ ∗ bigSep Finset.univ (fun w => Left m c w t))
  iintro ⟨HΦ, HO, HB⟩
  ihave HW := key $$ [HΦ HB]
  · isplitl [HΦ]
    · iexact HΦ
    · iexact HB
  unfold Wp
  iapply wp_wand $$ HW
  iintro %u ⟨HΦ, HB⟩
  isplitl [HΦ]
  · iexact HΦ
  isplitl [HO]
  · iexact HO
  · iexact HB

end Cert.Kernel.Rolled
-- ==== Proof.Kernel.Quiet.lean ====
/- The whole program's run: it ends, its arrays hold what the steps left there, the arguments are unchanged and no semaphore is left raised. -/
module

public import proofs.«01_k».proof.Proof.Kernel.Run

@[expose] public section

set_option maxRecDepth 65536

noncomputable section

namespace Cert.Kernel.Rolled

open Cert.Kernel Cert.Kernel.Gen
open Idealize.ShloMosaic Idealize.ShloMosaic.TcCoe
open Idealize.SL
open Idealize.SL.BI (sProp)
open scoped Idealize.SL.BI
open Idealize.SL.BI.BIBase Idealize.SL.BI.Laws Idealize.SL.Sem Idealize.SL.ProofMode
open Idealize.SL.RA
open Idealize.SL.BI (bigSep)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one region. -/
def dats : (p : Fin 1) → (c : Dev nD) → Dat τ (Elt F) Unit ℕ (UR sig nD τ) ℕ (cfgs p) c := fun
  | 0 => fun c => dat m c

theorem held_end (c : Dev nD) : (dat m c).Φ (Fin.last cfg0.N) ⊢ Pipeline.ΦA spec0 c := by
  have h : (dat m c).Φ (Fin.last cfg0.N) = Held m c 9 := by
    show PhiS m c grid0.N = _
    rw [N_0]; rfl
  rw [h]
  unfold Held Pipeline.ΦA
  rw [scopedRest0_eq]
  simp only [← owns_whole]
  iintro ⟨H1, H2, HR⟩
  isplitl [H1 H2]
  · isplitl [H1]
    · iexists _; iexact H1
    · iexists _; iexact H2
  · iexact HR

/-- The run. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (fun c => (body_obligation m c).loose) (fun c w => (by fin_cases w <;> rfl)) (fun _ _ => rfl) (V0 m) [hostOps1]
    sfx_sub sfx_fresh sfx_keeps (hmain m Variants.none) (fun c w => rfl) (fun c => .rfl) (held_end m) _ (fun _ h => h)

/-- The arguments are unchanged and every semaphore is back at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      ((h.1 c).1 3).trans (((dats m 0 c).arrAt_in 3 rfl _).trans (V_main_arg3 m c))⟩, h.2⟩) (run m ρ)

end Cert.Kernel.Rolled
-- ==== Proof.KernelIdeal.Rolled.lean ====
/- The kernel's body, rolled up: the printed body writes its 36 column chunks and its 18 activation groups out one after
   another; here each is ONE program in its number, and the printed body is shown to be their sequence. -/
module

public import proofs.«01_k».proof.Proof.Gen.KernelIdeal

@[expose] public section

set_option maxRecDepth 65536

noncomputable section

namespace Cert.KernelIdeal.Rolled

open Cert.KernelIdeal Cert.KernelIdeal.Gen
open Idealize.ShloMosaic Idealize.ShloMosaic.TcCoe
open Idealize.SL Idealize.SL.Sem

variable {F : FTy → Type} [FloatOps F]

/-! ## The values -/

/-- The thresholds: lane `k` is the f32 whose exponent field is `k`. -/
def lanes : IVec S1x256 32 := iota .tc S1x256 32 [1] iota_S1x256_d1_w32
def thresholds : FVec F S1x256 .f32 := bitcastToFloat .f32 (shli lanes (broadcast S1x256 23#32))
/-- What lane `k` stands for: the field `k`, or 255 from `2^120` on. -/
def fields : IVec S1x256 32 :=
  select (cmpi .slt lanes (broadcast S1x256 247#32)) lanes (broadcast S1x256 255#32)

/-- The exponent field of one number. -/
def fieldW (t : FVec F S1x1 .f32) : IVec S1x1 32 :=
  shapeCast S1x1
    (multiReductionI .maxsi [1] S1
      (select (cmpf .oge (broadcastTo S1x256 t broadcasts_S1x1_S1x256) thresholds) fields (broadcast S1x256 0#32))
      2147483648#32 reduces_S1x256_S1 rfl)
    shapeCasts_S1_S1x1
/-- The exponent of one number's power of two. -/
def expoW (t : FVec F S1x1 .f32) : IVec S1x1 32 :=
  select (ori (cmpi .eq (fieldW t) (broadcast S1x1 0#32)) (cmpi .eq (fieldW t) (broadcast S1x1 255#32)))
    (broadcast S1x1 0#32) (subi (fieldW t) (broadcast S1x1 126#32))
def pow2W (e : IVec S1x1 32) : FVec F S1x1 .f32 :=
  bitcastToFloat .f32 (shli (addi (broadcast S1x1 127#32) e) (broadcast S1x1 23#32))
def invW (e : IVec S1x1 32) : FVec F S1x1 .f32 :=
  bitcastToFloat .f32 (shli (subi (broadcast S1x1 127#32) e) (broadcast S1x1 23#32))
/-- The largest magnitude of a weight block, over 448. -/
def ratioW (v : Vec F S128x128 .bf16) : FVec F S1x1 .f32 :=
  mulf
    (broadcast S1x1
      (extractAt ![0, 0, 0]
        (shapeCast S1x1x1
          (multiReduction .maximumf [1, 2] S1
            (shapeCast S1x16x128
              (extf .f32
                (multiReduction .maximumf [0] S16x128
                  (absf (shapeCast S8x16x128 v shapeCasts_S128x128_S8x16x128)) 0xFF80#16
                  reduces_S8x16x128_S16x128 (.inr rfl) rfl)
                bitsLt_bf16_f32)
              shapeCasts_S16x128_S1x16x128)
            0xFF800000#32 reduces_S1x16x128_S1 (.inl rfl) rfl)
          shapeCasts_S1_S1x1x1)
        inpos_S1x1x1_p0_0_0))
    (broadcast S1x1 (Scalar.ofBits .f32 0x3B124925#32))
/-- A weight block's scale. -/
def scaleW (v : Vec F S128x128 .bf16) : FVec F S1x1 .f32 :=
  bitcastToFloat .f32 (shli (addi (broadcast S1x1 127#32) (expoW (ratioW v))) (broadcast S1x1 23#32))
/-- A weight block's codes. -/
def codesW (v : Vec F S128x128 .bf16) : FVec F S128x128 .fp8e4m3 :=
  truncf .fp8e4m3
    (minimumf (broadcast S128x128 (Scalar.truncf .bf16 bitsLt_bf16_f32 (Scalar.ofBits .f32 0x43E00000#32)))
      (maximumf (broadcast S128x128 (Scalar.truncf .bf16 bitsLt_bf16_f32 (Scalar.ofBits .f32 0xC3E00000#32)))
        (mulf v (broadcastTo S128x128 (truncf .bf16 (invW (expoW (ratioW v))) bitsLt_bf16_f32) broadcasts_S1x1_S128x128))))
    bitsLt_fp8e4m3_bf16
/-- Two scales laid over the columns they multiply. -/
def scaleRow (s0 s1 : FVec F S1x1 .f32) : FVec F S8x256 .f32 :=
  concatenate S8x256 1
    [⟨S8x128, broadcastTo S8x128 (shapeCast S1x1 s0 shapeCasts_S1x1_S1x1) broadcasts_S1x1_S8x128⟩,
      ⟨S8x128, broadcastTo S8x128 (shapeCast S1x1 s1 shapeCasts_S1x1_S1x1) broadcasts_S1x1_S8x128⟩]
    concatenates_S8x128_S8x128_S8x256_d1
/-- A chunk's accumulator after its step. -/
def accStep (x : FVec F S16x256 .bf16) (w : Vec F S256x256 .fp8e4m3) (a : Vec F S8x256 .f32) (s00 s01 s10 s11 : FVec F S1x1 .f32) :
    FVec F S8x256 .f32 :=
  shapeCast S8x256
    (addf a
      (addf
        (mulf (extractStridedSlice S8x256 ![0, 0]
          (matmul dot_S16x256_S256x256_S16x256_1_0_0_1_n_n none x (shapeCast S256x256 w shapeCasts_S256x256_S256x256)
            (constant S16x256 .f32 0x00000000#32)) slices_S16x256_o0_0_S8x256) (scaleRow s00 s01))
        (mulf (extractStridedSlice S8x256 ![8, 0]
          (matmul dot_S16x256_S256x256_S16x256_1_0_0_1_n_n none x (shapeCast S256x256 w shapeCasts_S256x256_S256x256)
            (constant S16x256 .f32 0x00000000#32)) slices_S16x256_o8_0_S8x256) (scaleRow s10 s11))))
    shapeCasts_S8x256_S8x256

/-! The same for the three rows of one activation group. -/

/-- The exponent field of each of three numbers. -/
def fieldX (t : FVec F S3x1 .f32) : IVec S3x1 32 :=
  shapeCast S3x1
    (multiReductionI .maxsi [1] S3
      (select (cmpf .oge (broadcastTo S3x256 t broadcasts_S3x1_S3x256) (broadcastTo S3x256 thresholds broadcasts_S1x256_S3x256))
        (broadcastTo S3x256 (shapeCast S1x256 fields shapeCasts_S1x256_S1x256) broadcasts_S1x256_S3x256)
        (broadcast S3x256 0#32))
      2147483648#32 reduces_S3x256_S3 rfl)
    shapeCasts_S3_S3x1
/-- The exponents of three numbers' powers of two. -/
def expoX (t : FVec F S3x1 .f32) : IVec S3x1 32 :=
  select (ori (cmpi .eq (fieldX t) (broadcast S3x1 0#32)) (cmpi .eq (fieldX t) (broadcast S3x1 255#32)))
    (broadcast S3x1 0#32) (subi (fieldX t) (broadcast S3x1 126#32))
/-- The largest magnitude of each row of a group, over 448. -/
def ratioX (v : FVec F S3x128 .f32) : FVec F S3x1 .f32 :=
  mulf
    (shapeCast S3x1 (multiReduction .maximumf [1] S3 (absf v) 0xFF800000#32 reduces_S3x128_S3 (.inl rfl) rfl) shapeCasts_S3_S3x1)
    (broadcast S3x1 (Scalar.ofBits .f32 0x3B124925#32))
/-- A group's scales. -/
def scaleX (v : FVec F S3x128 .f32) : FVec F S3x1 .f32 :=
  bitcastToFloat .f32 (shli (addi (broadcast S3x1 127#32) (expoX (ratioX v))) (broadcast S3x1 23#32))
/-- A group's codes. -/
def codesX (v : FVec F S3x128 .f32) : FVec F S3x128 .fp8e4m3 :=
  truncf .fp8e4m3
    (minimumf (broadcast S3x128 (Scalar.ofBits .f32 0x43E00000#32))
      (maximumf (broadcast S3x128 (Scalar.ofBits .f32 0xC3E00000#32))
        (mulf v
          (broadcastTo S3x128
            (bitcastToFloat .f32 (shli (subi (broadcast S3x1 127#32) (expoX (ratioX v))) (broadcast S3x1 23#32)) : FVec F S3x1 .f32)
            broadcasts_S3x1_S3x128))))
    bitsLt_fp8e4m3_f32
/-- A group's numbers as the matmul takes them: codes times scales. -/
def backX (v : FVec F S3x128 .f32) : FVec F S1x3x128 .bf16 :=
  shapeCast S1x3x128
    (mulf (extf .bf16 (codesX v) bitsLt_fp8e4m3_bf16)
      (broadcastTo S3x128 (truncf .bf16 (scaleX v) bitsLt_bf16_f32) broadcasts_S3x1_S3x128))
    shapeCasts_S3x128_S1x3x128
/-- The residual stream, rounded. -/
def resid (x r : Vec F S3x2304 .bf16) : FVec F S3x2304 .bf16 :=
  truncf .bf16
    (addf (extf .f32 (shapeCast S3x2304 x shapeCasts_S3x2304_S3x2304) bitsLt_bf16_f32)
      (extf .f32 (shapeCast S3x2304 r shapeCasts_S3x2304_S3x2304) bitsLt_bf16_f32)) bitsLt_bf16_f32
/-- The normed rows. -/
def normed (h : FVec F S3x2304 .bf16) (g : Vec F S1x2304 .f32) : FVec F S3x2304 .f32 :=
  mulf
    (mulf (extf .f32 h bitsLt_bf16_f32)
      (broadcastTo S3x2304
        (rsqrt
          (addf
            (divf
              (shapeCast S3x1
                (multiReduction .add [1] S3 (mulf (extf .f32 h bitsLt_bf16_f32) (extf .f32 h bitsLt_bf16_f32)) 0x00000000#32
                  reduces_S3x2304_S3 (.inl rfl) rfl)
                shapeCasts_S3_S3x1)
              (broadcast S3x1 (Scalar.ofBits .f32 0x45100000#32)))
            (broadcast S3x1 (Scalar.ofBits .f32 0x358637BD#32))))
        broadcasts_S3x1_S3x2304))
    (broadcastTo S3x2304 (shapeCast S1x2304 g shapeCasts_S1x2304_S1x2304) broadcasts_S1x2304_S3x2304)

theorem slicesG {g : ℕ} (hg : g < 18) : S3x2304.Slices ![0, 128 * g] S3x128 :=
  (by decide +kernel : ∀ g : Fin 18, S3x2304.Slices ![0, 128 * (g : ℕ)] S3x128) ⟨g, hg⟩

/-! ## The rectangles -/

theorem inbW {b q : ℕ} (hb : b < 2) (hq : q < 72) :
    ∀ a, (![128 * b, 128 * q] : Fin 2 → ℕ) a + S128x128.size a ≤ S256x9216.size a := by
  intro a; fin_cases a <;> simp [S128x128, S256x9216] <;> omega
theorem inbS {b q : ℕ} (hb : b < 2) (hq : q < 72) :
    ∀ a, (![0, b, q] : Fin 3 → ℕ) a + S1x1x1.size a ≤ S1x2x72.size a := by
  intro a; fin_cases a <;> simp [S1x1x1, S1x2x72] <;> omega
theorem inbP {c : ℕ} (hc : c < 36) :
    ∀ a, (![0, 256 * c] : Fin 2 → ℕ) a + S256x256.size a ≤ S256x9216.size a := by
  intro a; fin_cases a <;> simp [S256x256, S256x9216] <;> omega
theorem inbA {c : ℕ} (hc : c < 36) :
    ∀ a, (![0, 256 * c] : Fin 2 → ℕ) a + S8x256.size a ≤ S8x9216.size a := by
  intro a; fin_cases a <;> simp [S8x256, S8x9216] <;> omega

abbrev rW {b q : ℕ} (hb : b < 2) (hq : q < 72) : Rect S256x9216 :=
  Rect.unit (s := S256x9216) ![128 * b, 128 * q] S128x128.size (inbW hb hq)
abbrev rS {b q : ℕ} (hb : b < 2) (hq : q < 72) : Rect S1x2x72 :=
  Rect.unit (s := S1x2x72) ![0, b, q] S1x1x1.size (inbS hb hq)
abbrev rP {c : ℕ} (hc : c < 36) : Rect S256x9216 :=
  Rect.unit (s := S256x9216) ![0, 256 * c] S256x256.size (inbP hc)
abbrev rA {c : ℕ} (hc : c < 36) : Rect S8x9216 :=
  Rect.unit (s := S8x9216) ![0, 256 * c] S8x256.size (inbA hc)

theorem packedW : ∀ (b : Fin 2) (q : Fin 72), (rW b.2 q.2).PackedRows (EltTy.packing .fp8e4m3) := by
  decide +kernel

theorem inbC {g : ℕ} (hg : g < 18) :
    ∀ a, (![0, 128 * g] : Fin 2 → ℕ) a + S3x128.size a ≤ S3x2304.size a := by
  intro a; fin_cases a <;> simp [S3x128, S3x2304] <;> omega
theorem inbT {g : ℕ} (hg : g < 18) :
    ∀ a, (![0, g] : Fin 2 → ℕ) a + S3x1.size a ≤ S3x18.size a := by
  intro a; fin_cases a <;> simp [S3x1, S3x18] <;> omega
theorem inbL3 {s h : ℕ} (hs : s < 9) (hh : h < 2) :
    ∀ a, (![s, 8 * h, 128 * h] : Fin 3 → ℕ) a + S1x3x128.size a ≤ S9x16x256.size a := by
  intro a; fin_cases a <;> simp [S1x3x128, S9x16x256] <;> omega
theorem inbL {s h : ℕ} (hs : s < 9) (hh : h < 2) :
    ∀ a, (![s, 8 * h, 128 * h] : Fin 3 → ℕ) a + S1x4x128.size a ≤ S9x16x256.size a := by
  intro a; fin_cases a <;> simp [S1x4x128, S9x16x256] <;> omega

abbrev rC {g : ℕ} (hg : g < 18) : Rect S3x2304 :=
  Rect.unit (s := S3x2304) ![0, 128 * g] S3x128.size (inbC hg)
abbrev rT {g : ℕ} (hg : g < 18) : Rect S3x18 :=
  Rect.unit (s := S3x18) ![0, g] S3x1.size (inbT hg)
abbrev rL3 {s h : ℕ} (hs : s < 9) (hh : h < 2) : Rect S9x16x256 :=
  Rect.unit (s := S9x16x256) ![s, 8 * h, 128 * h] S1x3x128.size (inbL3 hs hh)
abbrev rL {s h : ℕ} (hs : s < 9) (hh : h < 2) : Rect S9x16x256 :=
  Rect.unit (s := S9x16x256) ![s, 8 * h, 128 * h] S1x4x128.size (inbL hs hh)

theorem packedC : ∀ g : Fin 18, (rC g.2).PackedTiles := by decide +kernel
theorem packedL : ∀ (s : Fin 9) (h : Fin 2), (rL s.2 h.2).PackedRows (EltTy.packing .bf16) := by decide +kernel

/-! ## The programs -/

abbrev P := Prog (TpuEff nD τ sig (Elt F) Λ₀ .tc)

section
variable (arg4 : Memref sig .tc .vmem S256x9216 .bf16)
  (arg9 : Memref sig .tc .vmem S256x9216 .fp8e4m3) (harg9 : arg9.IsWhole)
  (arg10 : Memref sig .tc .vmem S1x2x72 .f32) (arg12 : Memref sig .tc .vmem S8x9216 .f32)

/-- One weight block quantised: its codes and its scale stored. -/
def block {b q : ℕ} (hb : b < 2) (hq : q < 72) (K : FVec F S1x1 .f32 → P (F := F) PUnit) : P (F := F) PUnit :=
  .op (.load arg4 (rW hb hq).toLoadRect (View.loadsAt_vmem h_S128x128)) fun v : Vec F S128x128 .bf16 =>
  .op (.load arg9 (rW hb hq).toLoadRect (View.loadsAt_vmem h_S128x128)) fun _ =>
  .op (.store arg9 (rW hb hq) (codesW v) Finset.univ (View.stores_vmem h_S128x128 (harg9.storeExact_slice rfl _ (packedW ⟨b, hb⟩ ⟨q, hq⟩)) (fun _ => rfl)) (.inl rfl)) fun _ =>
  .op (.load arg10 (rS hb hq).toLoadRect (View.loadsAt_vmem h_S1x1x1)) fun _ =>
  .op (.store arg10 (rS hb hq) (shapeCast S1x1x1 (scaleW v) shapeCasts_S1x1_S1x1x1) Finset.univ (View.stores_vmem_bits_univ h_S1x1x1 rfl) (.inl rfl)) fun _ =>
  K (scaleW v)

/-- One column chunk: its four weight blocks, and its columns of the accumulator. -/
def chunk (x : FVec F S16x256 .bf16) {c : ℕ} (hc : c < 36) (K : P (F := F) PUnit) : P (F := F) PUnit :=
  block arg4 arg9 harg9 arg10 (b := 0) (q := 2 * c) (by omega) (by omega) fun s00 =>
  block arg4 arg9 harg9 arg10 (b := 0) (q := 2 * c + 1) (by omega) (by omega) fun s01 =>
  block arg4 arg9 harg9 arg10 (b := 1) (q := 2 * c) (by omega) (by omega) fun s10 =>
  block arg4 arg9 harg9 arg10 (b := 1) (q := 2 * c + 1) (by omega) (by omega) fun s11 =>
  .op (.load arg9 (rP hc).toLoadRect (View.loadsAt_vmem h_S256x256)) fun w : Vec F S256x256 .fp8e4m3 =>
  .op (.load arg12 (rA hc).toLoadRect (View.loadsAt_vmem h_S8x256)) fun a : Vec F S8x256 .f32 =>
  .op (.load arg12 (rA hc).toLoadRect (View.loadsAt_vmem h_S8x256)) fun _ =>
  .op (.store arg12 (rA hc) (accStep x w a s00 s01 s10 s11) Finset.univ (View.stores_vmem_bits_univ h_S8x256 rfl) (.inl rfl)) fun _ =>
  K

/-- The last `n` column chunks. -/
def chunks (x : FVec F S16x256 .bf16) (K : P (F := F) PUnit) : (n : ℕ) → n ≤ 36 → P (F := F) PUnit
  | 0, _ => K
  | n + 1, h => chunk arg4 arg9 harg9 arg10 arg12 x (c := 35 - n) (by omega) (chunks x K n (by omega))

end

section
variable (i : grid0.Coords) (arg1 : Memref sig .tc .vmem S3x2304 .bf16) (harg1 : arg1.IsWhole) (arg2 : Memref sig .tc .vmem S3x2304 .bf16) (harg2 : arg2.IsWhole) (arg3 : Memref sig .tc .vmem S1x2304 .f32) (harg3 : arg3.IsWhole) (arg4 : Memref sig .tc .vmem S256x9216 .bf16) (harg4 : arg4.IsWhole) (arg5 : Memref sig .tc .vmem S3x9216 .bf16) (harg5 : arg5.IsWhole) (arg6 : Memref sig .tc .vmem S3x2304 .bf16) (harg6 : arg6.IsWhole) (arg7 : Memref sig .tc .vmem S3x2304 .fp8e4m3) (harg7 : arg7.IsWhole) (arg8 : Memref sig .tc .vmem S3x18 .f32) (harg8 : arg8.IsWhole) (arg9 : Memref sig .tc .vmem S256x9216 .fp8e4m3) (harg9 : arg9.IsWhole) (arg10 : Memref sig .tc .vmem S1x2x72 .f32) (harg10 : arg10.IsWhole) (arg11 : Memref sig .tc .vmem S9x16x256 .bf16) (harg11 : arg11.IsWhole) (arg12 : Memref sig .tc .vmem S8x9216 .f32) (harg12 : arg12.IsWhole)

/-- The last store: the accumulator's rows, rounded, at the last step. -/
def finish : P (F := F) PUnit :=
  if k0_h2 : k0_cond2 i = 1#1 then
    .op (.load arg12 (Rect.unit (s := S8x9216) ![0, 0] S3x9216.size inb_S8x9216_S3x9216_0_0).toLoadRect (View.loadsAt_vmem h_S3x9216)) fun v : Vec F S3x9216 .f32 =>
    .op (.load arg5 (Rect.unit (s := S3x9216) ![0, 0] S3x9216.size inb_S3x9216_S3x9216_0_0).toLoadRect (View.loadsAt_vmem h_S3x9216)) fun _ =>
    .op (.store arg5 (Rect.unit (s := S3x9216) ![0, 0] S3x9216.size inb_S3x9216_S3x9216_0_0) (truncf .bf16 v bitsLt_bf16_f32) Finset.univ (View.stores_vmem h_S3x9216 (harg5.storeExact_slice rfl _ packedbf16_S3x9216_S3x9216_0_0) (fun _ => rfl)) (.inl rfl)) fun _ =>
    .ret ⟨⟩
  else .ret ⟨⟩

/-- A step after its prologue. -/
def step : P (F := F) PUnit :=
  .op (.load arg11 (Rect.unit (s := S9x16x256) (k0_off1 i) S1x16x256.size (k0_off1_inb i)).toLoadRect (View.loadsAt_vmem h_S1x16x256)) fun v4 : Vec F S1x16x256 .bf16 =>
  chunks arg4 arg9 harg9 arg10 arg12 (shapeCast S16x256 v4 shapeCasts_S1x16x256_S16x256)
    (finish i arg5 harg5 arg12) 36 le_rfl

/-- One activation group quantised: its codes and scales stored, its numbers put in their place among the matmul's rows. -/
def group (n : FVec F S3x2304 .f32) {g s h : ℕ} (hg : g < 18) (hs : s < 9) (hh : h < 2) (K : P (F := F) PUnit) : P (F := F) PUnit :=
  .op (.load arg7 (rC hg).toLoadRect (View.loadsAt_vmem h_S3x128)) fun _ =>
  .op (.store arg7 (rC hg) (codesX (extractStridedSlice S3x128 ![0, 128 * g] n (slicesG hg))) Finset.univ (View.stores_vmem h_S3x128 (harg7.storeExact_slice_tiles rfl _ (packedC ⟨g, hg⟩)) (fun _ => rfl)) (.inl rfl)) fun _ =>
  .op (.load arg8 (rT hg).toLoadRect (View.loadsAt_vmem h_S3x1)) fun _ =>
  .op (.store arg8 (rT hg) (scaleX (extractStridedSlice S3x128 ![0, 128 * g] n (slicesG hg))) Finset.univ (View.stores_vmem_bits_univ h_S3x1 rfl) (.inl rfl)) fun _ =>
  .op (.load arg11 (rL3 hs hh).toLoadRect (View.loadsAt_vmem h_S1x3x128)) fun _ =>
  .op (.load arg11 (rL hs hh).toLoadRect (View.loadsAt_vmem h_S1x4x128)) fun old : Vec F S1x4x128 .bf16 =>
  .op (.store arg11 (rL hs hh) (updateSlice old (backX (extractStridedSlice S3x128 ![0, 128 * g] n (slicesG hg))) ![0, 0, 0] slices_S1x4x128_S1x3x128_0_0_0) Finset.univ (View.stores_vmem h_S1x4x128 (harg11.storeExact_slice rfl _ (packedL ⟨s, hs⟩ ⟨h, hh⟩)) (fun _ => rfl)) (.inl rfl)) fun _ =>
  K

/-- The last `n` activation groups. -/
def groups (n : FVec F S3x2304 .f32) (K : P (F := F) PUnit) : (k : ℕ) → k ≤ 18 → P (F := F) PUnit
  | 0, _ => K
  | k + 1, h => group arg7 harg7 arg8 arg11 harg11 n (g := 17 - k) (s := (17 - k) / 2) (h := (17 - k) % 2) (by omega) (by omega) (by omega)
      (groups n K k (by omega))

/-- The first step's prologue. -/
def prologue (K : P (F := F) PUnit) : P (F := F) PUnit :=
  .op (.load arg1 (Rect.unit (s := S3x2304) ![0, 0] S3x2304.size inb_S3x2304_S3x2304_0_0).toLoadRect (View.loadsAt_vmem h_S3x2304)) fun x : Vec F S3x2304 .bf16 =>
  .op (.load arg2 (Rect.unit (s := S3x2304) ![0, 0] S3x2304.size inb_S3x2304_S3x2304_0_0).toLoadRect (View.loadsAt_vmem h_S3x2304)) fun r : Vec F S3x2304 .bf16 =>
  .op (.load arg6 (Rect.unit (s := S3x2304) ![0, 0] S3x2304.size inb_S3x2304_S3x2304_0_0).toLoadRect (View.loadsAt_vmem h_S3x2304)) fun _ =>
  .op (.store arg6 (Rect.unit (s := S3x2304) ![0, 0] S3x2304.size inb_S3x2304_S3x2304_0_0) (resid x r) Finset.univ (View.stores_vmem h_S3x2304 (harg6.storeExact_slice rfl _ packedbf16_S3x2304_S3x2304_0_0) (fun _ => rfl)) (.inl rfl)) fun _ =>
  .op (.load arg3 (Rect.unit (s := S1x2304) ![0, 0] S1x2304.size inb_S1x2304_S1x2304_0_0).toLoadRect (View.loadsAt_vmem h_S1x2304)) fun g : Vec F S1x2304 .f32 =>
  .op (.load arg11 (Rect.unit (s := S9x16x256) ![0, 0, 0] S9x16x256.size inb_S9x16x256_S9x16x256_0_0_0).toLoadRect (View.loadsAt_vmem h_S9x16x256)) fun _ =>
  .op (.store arg11 (Rect.unit (s := S9x16x256) ![0, 0, 0] S9x16x256.size inb_S9x16x256_S9x16x256_0_0_0) (shapeCast S9x16x256 (broadcast S9x16x256 (Scalar.ofBits .bf16 0x0000#16)) shapeCasts_S9x16x256_S9x16x256) Finset.univ (View.stores_vmem h_S9x16x256 (harg11.storeExact_slice rfl _ packedbf16_S9x16x256_S9x16x256_0_0_0) (fun _ => rfl)) (.inl rfl)) fun _ =>
  .op (.load arg12 (Rect.unit (s := S8x9216) ![0, 0] S8x9216.size inb_S8x9216_S8x9216_0_0).toLoadRect (View.loadsAt_vmem h_S8x9216)) fun _ =>
  .op (.store arg12 (Rect.unit (s := S8x9216) ![0, 0] S8x9216.size inb_S8x9216_S8x9216_0_0) (shapeCast S8x9216 (broadcast S8x9216 (Scalar.ofBits .f32 0x00000000#32)) shapeCasts_S8x9216_S8x9216) Finset.univ (View.stores_vmem_bits_univ h_S8x9216 rfl) (.inl rfl)) fun _ =>
  groups arg7 harg7 arg8 arg11 harg11 (normed (resid x r) g) K 18 le_rfl

/-- The body, rolled up. -/
def body : P (F := F) PUnit :=
  if k0_h1 : k0_cond1 i = 1#1 then
    prologue arg1 arg2 arg3 arg6 harg6 arg7 harg7 arg8 arg11 harg11 arg12
      (step i arg4 arg5 harg5 arg9 harg9 arg10 arg11 arg12)
  else step i arg4 arg5 harg5 arg9 harg9 arg10 arg11 arg12

set_option maxHeartbeats 0 in
/-- The printed body is the rolled one. -/
theorem body_eq :
    cc0_prenorm_requant_linear (F := F) i arg1 harg1 arg2 harg2 arg3 harg3 arg4 harg4 arg5 harg5 arg6 harg6 arg7 harg7 arg8 harg8 arg9 harg9 arg10 harg10 arg11 harg11 arg12 harg12
      = body i arg1 arg2 arg3 arg4 arg5 harg5 arg6 harg6 arg7 harg7 arg8 arg9 harg9 arg10 arg11 harg11 arg12 := by
  unfold body step finish
  by_cases h1 : k0_cond1 i = 1#1 <;> by_cases h2 : k0_cond2 i = 1#1
  all_goals first | rw [dif_pos h1] | rw [dif_neg h1]
  all_goals first | rw [dif_pos h2] | rw [dif_neg h2]
  · simp only [cc0_prenorm_requant_linear, k0_part252, k0_part27, dif_pos h1, dif_pos h2]; rfl
  · simp only [cc0_prenorm_requant_linear, k0_part252, k0_part27, dif_pos h1, dif_neg h2]; rfl
  · simp only [cc0_prenorm_requant_linear, k0_part252, k0_part27, dif_neg h1, dif_pos h2]; rfl
  · simp only [cc0_prenorm_requant_linear, k0_part252, k0_part27, dif_neg h1, dif_neg h2]; rfl

end

end Cert.KernelIdeal.Rolled
-- ==== Proof.KernelIdeal.Triple.lean ====
/- What the rolled-up body does to the buffers it works on: each piece as a rule about whole buffers at known contents. -/
module

public import proofs.«01_k».proof.Proof.KernelIdeal.Rolled
public import proofs.«01_k».proof.Proof.Gen.KernelIdeal.Frame
public import Idealize.ShloMosaic.Lib.VecWindow

@[expose] public section

set_option maxRecDepth 65536

noncomputable section

namespace Cert.KernelIdeal.Rolled

open Cert.KernelIdeal Cert.KernelIdeal.Gen
open Idealize.ShloMosaic Idealize.ShloMosaic.TcCoe
open Idealize.SL
open Idealize.SL.BI (sProp)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (UR sig nD τ) ℕ

/-- A core running this kernel's program: from `X` the program `p` runs to the end, and then `Q` holds. -/
abbrev Wp (c : Dev nD) (p : P (F := F) PUnit) (Q : PUnit.{1} → sProp 𝕄) : sProp 𝕄 :=
  wp frame (wpE (defs₀ (F := F)) Variants.none (c : Thread nD τ) none) Set.univ p Q

/-- The contents `X` with `w` over a rectangle of step one. -/
abbrev upd {s : Shape} {e : EltTy} (X : s.Idx → Elt F e) {off size : Fin s.rank → ℕ} (inb : ∀ a, off a + size a ≤ s.size a)
    (w : (Rect.unit off size inb).shape.Idx → Elt F e) : s.Idx → Elt F e :=
  VecWindow.put X off size w

variable (c : Dev nD)

section
variable {s : Shape} {e : EltTy} (m : Memref sig .tc .vmem s e)

/-- A load from a whole buffer. -/
theorem own_load (Q : PUnit.{1} → sProp 𝕄) (hm : m.IsWhole) (X : s.Idx → Elt F e) (r : Rect s) (hl : m.view.LoadsAt r.toLoadRect)
    (k : (r.shape.Idx → Elt F e) → P (F := F) PUnit) :
    owns (c : Thread nD τ) m fullShare X
      ⊢ iprop((owns (c : Thread nD τ) m fullShare X -∗ Wp c (k (View.ld (Val := Elt F) X r)) Q)
        -∗ Wp c (.op (.load m r.toLoadRect hl) k) Q) := by
  have hS : m.view.setOn r.toLoadRect.set ⊆ m.view.set := by rw [hm.set_eq_univ]; exact Finset.subset_univ _
  unfold owns
  iintro ⟨%f, %hf, H⟩ HK
  subst hf
  iapply (wp_load (𝒱 := Variants.none) (c := (c : Thread nD τ)) (bd := none) (E := Set.univ) (m := m) (r := r.toLoadRect) (hl := hl) (S := m.view.set) hS) $$ H
  iintro H
  iapply HK
  iexists f
  isplitr
  · ipureintro; rfl
  · iexact H

/-- A store over a rectangle of a whole buffer. -/
theorem own_store (Q : PUnit.{1} → sProp 𝕄) (hm : m.IsWhole) (X : s.Idx → Elt F e) {off size : Fin s.rank → ℕ} (inb : ∀ a, off a + size a ≤ s.size a)
    (w : (Rect.unit off size inb).shape.Idx → Elt F e) (hx : (m.access (Rect.unit off size inb)).Stores Finset.univ) (hu)
    (k : PUnit.{1} → P (F := F) PUnit) :
    owns (c : Thread nD τ) m fullShare X
      ⊢ iprop((owns (c : Thread nD τ) m fullShare (upd X inb w) -∗ Wp c (k ⟨⟩) Q)
        -∗ Wp c (.op (.store m (Rect.unit off size inb) w Finset.univ hx hu) k) Q) := by
  have hS : (m.access (Rect.unit off size inb)).setOn Finset.univ ⊆ m.view.set := by rw [hm.set_eq_univ]; exact Finset.subset_univ _
  unfold owns
  iintro ⟨%f, %hf, H⟩ HK
  subst hf
  iapply (wp_store (𝒱 := Variants.none) (c := (c : Thread nD τ)) (bd := none) (E := Set.univ) (m := m) (r := Rect.unit off size inb) (w := w) (Mk := Finset.univ) (hx := hx) (S := m.view.set) hS) $$ H
  iintro H
  iapply HK
  iexists ((m.access (Rect.unit off size inb)).write (Elt F) f w Finset.univ)
  isplitr
  · ipureintro
    exact View.read_writes_cons_put m.view f inb w [] rfl
  · iexact H

end

/-! ## What the pieces leave -/

section
variable (W : S256x9216.Idx → Elt F .bf16)

/-- A weight block's scale. -/
abbrev sc {b q : ℕ} (hb : b < 2) (hq : q < 72) : FVec F S1x1 .f32 := scaleW (View.ld (Val := Elt F) W (rW hb hq))
/-- The codes with one block's put in. -/
abbrev blockC {b q : ℕ} (hb : b < 2) (hq : q < 72) (C : S256x9216.Idx → Elt F .fp8e4m3) : S256x9216.Idx → Elt F .fp8e4m3 :=
  upd C (inbW hb hq) (codesW (View.ld (Val := Elt F) W (rW hb hq)))
/-- The scales with one block's put in. -/
abbrev blockS {b q : ℕ} (hb : b < 2) (hq : q < 72) (S : S1x2x72.Idx → Elt F .f32) : S1x2x72.Idx → Elt F .f32 :=
  upd S (inbS hb hq) (shapeCast S1x1x1 (sc W hb hq) shapeCasts_S1x1_S1x1x1)

/-- The codes after a chunk. -/
abbrev chunkC {c : ℕ} (hc : c < 36) (C : S256x9216.Idx → Elt F .fp8e4m3) : S256x9216.Idx → Elt F .fp8e4m3 :=
  blockC W (b := 1) (q := 2 * c + 1) (by omega) (by omega) (blockC W (b := 1) (q := 2 * c) (by omega) (by omega)
    (blockC W (b := 0) (q := 2 * c + 1) (by omega) (by omega) (blockC W (b := 0) (q := 2 * c) (by omega) (by omega) C)))
/-- The scales after a chunk. -/
abbrev chunkS {c : ℕ} (hc : c < 36) (S : S1x2x72.Idx → Elt F .f32) : S1x2x72.Idx → Elt F .f32 :=
  blockS W (b := 1) (q := 2 * c + 1) (by omega) (by omega) (blockS W (b := 1) (q := 2 * c) (by omega) (by omega)
    (blockS W (b := 0) (q := 2 * c + 1) (by omega) (by omega) (blockS W (b := 0) (q := 2 * c) (by omega) (by omega) S)))
/-- The accumulator after a chunk whose codes are then `C`. -/
abbrev chunkA (x : FVec F S16x256 .bf16) {c : ℕ} (hc : c < 36) (C : S256x9216.Idx → Elt F .fp8e4m3) (A : S8x9216.Idx → Elt F .f32) :
    S8x9216.Idx → Elt F .f32 :=
  upd A (inbA hc) (accStep x (View.ld (Val := Elt F) C (rP hc)) (View.ld (Val := Elt F) A (rA hc))
    (sc W (b := 0) (q := 2 * c) (by omega) (by omega)) (sc W (b := 0) (q := 2 * c + 1) (by omega) (by omega))
    (sc W (b := 1) (q := 2 * c) (by omega) (by omega)) (sc W (b := 1) (q := 2 * c + 1) (by omega) (by omega)))

/-- The codes after the last `n` chunks. -/
def chunksC : (n : ℕ) → n ≤ 36 → (S256x9216.Idx → Elt F .fp8e4m3) → S256x9216.Idx → Elt F .fp8e4m3
  | 0, _, C => C
  | n + 1, h, C => chunksC n (by omega) (chunkC W (c := 35 - n) (by omega) C)
/-- The scales after the last `n` chunks. -/
def chunksS : (n : ℕ) → n ≤ 36 → (S1x2x72.Idx → Elt F .f32) → S1x2x72.Idx → Elt F .f32
  | 0, _, S => S
  | n + 1, h, S => chunksS n (by omega) (chunkS W (c := 35 - n) (by omega) S)
/-- The accumulator after the last `n` chunks, from codes `C`. -/
def chunksA (x : FVec F S16x256 .bf16) : (n : ℕ) → n ≤ 36 → (S256x9216.Idx → Elt F .fp8e4m3) → (S8x9216.Idx → Elt F .f32) →
    S8x9216.Idx → Elt F .f32
  | 0, _, C, A => A
  | n + 1, h, C, A => chunksA x n (by omega) (chunkC W (c := 35 - n) (by omega) C)
      (chunkA W x (c := 35 - n) (by omega) (chunkC W (c := 35 - n) (by omega) C) A)

end

section
variable (arg4 : Memref sig .tc .vmem S256x9216 .bf16) (harg4 : arg4.IsWhole)
  (arg9 : Memref sig .tc .vmem S256x9216 .fp8e4m3) (harg9 : arg9.IsWhole)
  (arg10 : Memref sig .tc .vmem S1x2x72 .f32) (harg10 : arg10.IsWhole)
  (arg12 : Memref sig .tc .vmem S8x9216 .f32) (harg12 : arg12.IsWhole)
  (W : S256x9216.Idx → Elt F .bf16)

include harg4 harg10 in
/-- One weight block. -/
theorem block_wp (Q : PUnit.{1} → sProp 𝕄) {b q : ℕ} (hb : b < 2) (hq : q < 72) (K : FVec F S1x1 .f32 → P (F := F) PUnit)
    (C : S256x9216.Idx → Elt F .fp8e4m3) (S : S1x2x72.Idx → Elt F .f32) :
    iprop(owns (c : Thread nD τ) arg4 fullShare W ∗ owns (c : Thread nD τ) arg9 fullShare C ∗ owns (c : Thread nD τ) arg10 fullShare S)
      ⊢ iprop((owns (c : Thread nD τ) arg4 fullShare W -∗ owns (c : Thread nD τ) arg9 fullShare (blockC W hb hq C)
          -∗ owns (c : Thread nD τ) arg10 fullShare (blockS W hb hq S) -∗ Wp c (K (sc W hb hq)) Q)
        -∗ Wp c (block arg4 arg9 harg9 arg10 hb hq K) Q) := by
  unfold block
  iintro ⟨H4, H9, H10⟩ HK
  iapply (own_load c arg4 Q harg4 W (rW hb hq)) $$ H4; iintro H4
  iapply (own_load c arg9 Q harg9 C (rW hb hq)) $$ H9; iintro H9
  iapply (own_store c arg9 Q harg9 C (inbW hb hq)) $$ H9; iintro H9
  iapply (own_load c arg10 Q harg10 S (rS hb hq)) $$ H10; iintro H10
  iapply (own_store c arg10 Q harg10 S (inbS hb hq)) $$ H10; iintro H10
  iapply HK $$ H4 H9 H10

include harg4 harg10 harg12 in
/-- One chunk. -/
theorem chunk_wp (Q : PUnit.{1} → sProp 𝕄) (x : FVec F S16x256 .bf16) {n : ℕ} (hc : n < 36) (K : P (F := F) PUnit)
    (C : S256x9216.Idx → Elt F .fp8e4m3) (S : S1x2x72.Idx → Elt F .f32) (A : S8x9216.Idx → Elt F .f32) :
    iprop(owns (c : Thread nD τ) arg4 fullShare W ∗ owns (c : Thread nD τ) arg9 fullShare C ∗ owns (c : Thread nD τ) arg10 fullShare S
        ∗ owns (c : Thread nD τ) arg12 fullShare A)
      ⊢ iprop((owns (c : Thread nD τ) arg4 fullShare W -∗ owns (c : Thread nD τ) arg9 fullShare (chunkC W hc C)
          -∗ owns (c : Thread nD τ) arg10 fullShare (chunkS W hc S) -∗ owns (c : Thread nD τ) arg12 fullShare (chunkA W x hc (chunkC W hc C) A) -∗ Wp c K Q)
        -∗ Wp c (chunk arg4 arg9 harg9 arg10 arg12 x hc K) Q) := by
  unfold chunk
  iintro ⟨H4, H9, H10, H12⟩ HK
  iapply (block_wp c arg4 harg4 arg9 harg9 arg10 harg10 W Q) $$ [H4 H9 H10]
  · iframe
  iintro H4 H9 H10
  iapply (block_wp c arg4 harg4 arg9 harg9 arg10 harg10 W Q) $$ [H4 H9 H10]
  · iframe
  iintro H4 H9 H10
  iapply (block_wp c arg4 harg4 arg9 harg9 arg10 harg10 W Q) $$ [H4 H9 H10]
  · iframe
  iintro H4 H9 H10
  iapply (block_wp c arg4 harg4 arg9 harg9 arg10 harg10 W Q) $$ [H4 H9 H10]
  · iframe
  iintro H4 H9 H10
  iapply (own_load c arg9 Q harg9 _ (rP hc)) $$ H9; iintro H9
  iapply (own_load c arg12 Q harg12 A (rA hc)) $$ H12; iintro H12
  iapply (own_load c arg12 Q harg12 A (rA hc)) $$ H12; iintro H12
  iapply (own_store c arg12 Q harg12 A (inbA hc)) $$ H12; iintro H12
  iapply HK $$ H4 H9 H10 H12

include harg4 harg10 harg12 in
/-- The chunks. -/
theorem chunks_wp (Q : PUnit.{1} → sProp 𝕄) (x : FVec F S16x256 .bf16) (K : P (F := F) PUnit) : ∀ (n : ℕ) (h : n ≤ 36)
    (C : S256x9216.Idx → Elt F .fp8e4m3) (S : S1x2x72.Idx → Elt F .f32) (A : S8x9216.Idx → Elt F .f32),
    iprop(owns (c : Thread nD τ) arg4 fullShare W ∗ owns (c : Thread nD τ) arg9 fullShare C ∗ owns (c : Thread nD τ) arg10 fullShare S
        ∗ owns (c : Thread nD τ) arg12 fullShare A)
      ⊢ iprop((owns (c : Thread nD τ) arg4 fullShare W -∗ owns (c : Thread nD τ) arg9 fullShare (chunksC W n h C)
          -∗ owns (c : Thread nD τ) arg10 fullShare (chunksS W n h S) -∗ owns (c : Thread nD τ) arg12 fullShare (chunksA W x n h C A) -∗ Wp c K Q)
        -∗ Wp c (chunks arg4 arg9 harg9 arg10 arg12 x K n h) Q)
  | 0, h, C, S, A => by
    unfold chunks chunksC chunksS chunksA
    iintro ⟨H4, H9, H10, H12⟩ HK
    iapply HK $$ H4 H9 H10 H12
  | n + 1, h, C, S, A => by
    unfold chunks chunksC chunksS chunksA
    iintro H HK
    iapply (chunk_wp c arg4 harg4 arg9 harg9 arg10 harg10 arg12 harg12 W Q x) $$ H
    iintro H4 H9 H10 H12
    iapply (chunks_wp Q x K n _) $$ [H4 H9 H10 H12]
    · iframe
    iexact HK

end

/-! ## The prologue -/

section
variable (n : FVec F S3x2304 .f32)

/-- An activation group. -/
abbrev grp {g : ℕ} (hg : g < 18) : FVec F S3x128 .f32 := extractStridedSlice S3x128 ![0, 128 * g] n (slicesG hg)
/-- The activation codes with one group's put in. -/
abbrev groupC {g : ℕ} (hg : g < 18) (C : S3x2304.Idx → Elt F .fp8e4m3) : S3x2304.Idx → Elt F .fp8e4m3 :=
  upd C (inbC hg) (codesX (grp n hg))
/-- The activation scales with one group's put in. -/
abbrev groupT {g : ℕ} (hg : g < 18) (T : S3x18.Idx → Elt F .f32) : S3x18.Idx → Elt F .f32 :=
  upd T (inbT hg) (scaleX (grp n hg))
/-- The matmul's rows with one group's put in. -/
abbrev groupL {g s h : ℕ} (hg : g < 18) (hs : s < 9) (hh : h < 2) (L : S9x16x256.Idx → Elt F .bf16) : S9x16x256.Idx → Elt F .bf16 :=
  upd L (inbL hs hh) (updateSlice (View.ld (Val := Elt F) L (rL hs hh)) (backX (grp n hg)) ![0, 0, 0] slices_S1x4x128_S1x3x128_0_0_0)

/-- The activation codes after the last `k` groups. -/
def groupsC : (k : ℕ) → k ≤ 18 → (S3x2304.Idx → Elt F .fp8e4m3) → S3x2304.Idx → Elt F .fp8e4m3
  | 0, _, C => C
  | k + 1, h, C => groupsC k (by omega) (groupC n (g := 17 - k) (by omega) C)
/-- The activation scales after the last `k` groups. -/
def groupsT : (k : ℕ) → k ≤ 18 → (S3x18.Idx → Elt F .f32) → S3x18.Idx → Elt F .f32
  | 0, _, T => T
  | k + 1, h, T => groupsT k (by omega) (groupT n (g := 17 - k) (by omega) T)
/-- The matmul's rows after the last `k` groups. -/
def groupsL : (k : ℕ) → k ≤ 18 → (S9x16x256.Idx → Elt F .bf16) → S9x16x256.Idx → Elt F .bf16
  | 0, _, L => L
  | k + 1, h, L => groupsL k (by omega)
      (groupL n (g := 17 - k) (s := (17 - k) / 2) (h := (17 - k) % 2) (by omega) (by omega) (by omega) L)

end

section
variable (arg7 : Memref sig .tc .vmem S3x2304 .fp8e4m3) (harg7 : arg7.IsWhole)
  (arg8 : Memref sig .tc .vmem S3x18 .f32) (harg8 : arg8.IsWhole)
  (arg11 : Memref sig .tc .vmem S9x16x256 .bf16) (harg11 : arg11.IsWhole)
  (N : FVec F S3x2304 .f32)

include harg8 in
/-- One group. -/
theorem group_wp (Q : PUnit.{1} → sProp 𝕄) {g s h : ℕ} (hg : g < 18) (hs : s < 9) (hh : h < 2) (K : P (F := F) PUnit)
    (C : S3x2304.Idx → Elt F .fp8e4m3) (T : S3x18.Idx → Elt F .f32) (L : S9x16x256.Idx → Elt F .bf16) :
    iprop(owns (c : Thread nD τ) arg7 fullShare C ∗ owns (c : Thread nD τ) arg8 fullShare T ∗ owns (c : Thread nD τ) arg11 fullShare L)
      ⊢ iprop((owns (c : Thread nD τ) arg7 fullShare (groupC N hg C) -∗ owns (c : Thread nD τ) arg8 fullShare (groupT N hg T)
          -∗ owns (c : Thread nD τ) arg11 fullShare (groupL N hg hs hh L) -∗ Wp c K Q)
        -∗ Wp c (group arg7 harg7 arg8 arg11 harg11 N hg hs hh K) Q) := by
  unfold group
  iintro ⟨H7, H8, H11⟩ HK
  iapply (own_load c arg7 Q harg7 C (rC hg)) $$ H7; iintro H7
  iapply (own_store c arg7 Q harg7 C (inbC hg)) $$ H7; iintro H7
  iapply (own_load c arg8 Q harg8 T (rT hg)) $$ H8; iintro H8
  iapply (own_store c arg8 Q harg8 T (inbT hg)) $$ H8; iintro H8
  iapply (own_load c arg11 Q harg11 L (rL3 hs hh)) $$ H11; iintro H11
  iapply (own_load c arg11 Q harg11 L (rL hs hh)) $$ H11; iintro H11
  iapply (own_store c arg11 Q harg11 L (inbL hs hh)) $$ H11; iintro H11
  iapply HK $$ H7 H8 H11

include harg8 in
/-- The groups. -/
theorem groups_wp (Q : PUnit.{1} → sProp 𝕄) (K : P (F := F) PUnit) : ∀ (k : ℕ) (h : k ≤ 18)
    (C : S3x2304.Idx → Elt F .fp8e4m3) (T : S3x18.Idx → Elt F .f32) (L : S9x16x256.Idx → Elt F .bf16),
    iprop(owns (c : Thread nD τ) arg7 fullShare C ∗ owns (c : Thread nD τ) arg8 fullShare T ∗ owns (c : Thread nD τ) arg11 fullShare L)
      ⊢ iprop((owns (c : Thread nD τ) arg7 fullShare (groupsC N k h C) -∗ owns (c : Thread nD τ) arg8 fullShare (groupsT N k h T)
          -∗ owns (c : Thread nD τ) arg11 fullShare (groupsL N k h L) -∗ Wp c K Q)
        -∗ Wp c (groups arg7 harg7 arg8 arg11 harg11 N K k h) Q)
  | 0, h, C, T, L => by
    unfold groups groupsC groupsT groupsL
    iintro ⟨H7, H8, H11⟩ HK
    iapply HK $$ H7 H8 H11
  | k + 1, h, C, T, L => by
    unfold groups groupsC groupsT groupsL
    iintro H HK
    iapply (group_wp c arg7 harg7 arg8 harg8 arg11 harg11 N Q) $$ H
    iintro H7 H8 H11
    iapply (groups_wp Q K k _) $$ [H7 H8 H11]
    · iframe
    iexact HK

end

end Cert.KernelIdeal.Rolled
-- ==== Proof.KernelIdeal.Closed.lean ====
/- What a whole step leaves, entry by entry: each buffer's contents after all the chunks and all the groups, which do not
   depend on what the buffer held before. -/
module

public import proofs.«01_k».proof.Proof.KernelIdeal.Triple
public import Idealize.ShloMosaic.Lib.Pointwise.Index

@[expose] public section

set_option maxRecDepth 65536

noncomputable section

namespace Cert.KernelIdeal.Rolled

open Cert.KernelIdeal Cert.KernelIdeal.Gen
open Idealize.ShloMosaic Idealize.ShloMosaic.TcCoe

variable {F : FTy → Type} [FloatOps F]

/-! ## A rectangle put over contents, read at an index -/

section
variable {s : Shape} {α : Type} (X : s.Idx → α) (off size : Fin s.rank → ℕ) (w : ((a : Fin s.rank) → Fin (size a)) → α) (y : s.Idx)

theorem put_at (z : (a : Fin s.rank) → Fin (size a)) (hz : ∀ a, (y a).val = off a + (z a).val) :
    VecWindow.put X off size w y = w z := by
  unfold VecWindow.put
  rw [dif_pos (fun a => by have := (z a).isLt; have := hz a; omega)]
  exact congrArg w (funext fun a => Fin.ext (by simp [hz a]))

theorem put_off (a : Fin s.rank) (ha : (y a).val < off a ∨ off a + size a ≤ (y a).val) :
    VecWindow.put X off size w y = X y := by
  unfold VecWindow.put
  rw [dif_neg (fun h => by have := h a; omega)]

end

/-! ## The chunks -/

section
variable (W : S256x9216.Idx → Elt F .bf16)

theorem lt0 (y : S256x9216.Idx) : (y 0).val < 256 := (y 0).isLt
theorem lt1 (y : S256x9216.Idx) : (y 1).val < 9216 := (y 1).isLt

/-- Every weight code. -/
def codesAll : S256x9216.Idx → Elt F .fp8e4m3 := fun y =>
  codesW (View.ld (Val := Elt F) W (rW (b := (y 0).val / 128) (q := (y 1).val / 128) (by have := lt0 y; omega) (by have := lt1 y; omega)))
    (ix2 (n0 := 128) (n1 := 128) ⟨(y 0).val % 128, by omega⟩ ⟨(y 1).val % 128, by omega⟩)

theorem blockC_at (C : S256x9216.Idx → Elt F .fp8e4m3) (y : S256x9216.Idx) {b q : ℕ} (hb : b < 2) (hq : q < 72)
    (h0 : (y 0).val / 128 = b) (h1 : (y 1).val / 128 = q) : blockC W hb hq C y = codesAll W y := by
  subst h0 h1
  exact put_at C _ _ _ y (ix2 (n0 := 128) (n1 := 128) ⟨(y 0).val % 128, by omega⟩ ⟨(y 1).val % 128, by omega⟩) fun a => by
    fin_cases a
    · show (y 0).val = 128 * ((y 0).val / 128) + (y 0).val % 128; omega
    · show (y 1).val = 128 * ((y 1).val / 128) + (y 1).val % 128; omega

theorem blockC_off (C : S256x9216.Idx → Elt F .fp8e4m3) (y : S256x9216.Idx) {b q : ℕ} (hb : b < 2) (hq : q < 72)
    (h : (y 0).val / 128 ≠ b ∨ (y 1).val / 128 ≠ q) : blockC W hb hq C y = C y := by
  rcases h with h | h
  · exact put_off C _ _ _ y 0 (by show (y 0).val < 128 * b ∨ 128 * b + 128 ≤ (y 0).val; omega)
  · exact put_off C _ _ _ y 1 (by show (y 1).val < 128 * q ∨ 128 * q + 128 ≤ (y 1).val; omega)

theorem chunkC_off (C : S256x9216.Idx → Elt F .fp8e4m3) (y : S256x9216.Idx) {c : ℕ} (hc : c < 36) (h : (y 1).val / 256 ≠ c) :
    chunkC W hc C y = C y := by
  exact (blockC_off W _ y _ _ (.inr (by omega))).trans ((blockC_off W _ y _ _ (.inr (by omega))).trans ((blockC_off W _ y _ _ (.inr (by omega))).trans (blockC_off W _ y _ _ (.inr (by omega)))))

theorem chunkC_at (C : S256x9216.Idx → Elt F .fp8e4m3) (y : S256x9216.Idx) {c : ℕ} (hc : c < 36) (h : (y 1).val / 256 = c) :
    chunkC W hc C y = codesAll W y := by
  have := lt0 y
  by_cases h0 : (y 0).val / 128 = 0 <;> by_cases h1 : (y 1).val / 128 = 2 * c
  · exact (blockC_off W _ y _ _ (.inl (by omega))).trans ((blockC_off W _ y _ _ (.inl (by omega))).trans ((blockC_off W _ y _ _ (.inr (by omega))).trans (blockC_at W _ y _ _ (by omega) (by omega))))
  · exact (blockC_off W _ y _ _ (.inl (by omega))).trans ((blockC_off W _ y _ _ (.inl (by omega))).trans (blockC_at W _ y _ _ (by omega) (by omega)))
  · exact (blockC_off W _ y _ _ (.inr (by omega))).trans (blockC_at W _ y _ _ (by omega) (by omega))
  · exact blockC_at W _ y _ _ (by omega) (by omega)

theorem chunksC_apply : ∀ (n : ℕ) (h : n ≤ 36) (C : S256x9216.Idx → Elt F .fp8e4m3) (y : S256x9216.Idx),
    chunksC W n h C y = if 36 - n ≤ (y 1).val / 256 then codesAll W y else C y
  | 0, h, C, y => by
    have := lt1 y
    rw [chunksC, if_neg (by omega)]
  | n + 1, h, C, y => by
    rw [chunksC, chunksC_apply n]
    by_cases h1 : 36 - n ≤ (y 1).val / 256
    · rw [if_pos h1, if_pos (by omega)]
    · rw [if_neg h1]
      by_cases h2 : (y 1).val / 256 = 35 - n
      · rw [if_pos (by omega), chunkC_at _ _ _ _ h2]
      · rw [if_neg (by omega), chunkC_off _ _ _ _ h2]

/-- The codes after the whole step. -/
theorem chunksC_all (C : S256x9216.Idx → Elt F .fp8e4m3) : chunksC W 36 le_rfl C = codesAll W :=
  funext fun y => by rw [chunksC_apply, if_pos (by omega)]

theorem lts1 (y : S1x2x72.Idx) : (y 1).val < 2 := (y 1).isLt
theorem lts2 (y : S1x2x72.Idx) : (y 2).val < 72 := (y 2).isLt

/-- Every weight scale. -/
def scalesAll : S1x2x72.Idx → Elt F .f32 := fun y =>
  shapeCast S1x1x1 (sc W (lts1 y) (lts2 y)) shapeCasts_S1x1_S1x1x1 (ix3 (n0 := 1) (n1 := 1) (n2 := 1) 0 0 0)

theorem blockS_at (S : S1x2x72.Idx → Elt F .f32) (y : S1x2x72.Idx) {b q : ℕ} (hb : b < 2) (hq : q < 72)
    (h0 : (y 1).val = b) (h1 : (y 2).val = q) : blockS W hb hq S y = scalesAll W y := by
  subst h0 h1
  exact put_at S _ _ _ y (ix3 (n0 := 1) (n1 := 1) (n2 := 1) 0 0 0) fun a => by
    fin_cases a
    · show (y 0).val = 0 + 0; have : (y 0).val < 1 := (y 0).isLt; omega
    · show (y 1).val = (y 1).val + 0; omega
    · show (y 2).val = (y 2).val + 0; omega

theorem blockS_off (S : S1x2x72.Idx → Elt F .f32) (y : S1x2x72.Idx) {b q : ℕ} (hb : b < 2) (hq : q < 72)
    (h : (y 1).val ≠ b ∨ (y 2).val ≠ q) : blockS W hb hq S y = S y := by
  rcases h with h | h
  · exact put_off S _ _ _ y 1 (by show (y 1).val < b ∨ b + 1 ≤ (y 1).val; omega)
  · exact put_off S _ _ _ y 2 (by show (y 2).val < q ∨ q + 1 ≤ (y 2).val; omega)

theorem chunkS_off (S : S1x2x72.Idx → Elt F .f32) (y : S1x2x72.Idx) {c : ℕ} (hc : c < 36) (h : (y 2).val / 2 ≠ c) :
    chunkS W hc S y = S y := by
  exact (blockS_off W _ y _ _ (.inr (by omega))).trans ((blockS_off W _ y _ _ (.inr (by omega))).trans ((blockS_off W _ y _ _ (.inr (by omega))).trans (blockS_off W _ y _ _ (.inr (by omega)))))

theorem chunkS_at (S : S1x2x72.Idx → Elt F .f32) (y : S1x2x72.Idx) {c : ℕ} (hc : c < 36) (h : (y 2).val / 2 = c) :
    chunkS W hc S y = scalesAll W y := by
  have := lts1 y
  by_cases h0 : (y 1).val = 0 <;> by_cases h1 : (y 2).val = 2 * c
  · exact (blockS_off W _ y _ _ (.inl (by omega))).trans ((blockS_off W _ y _ _ (.inl (by omega))).trans ((blockS_off W _ y _ _ (.inr (by omega))).trans (blockS_at W _ y _ _ (by omega) (by omega))))
  · exact (blockS_off W _ y _ _ (.inl (by omega))).trans ((blockS_off W _ y _ _ (.inl (by omega))).trans (blockS_at W _ y _ _ (by omega) (by omega)))
  · exact (blockS_off W _ y _ _ (.inr (by omega))).trans (blockS_at W _ y _ _ (by omega) (by omega))
  · exact blockS_at W _ y _ _ (by omega) (by omega)

theorem chunksS_apply : ∀ (n : ℕ) (h : n ≤ 36) (S : S1x2x72.Idx → Elt F .f32) (y : S1x2x72.Idx),
    chunksS W n h S y = if 36 - n ≤ (y 2).val / 2 then scalesAll W y else S y
  | 0, h, S, y => by
    have := lts2 y
    rw [chunksS, if_neg (by omega)]
  | n + 1, h, S, y => by
    rw [chunksS, chunksS_apply n]
    by_cases h1 : 36 - n ≤ (y 2).val / 2
    · rw [if_pos h1, if_pos (by omega)]
    · rw [if_neg h1]
      by_cases h2 : (y 2).val / 2 = 35 - n
      · rw [if_pos (by omega), chunkS_at _ _ _ _ h2]
      · rw [if_neg (by omega), chunkS_off _ _ _ _ h2]

/-- The scales after the whole step. -/
theorem chunksS_all (S : S1x2x72.Idx → Elt F .f32) : chunksS W 36 le_rfl S = scalesAll W :=
  funext fun y => by rw [chunksS_apply, if_pos (by omega)]

theorem lta1 (y : S8x9216.Idx) : (y 1).val < 9216 := (y 1).isLt

/-- One chunk's columns of the accumulator. -/
def accChunk (x : FVec F S16x256 .bf16) (A : S8x9216.Idx → Elt F .f32) {c : ℕ} (hc : c < 36) : FVec F S8x256 .f32 :=
  accStep x (View.ld (Val := Elt F) (codesAll W) (rP hc)) (View.ld (Val := Elt F) A (rA hc))
    (sc W (b := 0) (q := 2 * c) (by omega) (by omega)) (sc W (b := 0) (q := 2 * c + 1) (by omega) (by omega))
    (sc W (b := 1) (q := 2 * c) (by omega) (by omega)) (sc W (b := 1) (q := 2 * c + 1) (by omega) (by omega))

/-- The accumulator after a step that found it at `A`. -/
def accAll (x : FVec F S16x256 .bf16) (A : S8x9216.Idx → Elt F .f32) : S8x9216.Idx → Elt F .f32 := fun y =>
  accChunk W x A (c := (y 1).val / 256) (by have := lta1 y; omega)
    (ix2 (n0 := 8) (n1 := 256) (y 0) ⟨(y 1).val % 256, by omega⟩)

theorem panel (C : S256x9216.Idx → Elt F .fp8e4m3) {c : ℕ} (hc : c < 36) :
    View.ld (Val := Elt F) (chunkC W hc C) (rP hc) = View.ld (Val := Elt F) (codesAll W) (rP hc) :=
  funext fun z => chunkC_at W C _ hc (by
    have h : (((rP hc).idx z) 1).val = 256 * c + 1 * (z 1).val := rfl
    have hz : (z 1).val < 256 := (z 1).isLt
    rw [h]; omega)

theorem chunkA_off (x : FVec F S16x256 .bf16) (C : S256x9216.Idx → Elt F .fp8e4m3) (A : S8x9216.Idx → Elt F .f32) (y : S8x9216.Idx)
    {c : ℕ} (hc : c < 36) (h : (y 1).val / 256 ≠ c) : chunkA W x hc C A y = A y :=
  put_off A _ _ _ y 1 (by show (y 1).val < 256 * c ∨ 256 * c + 256 ≤ (y 1).val; omega)

theorem chunkA_at (x : FVec F S16x256 .bf16) (C : S256x9216.Idx → Elt F .fp8e4m3) (A : S8x9216.Idx → Elt F .f32) (y : S8x9216.Idx)
    {c : ℕ} (hc : c < 36) (h : (y 1).val / 256 = c) : chunkA W x hc (chunkC W hc C) A y = accAll W x A y := by
  subst h
  unfold chunkA
  rw [panel]
  exact put_at A _ _ _ y (ix2 (n0 := 8) (n1 := 256) (y 0) ⟨(y 1).val % 256, by omega⟩) fun a => by
    fin_cases a
    · show (y 0).val = 0 + (y 0).val; omega
    · show (y 1).val = 256 * ((y 1).val / 256) + (y 1).val % 256; omega

theorem accAll_chunkA (x : FVec F S16x256 .bf16) (C : S256x9216.Idx → Elt F .fp8e4m3) (A : S8x9216.Idx → Elt F .f32) (y : S8x9216.Idx)
    {c : ℕ} (hc : c < 36) (h : (y 1).val / 256 ≠ c) : accAll W x (chunkA W x hc C A) y = accAll W x A y := by
  have e : View.ld (Val := Elt F) (chunkA W x hc C A) (rA (c := (y 1).val / 256) (by have := lta1 y; omega))
      = View.ld (Val := Elt F) A (rA (c := (y 1).val / 256) (by have := lta1 y; omega)) :=
    funext fun z => chunkA_off W x C A _ hc (by
      have e : (((rA (c := (y 1).val / 256) (by have := lta1 y; omega)).idx z) 1).val = 256 * ((y 1).val / 256) + 1 * (z 1).val := rfl
      have hz : (z 1).val < 256 := (z 1).isLt
      rw [e]; omega)
  unfold accAll accChunk
  rw [e]

theorem chunksA_apply (x : FVec F S16x256 .bf16) : ∀ (n : ℕ) (h : n ≤ 36) (C : S256x9216.Idx → Elt F .fp8e4m3)
    (A : S8x9216.Idx → Elt F .f32) (y : S8x9216.Idx),
    chunksA W x n h C A y = if 36 - n ≤ (y 1).val / 256 then accAll W x A y else A y
  | 0, h, C, A, y => by
    have := lta1 y
    rw [chunksA, if_neg (by omega)]
  | n + 1, h, C, A, y => by
    rw [chunksA, chunksA_apply x n]
    by_cases h1 : 36 - n ≤ (y 1).val / 256
    · rw [if_pos h1, if_pos (by omega), accAll_chunkA _ _ _ _ _ _ (by omega)]
    · rw [if_neg h1]
      by_cases h2 : (y 1).val / 256 = 35 - n
      · rw [if_pos (by omega), chunkA_at _ _ _ _ _ _ h2]
      · rw [if_neg (by omega), chunkA_off _ _ _ _ _ _ h2]

/-- The accumulator after the whole step. -/
theorem chunksA_all (x : FVec F S16x256 .bf16) (C : S256x9216.Idx → Elt F .fp8e4m3) (A : S8x9216.Idx → Elt F .f32) :
    chunksA W x 36 le_rfl C A = accAll W x A :=
  funext fun y => by rw [chunksA_apply, if_pos (by omega)]

end

/-! ## The groups -/

section
variable (N : FVec F S3x2304 .f32)

theorem ltx1 (y : S3x2304.Idx) : (y 1).val < 2304 := (y 1).isLt
theorem ltt1 (y : S3x18.Idx) : (y 1).val < 18 := (y 1).isLt
theorem ltl0 (y : S9x16x256.Idx) : (y 0).val < 9 := (y 0).isLt
theorem ltl1 (y : S9x16x256.Idx) : (y 1).val < 16 := (y 1).isLt
theorem ltl2 (y : S9x16x256.Idx) : (y 2).val < 256 := (y 2).isLt

/-- Every activation code. -/
def actCodes : S3x2304.Idx → Elt F .fp8e4m3 := fun y =>
  codesX (grp N (g := (y 1).val / 128) (by have := ltx1 y; omega))
    (ix2 (n0 := 3) (n1 := 128) (y 0) ⟨(y 1).val % 128, by omega⟩)
/-- Every activation scale. -/
def actScales : S3x18.Idx → Elt F .f32 := fun y => scaleX (grp N (ltt1 y)) (ix2 (n0 := 3) (n1 := 1) (y 0) 0)

theorem groupsC_apply : ∀ (k : ℕ) (h : k ≤ 18) (C : S3x2304.Idx → Elt F .fp8e4m3) (y : S3x2304.Idx),
    groupsC N k h C y = if 18 - k ≤ (y 1).val / 128 then actCodes N y else C y
  | 0, h, C, y => by
    have := ltx1 y
    rw [groupsC, if_neg (by omega)]
  | k + 1, h, C, y => by
    rw [groupsC, groupsC_apply k]
    by_cases h1 : 18 - k ≤ (y 1).val / 128
    · rw [if_pos h1, if_pos (by omega)]
    · rw [if_neg h1]
      by_cases h2 : (y 1).val / 128 = 17 - k
      · rw [if_pos (by omega)]
        have e : ∀ (g : ℕ) (hg : g < 18), (y 1).val / 128 = g → groupC N hg C y = actCodes N y := by
          rintro g hg rfl
          exact put_at C _ _ _ y (ix2 (n0 := 3) (n1 := 128) (y 0) ⟨(y 1).val % 128, by omega⟩) fun a => by
            fin_cases a
            · show (y 0).val = 0 + (y 0).val; omega
            · show (y 1).val = 128 * ((y 1).val / 128) + (y 1).val % 128; omega
        exact e _ _ h2
      · rw [if_neg (by omega)]
        exact put_off C _ _ _ y 1 (by show (y 1).val < 128 * (17 - k) ∨ 128 * (17 - k) + 128 ≤ (y 1).val; omega)

/-- The activation codes after the groups. -/
theorem groupsC_all (C : S3x2304.Idx → Elt F .fp8e4m3) : groupsC N 18 le_rfl C = actCodes N :=
  funext fun y => by rw [groupsC_apply, if_pos (by omega)]

theorem groupsT_apply : ∀ (k : ℕ) (h : k ≤ 18) (T : S3x18.Idx → Elt F .f32) (y : S3x18.Idx),
    groupsT N k h T y = if 18 - k ≤ (y 1).val then actScales N y else T y
  | 0, h, T, y => by
    have := ltt1 y
    rw [groupsT, if_neg (by omega)]
  | k + 1, h, T, y => by
    rw [groupsT, groupsT_apply k]
    by_cases h1 : 18 - k ≤ (y 1).val
    · rw [if_pos h1, if_pos (by omega)]
    · rw [if_neg h1]
      by_cases h2 : (y 1).val = 17 - k
      · rw [if_pos (by omega)]
        have e : ∀ (g : ℕ) (hg : g < 18), (y 1).val = g → groupT N hg T y = actScales N y := by
          rintro g hg rfl
          exact put_at T _ _ _ y (ix2 (n0 := 3) (n1 := 1) (y 0) 0) fun a => by
            fin_cases a
            · show (y 0).val = 0 + (y 0).val; omega
            · show (y 1).val = (y 1).val + 0; omega
        exact e _ _ h2
      · rw [if_neg (by omega)]
        exact put_off T _ _ _ y 1 (by show (y 1).val < (17 - k) ∨ (17 - k) + 1 ≤ (y 1).val; omega)

/-- The activation scales after the groups. -/
theorem groupsT_all (T : S3x18.Idx → Elt F .f32) : groupsT N 18 le_rfl T = actScales N :=
  funext fun y => by rw [groupsT_apply, if_pos (by omega)]

/-- A number of the matmul's rows, where one is put. -/
def rowsAt (y : S9x16x256.Idx) : Elt F .bf16 :=
  backX (grp N (g := 2 * (y 0).val + (y 2).val / 128) (by have := ltl0 y; have := ltl2 y; omega))
    (ix3 (n0 := 1) (n1 := 3) (n2 := 128) 0 ⟨(y 1).val % 8 % 3, by omega⟩ ⟨(y 2).val % 128, by omega⟩)

theorem groupL_at (L : S9x16x256.Idx → Elt F .bf16) (y : S9x16x256.Idx) {g s h : ℕ} (hg : g < 18) (hs : s < 9) (hh : h < 2) (hgs : g = 2 * s + h)
    (h0 : (y 0).val = s) (h1 : (y 1).val / 8 = h) (h2 : (y 2).val / 128 = h) (h3 : (y 1).val % 8 < 3) :
    groupL N hg hs hh L y = rowsAt N y := by
  subst hgs h0 h2
  refine (put_at L _ _ _ y (ix3 (n0 := 1) (n1 := 4) (n2 := 128) 0 ⟨(y 1).val % 8, by omega⟩ ⟨(y 2).val % 128, by omega⟩) fun a => ?_).trans ?_
  · fin_cases a
    · show (y 0).val = (y 0).val + 0; omega
    · show (y 1).val = 8 * ((y 2).val / 128) + (y 1).val % 8; omega
    · show (y 2).val = 128 * ((y 2).val / 128) + (y 2).val % 128; omega
  · refine (congrFun (VecWindow.put_eq_updateSlice (s := S1x4x128) _ _ S1x3x128.size slices_S1x4x128_S1x3x128_0_0_0.2 _).symm _).trans ?_
    refine put_at (s := S1x4x128) _ _ _ _ _ (ix3 (n0 := 1) (n1 := 3) (n2 := 128) 0 ⟨(y 1).val % 8 % 3, by omega⟩ ⟨(y 2).val % 128, by omega⟩) fun a => ?_
    fin_cases a
    · rfl
    · show (y 1).val % 8 = 0 + (y 1).val % 8 % 3; omega
    · show (y 2).val % 128 = 0 + (y 2).val % 128; omega

theorem groupL_off (L : S9x16x256.Idx → Elt F .bf16) (y : S9x16x256.Idx) {g s h : ℕ} (hg : g < 18) (hs : s < 9) (hh : h < 2)
    (hy : (y 0).val ≠ s ∨ (y 1).val / 8 ≠ h ∨ (y 2).val / 128 ≠ h ∨ 3 ≤ (y 1).val % 8) :
    groupL N hg hs hh L y = L y := by
  by_cases h0 : (y 0).val = s
  swap
  · exact put_off L _ _ _ y 0 (by show (y 0).val < s ∨ s + 1 ≤ (y 0).val; omega)
  by_cases h2 : (y 2).val / 128 = h
  swap
  · exact put_off L _ _ _ y 2 (by show (y 2).val < 128 * h ∨ 128 * h + 128 ≤ (y 2).val; omega)
  by_cases h1 : 8 * h ≤ (y 1).val ∧ (y 1).val < 8 * h + 4
  swap
  · exact put_off L _ _ _ y 1 (by show (y 1).val < 8 * h ∨ 8 * h + 4 ≤ (y 1).val; omega)
  have h3 : 3 ≤ (y 1).val % 8 := by omega
  subst h0 h2
  refine (put_at L _ _ _ y (ix3 (n0 := 1) (n1 := 4) (n2 := 128) 0 ⟨(y 1).val % 8, by omega⟩ ⟨(y 2).val % 128, by omega⟩) fun a => ?_).trans ?_
  · fin_cases a
    · show (y 0).val = (y 0).val + 0; omega
    · show (y 1).val = 8 * ((y 2).val / 128) + (y 1).val % 8; omega
    · show (y 2).val = 128 * ((y 2).val / 128) + (y 2).val % 128; omega
  · refine (congrFun (VecWindow.put_eq_updateSlice (s := S1x4x128) _ _ S1x3x128.size slices_S1x4x128_S1x3x128_0_0_0.2 _).symm _).trans ?_
    refine (put_off _ _ _ _ _ 1 (Or.inr ?_)).trans ?_
    · show 0 + 3 ≤ (y 1).val % 8; omega
    · refine congrArg L (funext fun a => Fin.ext ?_)
      fin_cases a
      · show (y 0).val + 1 * 0 = (y 0).val; omega
      · show 8 * ((y 2).val / 128) + 1 * ((y 1).val % 8) = (y 1).val; omega
      · show 128 * ((y 2).val / 128) + 1 * ((y 2).val % 128) = (y 2).val; omega

theorem groupsL_apply : ∀ (k : ℕ) (h : k ≤ 18) (L : S9x16x256.Idx → Elt F .bf16) (y : S9x16x256.Idx),
    groupsL N k h L y = if 18 - k ≤ 2 * (y 0).val + (y 2).val / 128 ∧ (y 1).val / 8 = (y 2).val / 128 ∧ (y 1).val % 8 < 3
      then rowsAt N y else L y
  | 0, h, L, y => by
    have := ltl0 y; have := ltl2 y
    rw [groupsL, if_neg (by omega)]
  | k + 1, h, L, y => by
    have := ltl2 y
    rw [groupsL, groupsL_apply k]
    by_cases h1 : 18 - k ≤ 2 * (y 0).val + (y 2).val / 128 ∧ (y 1).val / 8 = (y 2).val / 128 ∧ (y 1).val % 8 < 3
    · rw [if_pos h1, if_pos (by omega)]
    · rw [if_neg h1]
      by_cases h2 : 2 * (y 0).val + (y 2).val / 128 = 17 - k ∧ (y 1).val / 8 = (y 2).val / 128 ∧ (y 1).val % 8 < 3
      · rw [if_pos (by omega), groupL_at _ _ _ _ _ _ (by omega) (by omega) (by omega) (by omega) (by omega)]
      · rw [if_neg (by omega), groupL_off _ _ _ _ _ _ (by omega)]

/-- The matmul's rows, put over contents `L`. -/
def rowsAll (L : S9x16x256.Idx → Elt F .bf16) : S9x16x256.Idx → Elt F .bf16 := fun y =>
  if (y 1).val / 8 = (y 2).val / 128 ∧ (y 1).val % 8 < 3 then rowsAt N y else L y

/-- The matmul's rows after the groups. -/
theorem groupsL_all (L : S9x16x256.Idx → Elt F .bf16) : groupsL N 18 le_rfl L = rowsAll N L :=
  funext fun y => by
    rw [groupsL_apply, rowsAll]
    by_cases h : (y 1).val / 8 = (y 2).val / 128 ∧ (y 1).val % 8 < 3
    · rw [if_pos h, if_pos ⟨by omega, h⟩]
    · rw [if_neg h, if_neg (fun h' => h h'.2)]

end

end Cert.KernelIdeal.Rolled
-- ==== Proof.KernelIdeal.Step.lean ====
/- The whole body, run: what a step leaves in every buffer, from what it finds there. -/
module

public import proofs.«01_k».proof.Proof.KernelIdeal.Closed

@[expose] public section

set_option maxRecDepth 65536

noncomputable section

namespace Cert.KernelIdeal.Rolled

open Cert.KernelIdeal Cert.KernelIdeal.Gen
open Idealize.ShloMosaic Idealize.ShloMosaic.TcCoe
open Idealize.SL
open Idealize.SL.BI (sProp)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (UR sig nD τ) ℕ

section
variable {s : Shape} {e : EltTy} (X : s.Idx → Elt F e) {off : Fin s.rank → ℕ} (inb : ∀ a, off a + s.size a ≤ s.size a)

/-- A load of the whole buffer reads the buffer. -/
theorem ld_full : View.ld (Val := Elt F) X (Rect.unit off s.size inb) = X :=
  funext fun y => congrArg X (funext fun a => Fin.ext (by
    show off a + 1 * (y a).val = (y a).val
    have := inb a; omega))

/-- A store over the whole buffer leaves the payload. -/
theorem upd_full (w : s.Idx → Elt F e) : upd X inb w = w :=
  funext fun y => put_at X off s.size w y y fun a => by have := inb a; omega

end

/-- The rows the matmul of step `i` takes, of all the steps' rows. -/
def rowsOf (i : grid0.Coords) (L : S9x16x256.Idx → Elt F .bf16) : FVec F S16x256 .bf16 :=
  shapeCast S16x256 (View.ld (Val := Elt F) L (Rect.unit (s := S9x16x256) (k0_off1 i) S1x16x256.size (k0_off1_inb i)))
    shapeCasts_S1x16x256_S16x256

/-- The result `y`, of the accumulator after the last step. -/
def yOf (A : S8x9216.Idx → Elt F .f32) : S3x9216.Idx → Elt F .bf16 :=
  truncf .bf16 (View.ld (Val := Elt F) A (Rect.unit (s := S8x9216) ![0, 0] S3x9216.size inb_S8x9216_S3x9216_0_0)) bitsLt_bf16_f32

/-- The matmul's rows before any group is put there. -/
def rows0 : S9x16x256.Idx → Elt F .bf16 :=
  shapeCast S9x16x256 (broadcast S9x16x256 (Scalar.ofBits .bf16 0x0000#16)) shapeCasts_S9x16x256_S9x16x256
/-- The accumulator before the first step. -/
def acc0 : S8x9216.Idx → Elt F .f32 :=
  shapeCast S8x9216 (broadcast S8x9216 (Scalar.ofBits .f32 0x00000000#32)) shapeCasts_S8x9216_S8x9216

variable (c : Dev nD)

section
variable (i : grid0.Coords) (arg1 : Memref sig .tc .vmem S3x2304 .bf16) (harg1 : arg1.IsWhole)
  (arg2 : Memref sig .tc .vmem S3x2304 .bf16) (harg2 : arg2.IsWhole) (arg3 : Memref sig .tc .vmem S1x2304 .f32) (harg3 : arg3.IsWhole)
  (arg4 : Memref sig .tc .vmem S256x9216 .bf16) (harg4 : arg4.IsWhole) (arg5 : Memref sig .tc .vmem S3x9216 .bf16) (harg5 : arg5.IsWhole)
  (arg6 : Memref sig .tc .vmem S3x2304 .bf16) (harg6 : arg6.IsWhole) (arg7 : Memref sig .tc .vmem S3x2304 .fp8e4m3) (harg7 : arg7.IsWhole)
  (arg8 : Memref sig .tc .vmem S3x18 .f32) (harg8 : arg8.IsWhole) (arg9 : Memref sig .tc .vmem S256x9216 .fp8e4m3) (harg9 : arg9.IsWhole)
  (arg10 : Memref sig .tc .vmem S1x2x72 .f32) (harg10 : arg10.IsWhole) (arg11 : Memref sig .tc .vmem S9x16x256 .bf16) (harg11 : arg11.IsWhole)
  (arg12 : Memref sig .tc .vmem S8x9216 .f32) (harg12 : arg12.IsWhole)

include harg12 in
/-- The last step's store. -/
theorem finish_wp_last (Q : PUnit.{1} → sProp 𝕄) (h2 : k0_cond2 i = 1#1) (Y : S3x9216.Idx → Elt F .bf16) (A : S8x9216.Idx → Elt F .f32) :
    iprop(owns (c : Thread nD τ) arg5 fullShare Y ∗ owns (c : Thread nD τ) arg12 fullShare A)
      ⊢ iprop((owns (c : Thread nD τ) arg5 fullShare (yOf A) -∗ owns (c : Thread nD τ) arg12 fullShare A -∗ Q ⟨⟩)
        -∗ Wp c (finish i arg5 harg5 arg12) Q) := by
  unfold finish yOf
  rw [dif_pos h2]
  iintro ⟨H5, H12⟩ HK
  iapply (own_load c arg12 Q harg12 A) $$ H12; iintro H12
  iapply (own_load c arg5 Q harg5 Y) $$ H5; iintro H5
  iapply (own_store c arg5 Q harg5 Y inb_S3x9216_S3x9216_0_0) $$ H5
  rw [upd_full]
  iintro H5
  iapply le_wp_ret
  iapply HK $$ H5 H12

/-- The other steps store nothing there. -/
theorem finish_wp_not (Q : PUnit.{1} → sProp 𝕄) (h2 : k0_cond2 i ≠ 1#1) : Q ⟨⟩ ⊢ Wp c (finish i arg5 harg5 arg12) Q := by
  unfold finish
  rw [dif_neg h2]
  exact le_wp_ret _ _ _ _ _

include harg4 harg10 harg11 harg12 in
/-- A step after its prologue, up to the last store. -/
theorem step_wp (Q : PUnit.{1} → sProp 𝕄) (W : S256x9216.Idx → Elt F .bf16) (C : S256x9216.Idx → Elt F .fp8e4m3)
    (S : S1x2x72.Idx → Elt F .f32) (L : S9x16x256.Idx → Elt F .bf16) (A : S8x9216.Idx → Elt F .f32) :
    iprop(owns (c : Thread nD τ) arg4 fullShare W ∗ owns (c : Thread nD τ) arg9 fullShare C ∗ owns (c : Thread nD τ) arg10 fullShare S
        ∗ owns (c : Thread nD τ) arg11 fullShare L ∗ owns (c : Thread nD τ) arg12 fullShare A)
      ⊢ iprop((owns (c : Thread nD τ) arg4 fullShare W -∗ owns (c : Thread nD τ) arg9 fullShare (codesAll W)
          -∗ owns (c : Thread nD τ) arg10 fullShare (scalesAll W) -∗ owns (c : Thread nD τ) arg11 fullShare L
          -∗ owns (c : Thread nD τ) arg12 fullShare (accAll W (rowsOf i L) A) -∗ Wp c (finish i arg5 harg5 arg12) Q)
        -∗ Wp c (step i arg4 arg5 harg5 arg9 harg9 arg10 arg11 arg12) Q) := by
  unfold step rowsOf
  iintro ⟨H4, H9, H10, H11, H12⟩ HK
  iapply (own_load c arg11 Q harg11 L) $$ H11; iintro H11
  iapply (chunks_wp c arg4 harg4 arg9 harg9 arg10 harg10 arg12 harg12 W Q) $$ [H4 H9 H10 H12]
  · iframe
  rw [chunksC_all, chunksS_all, chunksA_all]
  iintro H4 H9 H10 H12
  iapply HK $$ H4 H9 H10 H11 H12

include harg1 harg2 harg3 harg8 harg12 in
/-- The prologue. -/
theorem prologue_wp (Q : PUnit.{1} → sProp 𝕄) (K : P (F := F) PUnit) (x r : S3x2304.Idx → Elt F .bf16) (g : S1x2304.Idx → Elt F .f32)
    (O : S3x2304.Idx → Elt F .bf16) (C : S3x2304.Idx → Elt F .fp8e4m3) (T : S3x18.Idx → Elt F .f32) (L : S9x16x256.Idx → Elt F .bf16)
    (A : S8x9216.Idx → Elt F .f32) :
    iprop(owns (c : Thread nD τ) arg1 fullShare x ∗ owns (c : Thread nD τ) arg2 fullShare r ∗ owns (c : Thread nD τ) arg3 fullShare g
        ∗ owns (c : Thread nD τ) arg6 fullShare O ∗ owns (c : Thread nD τ) arg7 fullShare C ∗ owns (c : Thread nD τ) arg8 fullShare T
        ∗ owns (c : Thread nD τ) arg11 fullShare L ∗ owns (c : Thread nD τ) arg12 fullShare A)
      ⊢ iprop((owns (c : Thread nD τ) arg1 fullShare x -∗ owns (c : Thread nD τ) arg2 fullShare r -∗ owns (c : Thread nD τ) arg3 fullShare g
          -∗ owns (c : Thread nD τ) arg6 fullShare (resid x r) -∗ owns (c : Thread nD τ) arg7 fullShare (actCodes (normed (resid x r) g))
          -∗ owns (c : Thread nD τ) arg8 fullShare (actScales (normed (resid x r) g))
          -∗ owns (c : Thread nD τ) arg11 fullShare (rowsAll (normed (resid x r) g) rows0)
          -∗ owns (c : Thread nD τ) arg12 fullShare acc0 -∗ Wp c K Q)
        -∗ Wp c (prologue arg1 arg2 arg3 arg6 harg6 arg7 harg7 arg8 arg11 harg11 arg12 K) Q) := by
  unfold prologue rows0 acc0
  iintro ⟨H1, H2, H3, H6, H7, H8, H11, H12⟩ HK
  iapply (own_load c arg1 Q harg1 x) $$ H1; iintro H1
  iapply (own_load c arg2 Q harg2 r) $$ H2; iintro H2
  iapply (own_load c arg6 Q harg6 O) $$ H6; iintro H6
  rw [ld_full, ld_full]
  iapply (own_store c arg6 Q harg6 O inb_S3x2304_S3x2304_0_0) $$ H6
  rw [upd_full]
  iintro H6
  iapply (own_load c arg3 Q harg3 g) $$ H3; iintro H3
  rw [ld_full]
  iapply (own_load c arg11 Q harg11 L) $$ H11; iintro H11
  iapply (own_store c arg11 Q harg11 L inb_S9x16x256_S9x16x256_0_0_0) $$ H11
  rw [upd_full]
  iintro H11
  iapply (own_load c arg12 Q harg12 A) $$ H12; iintro H12
  iapply (own_store c arg12 Q harg12 A inb_S8x9216_S8x9216_0_0) $$ H12
  rw [upd_full]
  iintro H12
  iapply (groups_wp c arg7 harg7 arg8 harg8 arg11 harg11 (normed (resid x r) g) Q) $$ [H7 H8 H11]
  · iframe
  rw [groupsC_all, groupsT_all, groupsL_all]
  iintro H7 H8 H11
  iapply HK $$ H1 H2 H3 H6 H7 H8 H11 H12

end

end Cert.KernelIdeal.Rolled
-- ==== Proof.KernelIdeal.Run.lean ====
/- The run: what every buffer holds at every step, the body's obligation at each, and the whole program's run from it. -/
module

public import proofs.«01_k».proof.Proof.KernelIdeal.Step

@[expose] public section

set_option maxRecDepth 65536

noncomputable section

namespace Cert.KernelIdeal.Rolled

open Cert.KernelIdeal Cert.KernelIdeal.Gen
open Idealize.ShloMosaic Idealize.ShloMosaic.TcCoe
open Idealize.SL
open Idealize.SL.BI (sProp)
open scoped Idealize.SL.BI
open Idealize.SL.BI.BIBase Idealize.SL.BI.Laws Idealize.SL.Sem Idealize.SL.ProofMode
open Idealize.SL.RA
open Idealize.SL.BI (bigSep)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The first point. -/
def t0 : Fin cfg0.N := ⟨0, by decide⟩

/-- The activations after the residual, the residual itself and the gain, as the first step finds them. -/
def residV (c : Dev nD) : S3x2304.Idx → Elt F .bf16 := resid (iblk m c 0 t0) (iblk m c 1 t0)
/-- The normalised activations. -/
def normV (c : Dev nD) : FVec F S3x2304 .f32 := normed (residV m c) (iblk m c 2 t0)
/-- The matmul's rows, all steps'. -/
def lhsV (c : Dev nD) : S9x16x256.Idx → Elt F .bf16 := rowsAll (normV m c) rows0
/-- The weights' rows of a step. -/
def wV (c : Dev nD) (t : Fin cfg0.N) : S256x9216.Idx → Elt F .bf16 := iblk m c 3 t
/-- The accumulator before step `n`. -/
def accV (c : Dev nD) : ℕ → S8x9216.Idx → Elt F .f32
  | 0 => acc0
  | n + 1 => if h : n < cfg0.N then accAll (wV m c ⟨n, h⟩) (rowsOf (grid0.coords ⟨n, h⟩) (lhsV m c)) (accV c n) else accV c n

/-- The invariant before point `n`: the scratch buffers hold the rows and the accumulator, from the second point on. -/
def PhiS (c : Dev nD) : ℕ → sProp 𝕄
  | 0 => Pipeline.ΦA spec0 c
  | n + 1 => iprop(owns (c : Thread nD τ) (Memref.whole cc0_scratch0) fullShare (lhsV m c)
      ∗ owns (c : Thread nD τ) (Memref.whole cc0_scratch1) fullShare (accV m c (n + 1)) ∗ ∃ r, prngReg c r)

/-- The proof data. -/
def dat (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => yOf (accV m c 9)
    | 5 => residV m c
    | 6 => actCodes (normV m c)
    | 7 => actScales (normV m c)
    | 8 => codesAll (wV m c t)
    | 9 => scalesAll (wV m c t)
    | ⟨_ + 10, h⟩ => absurd h (Nat.not_lt.2 (Nat.le_add_left _ _))
  Φ t := PhiS m c t.val
  q _ := fullShare
  owed _ := 0

theorem dat_A (c : Dev nD) (w : Fin cfg0.W) : (dat m c).A w = V m c (Pipeline.arrRef spec0 w) := by
  dsimp only [dat]

/-! ## The points -/

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val = 8 :=
  (by decide +kernel : ∀ t : Fin grid0.N, k0_cond2 (grid0.coords t) = 1#1 ↔ t.val = 8)
theorem lt9 (t : Fin cfg0.N) : t.val < 9 := lt_of_lt_of_eq t.isLt N_0

/-- A window that only the first point stores, written back at the end: at every later point its buffer holds what the
    first left. -/
theorem before_kept {c : Dev nD} (d : Dat τ (Elt F) Unit ℕ (UR sig nD τ) ℕ cfg0 c) (w : Fin cfg0.W) (hw : (cfg0.win w).isOut = true)
    (hflush : ∀ t : Fin cfg0.N, (cfg0.win w).flush t = true ↔ t.val % 9 = 8)
    (hidle : ∀ t : Fin cfg0.N, cfg0.idle w (grid0.coords t) = false ↔ t.val = 0)
    (hclip : ∀ (i : cfg0.grid.Coords) a, (cfg0.win w).clip i a = none) (hconst : ∀ t, d.after w t = d.after w t0) :
    ∀ (n : ℕ) (h : n + 1 < cfg0.N) (e), d.before w ⟨n + 1, h⟩ e = d.after w t0
  | 0, h, e => by
    have hN : cfg0.N = 9 := N_0
    rw [d.before_of_pos w _ (Nat.succ_ne_zero 0) ((cfg0.win w).fetch_out hw _), if_neg (by rw [hflush]; simp)]
    unfold Dat.left
    rw [(hidle _).mpr rfl]
    show d.kept w _ e = _
    unfold Dat.kept
    rw [Pipeline.fill_of_clip_none w _ (hclip _) e (d.after w _), Window.fill_cut]
    exact hconst _
  | n + 1, h, e => by
    have hN : cfg0.N = 9 := N_0
    have hi : cfg0.idle w (grid0.coords ⟨n + 1, Nat.lt_of_succ_lt h⟩) = true := by
      have := (hidle ⟨n + 1, Nat.lt_of_succ_lt h⟩).not.mpr (by simp)
      simpa using this
    rw [d.before_of_pos w _ (Nat.succ_ne_zero _) ((cfg0.win w).fetch_out hw _), if_neg (by rw [hflush]; simp; have := (show n + 1 + 1 < cfg0.N from h); omega)]
    unfold Dat.left
    show (match cfg0.idle w (grid0.coords ⟨n + 1, Nat.lt_of_succ_lt h⟩) with
      | true => d.before w ⟨n + 1, Nat.lt_of_succ_lt h⟩ e
      | false => d.kept w ⟨n + 1, Nat.lt_of_succ_lt h⟩ e) = _
    rw [hi]
    exact before_kept d w hw hflush hidle hclip hconst n (Nat.lt_of_succ_lt h) e

theorem idle_pro : ∀ t : Fin cfg0.N, (!(k0_cond1 (grid0.coords t) == 1#1)) = false ↔ t.val = 0 := fun t => by
  rw [← cond1_iff t]; simp

theorem before5 (c : Dev nD) (t : Fin cfg0.N) (ht : t.val ≠ 0) (e) : (dat m c).before 5 t e = residV m c := by
  obtain ⟨n, hn⟩ : ∃ n, t.val = n + 1 := ⟨t.val - 1, by omega⟩
  have h : n + 1 < cfg0.N := hn ▸ t.isLt
  obtain rfl : t = ⟨n + 1, h⟩ := Fin.ext hn
  exact before_kept (dat m c) 5 rfl flush0_5 idle_pro (fun _ _ => rfl) (fun _ => rfl) n h e
theorem before6 (c : Dev nD) (t : Fin cfg0.N) (ht : t.val ≠ 0) (e) : (dat m c).before 6 t e = actCodes (normV m c) := by
  obtain ⟨n, hn⟩ : ∃ n, t.val = n + 1 := ⟨t.val - 1, by omega⟩
  have h : n + 1 < cfg0.N := hn ▸ t.isLt
  obtain rfl : t = ⟨n + 1, h⟩ := Fin.ext hn
  exact before_kept (dat m c) 6 rfl flush0_6 idle_pro (fun _ _ => rfl) (fun _ => rfl) n h e
theorem before7 (c : Dev nD) (t : Fin cfg0.N) (ht : t.val ≠ 0) (e) : (dat m c).before 7 t e = actScales (normV m c) := by
  obtain ⟨n, hn⟩ : ∃ n, t.val = n + 1 := ⟨t.val - 1, by omega⟩
  have h : n + 1 < cfg0.N := hn ▸ t.isLt
  obtain rfl : t = ⟨n + 1, h⟩ := Fin.ext hn
  exact before_kept (dat m c) 7 rfl flush0_7 idle_pro (fun _ _ => rfl) (fun _ => rfl) n h e

/-- What a window's buffer is left at, as the obligation states it. -/
def Left (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dat m c).before w t d))
    | true => owns (c : Thread nD τ) ((cfg0.win w).stage (cfg0.slots t w)) fullShare ((dat m c).after w t)
  | false => owns (c : Thread nD τ) ((cfg0.win w).stage (cfg0.slots t w)) fullShare ((dat m c).after w t)

theorem left_live (c : Dev nD) (w : Fin cfg0.W) (t : Fin cfg0.N) (h : cfg0.idle w (cfg0.grid.coords t) = false) :
    Left m c w t = owns (c : Thread nD τ) ((cfg0.win w).stage (cfg0.slots t w)) fullShare ((dat m c).after w t) := by
  unfold Left; rw [h]
theorem left_flush (c : Dev nD) (w : Fin cfg0.W) (t : Fin cfg0.N) (h : (cfg0.win w).flush t = true) :
    Left m c w t = owns (c : Thread nD τ) ((cfg0.win w).stage (cfg0.slots t w)) fullShare ((dat m c).after w t) := by
  unfold Left; rw [h]; cases cfg0.idle w (cfg0.grid.coords t) <;> rfl
theorem left_idle (c : Dev nD) (w : Fin cfg0.W) (t : Fin cfg0.N) (h : cfg0.idle w (cfg0.grid.coords t) = true)
    (hf : (cfg0.win w).flush t = false) :
    Left m c w t = iprop(∃ d, owns (c : Thread nD τ) ((cfg0.win w).stage (cfg0.slots t w)) fullShare ((dat m c).before w t d)) := by
  unfold Left; rw [h, hf]

theorem row (t : Fin cfg0.N) : defs₀ (F := F) .tc cfg0.body (cfg0.bodyArgs t (cfg0.slots t)) = bodyAt0 t := by
  unfold defs₀; rw [Defs.onTc_tc]

/-- The ten windows' buffers before the body runs at a point. -/
def Pre (c : Dev nD) (t : Fin cfg0.N) : sProp 𝕄 :=
  bigSep Finset.univ fun w : Fin cfg0.W => iprop(∃ d, owns (c : Thread nD τ) ((cfg0.win w).stage (cfg0.slots t w)) fullShare ((dat m c).before w t d))

theorem accV_succ (c : Dev nD) (t : Fin cfg0.N) :
    accV m c (t.val + 1) = accAll (wV m c t) (rowsOf (grid0.coords t) (lhsV m c)) (accV m c t.val) := by
  rw [accV, dif_pos t.isLt]

theorem flush_of {w : Fin cfg0.W} (hflush : ∀ t : Fin cfg0.N, (cfg0.win w).flush t = true ↔ t.val % 9 = 8) (t : Fin cfg0.N) (h : t.val ≠ 8) :
    (cfg0.win w).flush t = false := by
  have := (hflush t).not.mpr (by have := lt9 t; omega)
  simpa using this

/-- What is held between two steps, `n` of them done: the coded rows and the sums so far. -/
def Held (c : Dev nD) (n : ℕ) : sProp 𝕄 :=
  iprop(owns (c : Thread nD τ) (Memref.whole cc0_scratch0) fullShare (lhsV m c)
    ∗ owns (c : Thread nD τ) (Memref.whole cc0_scratch1) fullShare (accV m c n) ∗ ∃ r, prngReg c r)

/-- The body at the first point. -/
theorem body_first (c : Dev nD) :
    iprop(Pipeline.ΦA spec0 c ∗ Pre m c t0) ⊢ Wp c (bodyAt0 t0) fun _ => iprop(Held m c (t0.val + 1) ∗ bigSep Finset.univ (fun w => Left m c w t0)) := by
  have h1 : k0_cond1 (grid0.coords t0) = 1#1 := (cond1_iff t0).mpr rfl
  have h2 : k0_cond2 (grid0.coords t0) ≠ 1#1 := (cond2_iff t0).not.mpr (by decide)
  have hi4 : cfg0.idle 4 (cfg0.grid.coords t0) = true := by show (!(k0_cond2 (grid0.coords t0) == 1#1)) = true; simpa using h2
  have hi : (!(k0_cond1 (grid0.coords t0) == 1#1)) = false := (idle_pro t0).mpr rfl
  unfold bodyAt0 Pre Held
  rw [body_eq, bigSep_W0, bigSep_W0]
  unfold body
  rw [dif_pos h1]
  unfold Pipeline.ΦA
  rw [scopedRest0_eq]
  simp only [← owns_whole]
  rw [left_live m c 0 t0 rfl, left_live m c 1 t0 rfl, left_live m c 2 t0 rfl, left_live m c 3 t0 rfl,
    left_idle m c 4 t0 hi4 (flush_of flush0_4 t0 (by decide)), left_live m c 5 t0 hi, left_live m c 6 t0 hi, left_live m c 7 t0 hi,
    left_live m c 8 t0 rfl, left_live m c 9 t0 rfl, accV_succ]
  iintro ⟨⟨⟨⟨%L, H11⟩, %A, H12⟩, HR⟩, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩⟩
  rw [before0_0_of m (dat m c) rfl (fun _ => rfl), before0_1_of m (dat m c) rfl (fun _ => rfl), before0_2_of m (dat m c) rfl (fun _ => rfl),
    before0_3_of m (dat m c) rfl (fun _ => rfl)]
  iapply (prologue_wp c _ (hstage0_0 _) _ (hstage0_1 _) _ (hstage0_2 _) _ (hstage0_5 _) _ (hstage0_6 _) _ (hstage0_7 _) _ (Memref.isWhole_whole _)
    _ (Memref.isWhole_whole _)) $$ [H1 H2 H3 H6 H7 H8 H11 H12]
  · iframe
  iintro H1 H2 H3 H6 H7 H8 H11 H12
  iapply (step_wp c (grid0.coords t0) _ (hstage0_3 _) _ (hstage0_4 _) _ (hstage0_8 _) _ (hstage0_9 _) _ (Memref.isWhole_whole _)
    _ (Memref.isWhole_whole _)) $$ [H4 H9 H10 H11 H12]
  · iframe
  iintro H4 H9 H10 H11 H12
  iapply finish_wp_not c (grid0.coords t0) _ _ _ _ h2
  isplitl [H11 H12 HR]
  · isplitl [H11]
    · iexact H11
    isplitl [H12]
    · iexact H12
    · iexact HR
  · isplitl [H1]; · iexact H1
    isplitl [H2]; · iexact H2
    isplitl [H3]; · iexact H3
    isplitl [H4]; · iexact H4
    isplitl [H5]; · iexists d4; iexact H5
    isplitl [H6]; · iexact H6
    isplitl [H7]; · iexact H7
    isplitl [H8]; · iexact H8
    isplitl [H9]; · iexact H9
    iexact H10

/-- The body at a point after the first and before the last. -/
theorem body_mid (c : Dev nD) (t : Fin cfg0.N) (ht : t.val ≠ 0) (ht' : t.val ≠ 8) :
    iprop(Held m c t.val ∗ Pre m c t) ⊢ Wp c (bodyAt0 t) fun _ => iprop(Held m c (t.val + 1) ∗ bigSep Finset.univ (fun w => Left m c w t)) := by
  have h1 : k0_cond1 (grid0.coords t) ≠ 1#1 := (cond1_iff t).not.mpr ht
  have h2 : k0_cond2 (grid0.coords t) ≠ 1#1 := (cond2_iff t).not.mpr ht'
  have hi4 : cfg0.idle 4 (cfg0.grid.coords t) = true := by show (!(k0_cond2 (grid0.coords t) == 1#1)) = true; simpa using h2
  have hi : (!(k0_cond1 (grid0.coords t) == 1#1)) = true := by simpa using h1
  unfold bodyAt0 Pre Held
  rw [body_eq, bigSep_W0, bigSep_W0]
  unfold body
  rw [dif_neg h1]
  rw [left_live m c 0 t rfl, left_live m c 1 t rfl, left_live m c 2 t rfl, left_live m c 3 t rfl,
    left_idle m c 4 t hi4 (flush_of flush0_4 t ht'), left_idle m c 5 t hi (flush_of flush0_5 t ht'), left_idle m c 6 t hi (flush_of flush0_6 t ht'),
    left_idle m c 7 t hi (flush_of flush0_7 t ht'), left_live m c 8 t rfl, left_live m c 9 t rfl, accV_succ]
  iintro ⟨⟨H11, H12, HR⟩, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩⟩
  rw [before0_0_of m (dat m c) rfl (fun _ => rfl), before0_1_of m (dat m c) rfl (fun _ => rfl), before0_2_of m (dat m c) rfl (fun _ => rfl),
    before0_3_of m (dat m c) rfl (fun _ => rfl)]
  iapply (step_wp c (grid0.coords t) _ (hstage0_3 _) _ (hstage0_4 _) _ (hstage0_8 _) _ (hstage0_9 _) _ (Memref.isWhole_whole _)
    _ (Memref.isWhole_whole _)) $$ [H4 H9 H10 H11 H12]
  · iframe
  iintro H4 H9 H10 H11 H12
  iapply finish_wp_not c (grid0.coords t) _ _ _ _ h2
  isplitl [H11 H12 HR]
  · isplitl [H11]
    · iexact H11
    isplitl [H12]
    · iexact H12
    · iexact HR
  · isplitl [H1]; · iexact H1
    isplitl [H2]; · iexact H2
    isplitl [H3]; · iexact H3
    isplitl [H4]; · iexact H4
    isplitl [H5]; · iexists d4; iexact H5
    isplitl [H6]; · iexists d5; iexact H6
    isplitl [H7]; · iexists d6; iexact H7
    isplitl [H8]; · iexists d7; iexact H8
    isplitl [H9]; · iexact H9
    iexact H10

theorem acc_last (c : Dev nD) (t : Fin cfg0.N) (ht : t.val = 8) :
    accAll (wV m c t) (rowsOf (grid0.coords t) (lhsV m c)) (accV m c t.val) = accV m c 9 := by
  rw [← accV_succ, ht]

/-- The body at the last point. -/
theorem body_last (c : Dev nD) (t : Fin cfg0.N) (ht : t.val = 8) :
    iprop(Held m c t.val ∗ Pre m c t) ⊢ Wp c (bodyAt0 t) fun _ => iprop(Held m c (t.val + 1) ∗ bigSep Finset.univ (fun w => Left m c w t)) := by
  have ht0 : t.val ≠ 0 := by omega
  have h1 : k0_cond1 (grid0.coords t) ≠ 1#1 := (cond1_iff t).not.mpr ht0
  have h2 : k0_cond2 (grid0.coords t) = 1#1 := (cond2_iff t).mpr ht
  unfold bodyAt0 Pre Held
  rw [body_eq, bigSep_W0, bigSep_W0]
  unfold body
  rw [dif_neg h1]
  rw [left_live m c 0 t rfl, left_live m c 1 t rfl, left_live m c 2 t rfl, left_live m c 3 t rfl,
    left_flush m c 4 t ((flush0_4 t).mpr (by omega)), left_flush m c 5 t ((flush0_5 t).mpr (by omega)),
    left_flush m c 6 t ((flush0_6 t).mpr (by omega)), left_flush m c 7 t ((flush0_7 t).mpr (by omega)),
    left_live m c 8 t rfl, left_live m c 9 t rfl, accV_succ]
  iintro ⟨⟨H11, H12, HR⟩, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩⟩
  rw [before0_0_of m (dat m c) rfl (fun _ => rfl), before0_1_of m (dat m c) rfl (fun _ => rfl), before0_2_of m (dat m c) rfl (fun _ => rfl),
    before0_3_of m (dat m c) rfl (fun _ => rfl)]
  rw [before5 m c t ht0, before6 m c t ht0, before7 m c t ht0]
  iapply (step_wp c (grid0.coords t) _ (hstage0_3 _) _ (hstage0_4 _) _ (hstage0_8 _) _ (hstage0_9 _) _ (Memref.isWhole_whole _)
    _ (Memref.isWhole_whole _)) $$ [H4 H9 H10 H11 H12]
  · iframe
  iintro H4 H9 H10 H11 H12
  rw [acc_last m c t ht, show accAll (iblk m c 3 t) (rowsOf (grid0.coords t) (lhsV m c)) (accV m c t.val) = accV m c 9 from acc_last m c t ht]
  iapply (finish_wp_last c (grid0.coords t) _ (hstage0_4 _) _ (Memref.isWhole_whole _) _ h2) $$ [H5 H12]
  · iframe
  iintro H5 H12
  isplitl [H11 H12 HR]
  · isplitl [H11]
    · iexact H11
    isplitl [H12]
    · iexact H12
    · iexact HR
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body's obligation at every point. -/
theorem body_obligation (c : Dev nD) : BodyObligation (dat m c) (defs₀ (F := F)) Variants.none () Set.univ := fun t => by
  rw [row]
  have key : iprop((dat m c).Φ t.castSucc ∗ Pre m c t) ⊢ Wp c (bodyAt0 t) fun _ =>
      iprop((dat m c).Φ t.succ ∗ bigSep Finset.univ (fun w => Left m c w t)) := by
    rcases Nat.eq_zero_or_pos t.val with h | h
    · obtain rfl : t = t0 := Fin.ext h
      exact body_first m c
    · have hP : (dat m c).Φ t.castSucc = Held m c t.val := by
        obtain ⟨n, hn⟩ : ∃ n, t.val = n + 1 := ⟨t.val - 1, by omega⟩
        show PhiS m c t.val = _
        rw [hn]; rfl
      rw [hP]
      by_cases h8 : t.val = 8
      · exact body_last m c t h8
      · exact body_mid m c t (by omega) h8
  show iprop((dat m c).Φ t.castSucc ∗ (dat m c).owesAt () t.castSucc ∗ Pre m c t) ⊢ Wp c (bodyAt0 t) fun _ =>
      iprop((dat m c).Φ t.succ ∗ (dat m c).owesAt () t.succ ∗ bigSep Finset.univ (fun w => Left m c w t))
  iintro ⟨HΦ, HO, HB⟩
  ihave HW := key $$ [HΦ HB]
  · isplitl [HΦ]
    · iexact HΦ
    · iexact HB
  unfold Wp
  iapply wp_wand $$ HW
  iintro %u ⟨HΦ, HB⟩
  isplitl [HΦ]
  · iexact HΦ
  isplitl [HO]
  · iexact HO
  · iexact HB

end Cert.KernelIdeal.Rolled
-- ==== Proof.KernelIdeal.Quiet.lean ====
/- The whole program's run: it ends, its arrays hold what the steps left there, the arguments are unchanged and no semaphore is left raised. -/
module

public import proofs.«01_k».proof.Proof.KernelIdeal.Run

@[expose] public section

set_option maxRecDepth 65536

noncomputable section

namespace Cert.KernelIdeal.Rolled

open Cert.KernelIdeal Cert.KernelIdeal.Gen
open Idealize.ShloMosaic Idealize.ShloMosaic.TcCoe
open Idealize.SL
open Idealize.SL.BI (sProp)
open scoped Idealize.SL.BI
open Idealize.SL.BI.BIBase Idealize.SL.BI.Laws Idealize.SL.Sem Idealize.SL.ProofMode
open Idealize.SL.RA
open Idealize.SL.BI (bigSep)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one region. -/
def dats : (p : Fin 1) → (c : Dev nD) → Dat τ (Elt F) Unit ℕ (UR sig nD τ) ℕ (cfgs p) c := fun
  | 0 => fun c => dat m c

theorem held_end (c : Dev nD) : (dat m c).Φ (Fin.last cfg0.N) ⊢ Pipeline.ΦA spec0 c := by
  have h : (dat m c).Φ (Fin.last cfg0.N) = Held m c 9 := by
    show PhiS m c grid0.N = _
    rw [N_0]; rfl
  rw [h]
  unfold Held Pipeline.ΦA
  rw [scopedRest0_eq]
  simp only [← owns_whole]
  iintro ⟨H1, H2, HR⟩
  isplitl [H1 H2]
  · isplitl [H1]
    · iexists _; iexact H1
    · iexists _; iexact H2
  · iexact HR

/-- The run. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (fun c => (body_obligation m c).loose) (fun c w => (by fin_cases w <;> rfl)) (fun _ _ => rfl) (V0 m) [hostOps1]
    sfx_sub sfx_fresh sfx_keeps (hmain m Variants.none) (fun c w => rfl) (fun c => .rfl) (held_end m) _ (fun _ h => h)

/-- The arguments are unchanged and every semaphore is back at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      ((h.1 c).1 3).trans (((dats m 0 c).arrAt_in 3 rfl _).trans (V_main_arg3 m c))⟩, h.2⟩) (run m ρ)

end Cert.KernelIdeal.Rolled
-- ==== Proof.Value.Expo.lean ====
/- The exponent of a scale over the extended reals: the largest of a row of powers of two not above a number gives the same
   power of two as the floor of the number's logarithm. -/
module

public import Idealize.ShloMosaic.Lib.Pointwise

@[expose] public section

set_option maxRecDepth 16384

noncomputable section

namespace Cert.Expo

open Idealize.ShloMosaic

/-! ## The reference's exponent -/

/-- The exponent, as the floor of the logarithm; zero outside the normal range. -/
def eOf (t : EReal) : EReal :=
  if Ideal.ofBits .f32 0x00800000#32 ≤ t ∧ t < Ideal.ofBits .f32 0x7B800000#32 then
    Ideal.liftRound Int.floor (Ideal.div (Ideal.log t) (Ideal.log (Ideal.ofBits .f32 0x40000000#32))) + 1
  else 0

/-! ## The kernel's words -/

/-- The number whose exponent field is `k`. -/
def thr (k : Fin 256) : EReal := Ideal.ofBits .f32 (BitVec.ofNat 32 k.val <<< 23)
/-- What lane `k` counts for. -/
def lane (k : Fin 256) : BitVec 32 := if k.val < 247 then BitVec.ofNat 32 k.val else 255#32
/-- The largest lane not above `t`. -/
def fieldOf (t : EReal) : BitVec 32 :=
  Finset.univ.fold IntOp.maxsi 2147483648#32 fun k : Fin 256 => if thr k ≤ t then lane k else 0#32
/-- The exponent's word. -/
def expoOf (f : BitVec 32) : BitVec 32 := if f = 0#32 ∨ f = 255#32 then 0#32 else f - 126#32
/-- The word of the power of two. -/
def upWord (f : BitVec 32) : BitVec 32 := (127#32 + expoOf f) <<< 23
/-- The word of its inverse. -/
def downWord (f : BitVec 32) : BitVec 32 := (127#32 - expoOf f) <<< 23

theorem word_fields : ∀ k : Fin 256, ((BitVec.ofNat 32 k.val <<< 23).extractLsb' (8 + 23) 1 == 1#1) = false
    ∧ ((BitVec.ofNat 32 k.val <<< 23).extractLsb' 23 8).toNat = k.val ∧ ((BitVec.ofNat 32 k.val <<< 23).extractLsb' 0 23).toNat = 0 := by
  decide +kernel

/-- The word of the field `k` is the power of two `k - 127`, for a normal `k`. -/
theorem thr_normal (k : Fin 256) (h0 : k.val ≠ 0) (h1 : k.val ≠ 255) : thr k = (((2 : ℝ) ^ ((k.val : ℤ) - 127) : ℝ) : EReal) := by
  obtain ⟨hn, he, hf⟩ := word_fields k
  unfold thr Ideal.ofBits Ideal.ieee
  simp only [hn, he, hf]
  rw [if_neg (by omega), if_neg h0]
  refine congrArg (fun r : ℝ => (r : EReal)) ?_
  have : ((k.val : ℤ) - (2 ^ (8 - 1) - 1) - (23 : ℕ) : ℤ) = ((k.val : ℤ) - 127) - 23 := by norm_num
  rw [this, zpow_sub₀ (by norm_num : (2 : ℝ) ≠ 0)]
  norm_num
  ring

theorem thr_zero : thr 0 = 0 := by
  obtain ⟨hn, he, hf⟩ := word_fields 0
  unfold thr Ideal.ofBits Ideal.ieee
  simp only [hn, he, hf]
  norm_num

theorem thr_top : thr 255 = ⊤ := by
  obtain ⟨hn, he, hf⟩ := word_fields 255
  unfold thr Ideal.ofBits Ideal.ieee
  simp only [hn, he, hf]
  norm_num

/-- A larger field is a larger number. -/
theorem thr_mono (j k : Fin 256) (h0 : j.val ≠ 0) (h : j ≤ k) : thr j ≤ thr k := by
  have hjk : j.val ≤ k.val := h
  by_cases hk : k.val = 255
  · have : k = 255 := Fin.ext hk
    rw [this, thr_top]; exact le_top
  · rw [thr_normal j h0 (by omega), thr_normal k (by omega) hk]
    exact EReal.coe_le_coe_iff.mpr (zpow_le_zpow_right₀ (by norm_num) (by omega))

theorem thr_pos (k : Fin 256) (h0 : k.val ≠ 0) : 0 < thr k := by
  by_cases hk : k.val = 255
  · have : k = 255 := Fin.ext hk
    rw [this, thr_top]; exact EReal.coe_lt_top 0
  · rw [thr_normal k h0 hk]
    exact EReal.coe_pos.mpr (by positivity)

theorem low_eq : Ideal.ofBits .f32 0x00800000#32 = thr 1 := rfl
theorem high_eq : Ideal.ofBits .f32 0x7B800000#32 = thr 247 := rfl
theorem two_eq : Ideal.ofBits .f32 0x40000000#32 = ((2 : ℝ) : EReal) := by
  have h : Ideal.ofBits .f32 0x40000000#32 = thr 128 := rfl
  rw [h, thr_normal 128 (by decide) (by decide)]
  norm_num

/-! ## The largest lane -/

theorem fold_max {ι : Type} [Fintype ι] [DecidableEq ι] (g : ι → BitVec 32) (i : BitVec 32) (v : BitVec 32) (k : ι) (hk : g k = v)
    (hi : ¬ v.slt i) (h : ∀ j, ¬ v.slt (g j)) : Finset.univ.fold IntOp.maxsi i g = v := by
  have aux : ∀ s : Finset ι, ¬ v.slt (s.fold IntOp.maxsi i g) := by
    intro s
    induction s using Finset.induction_on with
    | empty => simpa using hi
    | insert a s ha ih =>
      rw [Finset.fold_insert ha]
      unfold IntOp.maxsi
      split_ifs
      · exact h a
      · exact ih
  rw [← Finset.insert_erase (Finset.mem_univ k), Finset.fold_insert (Finset.notMem_erase k _), hk]
  have := aux (Finset.univ.erase k)
  generalize (Finset.univ.erase k).fold IntOp.maxsi i g = w at this ⊢
  unfold IntOp.maxsi
  split_ifs with hw
  · rfl
  · simp only [BitVec.slt, decide_eq_true_eq, not_lt] at this hw
    exact BitVec.eq_of_toInt_eq (le_antisymm this hw)

theorem lane_le : ∀ (v : Fin 256) (k : Fin 256), k ≤ v → v.val < 247 → ¬ (BitVec.ofNat 32 v.val).slt (lane k) = true := by decide +kernel
theorem lane_le' : ∀ k : Fin 256, ¬ (255#32).slt (lane k) = true := by decide +kernel
theorem nonneg_word : ∀ v : Fin 256, ¬ (BitVec.ofNat 32 v.val).slt 0#32 = true ∧ ¬ (BitVec.ofNat 32 v.val).slt 2147483648#32 = true := by decide +kernel

/-- Below the normal range the field is 0. -/
theorem field_low (t : EReal) (h : t < thr 1) : fieldOf t = 0#32 := by
  refine fold_max _ _ _ 0 ?_ (by decide) fun j => ?_
  · show (if _ then lane 0 else 0#32) = _
    split_ifs <;> rfl
  · show ¬ (0#32).slt (if thr j ≤ t then lane j else 0#32) = true
    split_ifs with hj
    · by_cases h0 : j.val = 0
      · have : j = 0 := Fin.ext h0
        subst this; decide
      · exact absurd (lt_of_lt_of_le h (thr_mono 1 j (by decide) (Fin.le_def.mpr (by show 1 ≤ j.val; omega)))) (not_lt.mpr hj)
    · decide

/-- Above the normal range the field is 255. -/
theorem field_high (t : EReal) (h : thr 247 ≤ t) : fieldOf t = 255#32 := by
  refine fold_max _ _ _ 247 ?_ (by decide) fun j => ?_
  · show (if _ then lane 247 else 0#32) = _
    rw [if_pos h]; rfl
  · show ¬ (255#32).slt (if thr j ≤ t then lane j else 0#32) = true
    split_ifs with hj
    · exact lane_le' j
    · decide

/-- Within the normal range the field is that of the power of two just below. -/
theorem field_mid (t : EReal) (v : Fin 256) (hv0 : v.val ≠ 0) (hv : v.val < 247) (h : thr v ≤ t) (h' : t < thr ⟨v.val + 1, by omega⟩) :
    fieldOf t = BitVec.ofNat 32 v.val := by
  refine fold_max _ _ _ v ?_ (nonneg_word v).2 fun j => ?_
  · show (if _ then lane v else 0#32) = _
    rw [if_pos h]
    unfold lane
    rw [if_pos hv]
  · show ¬ (BitVec.ofNat 32 v.val).slt (if thr j ≤ t then lane j else 0#32) = true
    split_ifs with hj
    · refine lane_le v j (not_lt.mp fun hlt => ?_) hv
      have : v.val < j.val := hlt
      exact absurd (lt_of_lt_of_le h' (thr_mono _ j (by show v.val + 1 ≠ 0; omega) (Fin.le_def.mpr (by show v.val + 1 ≤ j.val; omega)))) (not_lt.mpr hj)
    · exact (nonneg_word v).1

theorem words_mid : ∀ v : Fin 256, v.val ≠ 0 → v.val < 247 →
    upWord (BitVec.ofNat 32 v.val) = BitVec.ofNat 32 (v.val + 1) <<< 23 ∧ downWord (BitVec.ofNat 32 v.val) = BitVec.ofNat 32 (253 - v.val) <<< 23 := by
  decide +kernel

/-- A number in the normal range lies between two neighbouring powers of two. -/
theorem between (t : EReal) (h : thr 1 ≤ t) (h' : t < thr 247) :
    ∃ (v : Fin 256) (hv : v.val < 247), v.val ≠ 0 ∧ thr v ≤ t ∧ t < thr ⟨v.val + 1, by omega⟩ := by
  have key : ∀ n : ℕ, ∀ hn : 247 - n < 256, n ≤ 246 → (∃ (v : Fin 256) (hv : v.val < 247), v.val ≠ 0 ∧ thr v ≤ t ∧ t < thr ⟨v.val + 1, by omega⟩)
      ∨ t < thr ⟨247 - n, hn⟩ := by
    intro n
    induction n with
    | zero => intro hn _; exact .inr h'
    | succ n ih =>
      intro hn hle
      rcases ih (by omega) (by omega) with hh | hh
      · exact .inl hh
      · by_cases hc : t < thr ⟨247 - (n + 1), hn⟩
        · exact .inr hc
        · refine .inl ⟨⟨247 - (n + 1), hn⟩, by show 247 - (n + 1) < 247; omega, by show 247 - (n + 1) ≠ 0; omega, not_lt.mp hc, ?_⟩
          have e : (⟨247 - (n + 1) + 1, by omega⟩ : Fin 256) = ⟨247 - n, by omega⟩ := Fin.ext (by show 247 - (n + 1) + 1 = 247 - n; omega)
          show t < thr ⟨247 - (n + 1) + 1, _⟩
          rw [e]; exact hh
  rcases key 246 (by omega) le_rfl with hh | hh
  · exact hh
  · exact absurd hh (not_lt.mpr h)

/-- Between two neighbouring powers of two the floor of the logarithm names the lower one. -/
theorem eOf_mid (t : EReal) (v : Fin 256) (hv0 : v.val ≠ 0) (hv : v.val < 247) (h : thr v ≤ t) (h' : t < thr ⟨v.val + 1, by omega⟩) :
    eOf t = (((v.val : ℤ) - 126 : ℤ) : ℝ) := by
  have h1 : thr 1 ≤ t := (thr_mono 1 v (by decide) (Fin.le_def.mpr (by show 1 ≤ v.val; omega))).trans h
  have h2 : t < thr 247 := lt_of_lt_of_le h' (thr_mono _ 247 (by show v.val + 1 ≠ 0; omega) (Fin.le_def.mpr (by show v.val + 1 ≤ 247; omega)))
  unfold eOf
  rw [low_eq, high_eq, if_pos ⟨h1, h2⟩, two_eq]
  rw [thr_normal v hv0 (by omega)] at h
  rw [thr_normal _ (by show v.val + 1 ≠ 0; omega) (by show v.val + 1 ≠ 255; omega)] at h'
  induction t using EReal.rec with
  | bot => simp at h
  | top => simp at h'
  | coe r =>
    have hr : (2 : ℝ) ^ ((v.val : ℤ) - 127) ≤ r := EReal.coe_le_coe_iff.mp h
    have hr' : r < (2 : ℝ) ^ (((v.val + 1 : ℕ) : ℤ) - 127) := EReal.coe_lt_coe_iff.mp h'
    have hpos : 0 < r := lt_of_lt_of_le (by positivity) hr
    have hl2 : 0 < Real.log 2 := Real.log_pos (by norm_num)
    have e1 : Ideal.log ((r : ℝ) : EReal) = ((Real.log r : ℝ) : EReal) := by
      show (if r ≤ 0 then (⊥ : EReal) else _) = _
      rw [if_neg (not_le.mpr hpos)]
    have e2 : Ideal.log ((2 : ℝ) : EReal) = ((Real.log 2 : ℝ) : EReal) := by
      show (if (2 : ℝ) ≤ 0 then (⊥ : EReal) else _) = _
      rw [if_neg (by norm_num)]
    have e3 : Ideal.div ((Real.log r : ℝ) : EReal) ((Real.log 2 : ℝ) : EReal) = ((Real.log r / Real.log 2 : ℝ) : EReal) := by
      unfold Ideal.div
      rw [if_neg (by exact_mod_cast hl2.ne'), ← EReal.coe_inv, ← EReal.coe_mul, div_eq_mul_inv]
    have e4 : Int.floor (Real.log r / Real.log 2) = (v.val : ℤ) - 127 := by
      rw [Int.floor_eq_iff]
      constructor
      · rw [le_div_iff₀ hl2]
        have := Real.log_le_log (by positivity) hr
        rwa [Real.log_zpow] at this
      · rw [div_lt_iff₀ hl2]
        have := Real.log_lt_log hpos hr'
        rw [Real.log_zpow] at this
        refine lt_of_lt_of_eq this ?_
        push_cast; ring
    rw [e1, e2, e3]
    show (((Int.floor (Real.log r / Real.log 2) : ℤ) : ℝ) : EReal) + 1 = _
    rw [e4]
    have : (1 : EReal) = ((1 : ℝ) : EReal) := rfl
    rw [this, ← EReal.coe_add]
    congr 1
    push_cast; ring

/-- The word of the scale is the power of two the reference takes. -/
theorem up_eq (t : EReal) : Ideal.ofBits .f32 (upWord (fieldOf t)) = Ideal.exp2 (eOf t) := by
  have one : Ideal.ofBits .f32 (0x3F800000#32) = Ideal.exp2 0 := by
    have h : Ideal.ofBits .f32 0x3F800000#32 = thr 127 := rfl
    rw [h, thr_normal 127 (by decide) (by decide)]
    show _ = ((Real.rpow 2 0 : ℝ) : EReal)
    simp
  rcases lt_or_ge t (thr 1) with hl | hl
  · rw [field_low t hl]
    unfold eOf
    rw [low_eq, if_neg (fun h => absurd hl (not_lt.mpr h.1))]
    exact one
  rcases lt_or_ge t (thr 247) with hh | hh
  · obtain ⟨v, hv, hv0, h, h'⟩ := between t hl hh
    rw [field_mid t v hv0 hv h h', (words_mid v hv0 hv).1, eOf_mid t v hv0 hv h h']
    show thr ⟨v.val + 1, by omega⟩ = ((Real.rpow 2 _ : ℝ) : EReal)
    rw [thr_normal _ (by show v.val + 1 ≠ 0; omega) (by show v.val + 1 ≠ 255; omega)]
    congr 1
    show _ = (2 : ℝ) ^ (((v.val : ℤ) - 126 : ℤ) : ℝ)
    rw [Real.rpow_intCast]
    congr 1
    push_cast; ring
  · rw [field_high t hh]
    unfold eOf
    rw [high_eq, if_neg (fun h => absurd h.2 (not_lt.mpr hh))]
    exact one

/-- The word of the scale's inverse is the opposite power of two. -/
theorem down_eq (t : EReal) : Ideal.ofBits .f32 (downWord (fieldOf t)) = Ideal.exp2 (0 - eOf t) := by
  have one : Ideal.ofBits .f32 (0x3F800000#32) = Ideal.exp2 (0 - 0) := by
    have h : Ideal.ofBits .f32 0x3F800000#32 = thr 127 := rfl
    rw [h, thr_normal 127 (by decide) (by decide), sub_zero]
    show _ = ((Real.rpow 2 0 : ℝ) : EReal)
    simp
  rcases lt_or_ge t (thr 1) with hl | hl
  · rw [field_low t hl]
    unfold eOf
    rw [low_eq, if_neg (fun h => absurd hl (not_lt.mpr h.1))]
    exact one
  rcases lt_or_ge t (thr 247) with hh | hh
  · obtain ⟨v, hv, hv0, h, h'⟩ := between t hl hh
    rw [field_mid t v hv0 hv h h', (words_mid v hv0 hv).2, eOf_mid t v hv0 hv h h']
    have z : (0 : EReal) = ((0 : ℝ) : EReal) := rfl
    rw [z, ← EReal.coe_sub]
    show thr ⟨253 - v.val, by omega⟩ = ((Real.rpow 2 _ : ℝ) : EReal)
    rw [thr_normal _ (by show 253 - v.val ≠ 0; omega) (by show 253 - v.val ≠ 255; omega)]
    congr 1
    have e : (0 : ℝ) - (((v.val : ℤ) - 126 : ℤ) : ℝ) = ((126 - (v.val : ℤ) : ℤ) : ℝ) := by push_cast; ring
    show _ = (2 : ℝ) ^ ((0 : ℝ) - (((v.val : ℤ) - 126 : ℤ) : ℝ))
    rw [e, Real.rpow_intCast]
    congr 1
    show ((253 - v.val : ℕ) : ℤ) - 127 = _
    omega
  · rw [field_high t hh]
    unfold eOf
    rw [high_eq, if_neg (fun h => absurd h.2 (not_lt.mpr hh))]
    exact one

end Cert.Expo
-- ==== Proof.Value.Spec.lean ====
/- What the six results are, as plain functions of the arguments over the extended reals: the scale of a block, its codes, and
   the product of the codes. -/
module

public import proofs.«01_k».proof.Proof.Value.Expo

@[expose] public section

set_option maxRecDepth 16384

noncomputable section

namespace Cert.Spec

open Idealize.ShloMosaic Cert.Expo

/-! ## The functions -/

/-- The number 1/448, as rounded to the constant that both programs multiply by. -/
def rec448 : EReal := Ideal.ofBits .f32 0x3B124925#32
/-- A magnitude. -/
def mag (x : EReal) : EReal := max x (-x)
/-- A number held between -448 and 448. -/
def clip (x : EReal) : EReal := min (Ideal.ofBits .f32 0x43E00000#32) (max (Ideal.ofBits .f32 0xC3E00000#32) x)

section
variable (w : (⟨2, ![2304, 9216]⟩ : Shape).Idx → EReal)

/-- The largest magnitude of the weight's block `(g, q)`. -/
def wMax (g : Fin 18) (q : Fin 72) : EReal :=
  Finset.univ.sup fun k : Fin 128 × Fin 128 =>
    mag (w (ix2 (⟨g.val * 128 + k.1.val, by omega⟩ : Fin 2304) (⟨q.val * 128 + k.2.val, by omega⟩ : Fin 9216)))
/-- The exponent of a weight block's scale. -/
def wExp (g : Fin 18) (q : Fin 72) : EReal := eOf (wMax w g q * rec448)
/-- A weight block's scale. -/
def wScale (g : Fin 18) (q : Fin 72) : EReal := Ideal.exp2 (wExp w g q)
/-- A weight code. -/
def wCode (i : Fin 2304) (j : Fin 9216) : EReal :=
  clip (w (ix2 i j) * Ideal.exp2 (0 - wExp w (⟨i.val / 128, by omega⟩ : Fin 18) (⟨j.val / 128, by omega⟩ : Fin 72)))

end

section
variable (x r : (⟨3, ![3, 1, 2304]⟩ : Shape).Idx → EReal) (gain : (⟨1, ![2304]⟩ : Shape).Idx → EReal)

/-- The residual stream. -/
def res (b : Fin 3) (i : Fin 2304) : EReal := x (ix3 b (0 : Fin 1) i) + r (ix3 b (0 : Fin 1) i)
/-- The normed activations. -/
def nrm (b : Fin 3) (i : Fin 2304) : EReal :=
  res x r b i
    * Ideal.rsqrt (Ideal.div (∑ k : Fin 2304, res x r b k * res x r b k) (Ideal.ofBits .f32 0x45100000#32) + Ideal.ofBits .f32 0x358637BD#32)
    * gain (ix1 i)
/-- The exponent of the scale of group `g` of row `b`. -/
def aExp (b : Fin 3) (g : Fin 18) : EReal :=
  eOf ((Finset.univ.sup fun k : Fin 128 => mag (nrm x r gain b (⟨g.val * 128 + k.val, by omega⟩ : Fin 2304))) * rec448)
/-- An activation group's scale. -/
def aScale (b : Fin 3) (g : Fin 18) : EReal := Ideal.exp2 (aExp x r gain b g)
/-- An activation code. -/
def aCode (b : Fin 3) (i : Fin 2304) : EReal :=
  clip (nrm x r gain b i * Ideal.exp2 (0 - aExp x r gain b (⟨i.val / 128, by omega⟩ : Fin 18)))

/-- The product: in each group the codes times their scale against the weight's codes, times the weight block's scale, summed
    over the groups. -/
def prod (w : (⟨2, ![2304, 9216]⟩ : Shape).Idx → EReal) (b : Fin 3) (j : Fin 9216) : EReal :=
  ∑ g : Fin 18,
    (∑ k : Fin 128, aCode x r gain b (⟨g.val * 128 + k.val, by omega⟩ : Fin 2304) * aScale x r gain b g
        * wCode w (⟨g.val * 128 + k.val, by omega⟩ : Fin 2304) j)
      * wScale w g (⟨j.val / 128, by omega⟩ : Fin 72)

end

/-! ## Folds of the maximum -/

theorem neg_inf_f32 : Ideal.ofBits .f32 0xFF800000#32 = ⊥ := by
  have hn : ((0xFF800000#32 : BitVec 32).extractLsb' (8 + 23) 1 == 1#1) = true := by decide
  have he : ((0xFF800000#32 : BitVec 32).extractLsb' 23 8).toNat = 255 := by decide
  have hf : ((0xFF800000#32 : BitVec 32).extractLsb' 0 23).toNat = 0 := by decide
  unfold Ideal.ofBits Ideal.ieee
  simp only [hn, he, hf]
  norm_num

theorem neg_inf_bf16 : Ideal.ofBits .bf16 0xFF80#16 = ⊥ := by
  have hn : ((0xFF80#16 : BitVec 16).extractLsb' (8 + 7) 1 == 1#1) = true := by decide
  have he : ((0xFF80#16 : BitVec 16).extractLsb' 7 8).toNat = 255 := by decide
  have hf : ((0xFF80#16 : BitVec 16).extractLsb' 0 7).toNat = 0 := by decide
  unfold Ideal.ofBits Ideal.ieee
  simp only [hn, he, hf]
  norm_num

/-- A fold of the maximum from minus infinity is the supremum. -/
theorem fold_sup {ι : Type} (s : Finset ι) (f : ι → EReal) : s.fold max ⊥ f = s.sup f := rfl

/-- Suprema over two index sets whose terms cover each other are equal. -/
theorem sup_eq_sup {ι κ : Type} [Fintype ι] [Fintype κ] (f : ι → EReal) (g : κ → EReal) (h1 : ∀ i, ∃ k, f i = g k) (h2 : ∀ k, ∃ i, g k = f i) :
    Finset.univ.sup f = Finset.univ.sup g := by
  refine le_antisymm (Finset.sup_le fun i _ => ?_) (Finset.sup_le fun k _ => ?_)
  · obtain ⟨k, hk⟩ := h1 i
    rw [hk]; exact Finset.le_sup (f := g) (Finset.mem_univ k)
  · obtain ⟨i, hi⟩ := h2 k
    rw [hi]; exact Finset.le_sup (f := f) (Finset.mem_univ i)

/-- A supremum taken in 8 strips of 16 rows is the supremum over the 128 rows. -/
theorem sup_strips (f : Fin 128 × Fin 128 → EReal) :
    (Finset.univ.sup fun x : Fin 16 × Fin 128 => Finset.univ.sup fun a : Fin 8 => f (⟨a.val * 16 + x.1.val, by omega⟩, x.2))
      = Finset.univ.sup f := by
  refine le_antisymm (Finset.sup_le fun x _ => Finset.sup_le fun a _ => Finset.le_sup (f := f) (Finset.mem_univ _)) (Finset.sup_le fun k _ => ?_)
  have h : f k = f (⟨(⟨k.1.val / 16, by omega⟩ : Fin 8).val * 16 + (⟨k.1.val % 16, by omega⟩ : Fin 16).val, by dsimp only; omega⟩, k.2) :=
    congrArg f (Prod.ext (Fin.ext (by show k.1.val = k.1.val / 16 * 16 + k.1.val % 16; omega)) rfl)
  rw [h]
  exact le_trans (Finset.le_sup (f := fun a : Fin 8 => f (⟨a.val * 16 + (⟨k.1.val % 16, by omega⟩ : Fin 16).val, by dsimp only; omega⟩, k.2)) (Finset.mem_univ (⟨k.1.val / 16, by omega⟩ : Fin 8)))
    (Finset.le_sup (f := fun x : Fin 16 × Fin 128 => Finset.univ.sup fun a : Fin 8 => f (⟨a.val * 16 + x.1.val, by omega⟩, x.2)) (Finset.mem_univ ((⟨k.1.val % 16, by omega⟩ : Fin 16), k.2)))

/-! ## Reshapes and a reduction at any size -/

section
variable {α : Type} {n0 n1 m0 m1 m2 m3 : ℕ}

/-- Two axes, each split in two. -/
theorem cast_split (x : (⟨2, ![n0, n1]⟩ : Shape).Idx → α) (h : (⟨2, ![n0, n1]⟩ : Shape).ShapeCasts ⟨4, ![m0, m1, m2, m3]⟩)
    (e1 : n1 = m2 * m3) (a : Fin m0) (b : Fin m1) (c : Fin m2) (e : Fin m3)
    (h0 : a.val * m1 + b.val < n0) (h1 : c.val * m3 + e.val < n1) :
    shapeCast (⟨4, ![m0, m1, m2, m3]⟩ : Shape) x h (ix4 a b c e) = x (ix2 (⟨a.val * m1 + b.val, h0⟩ : Fin n0) (⟨c.val * m3 + e.val, h1⟩ : Fin n1)) :=
  congrArg x (Shape.reshapeEquiv_eq_of_vals h _ _ _ _ (rowMajor_val2 _ n1 rfl) (rowMajor_val4 _ (m1 * (m2 * m3)) (m2 * m3) m3 rfl rfl rfl)
    (by
      show (a.val * m1 + b.val) * n1 + (c.val * m3 + e.val) = a.val * (m1 * (m2 * m3)) + b.val * (m2 * m3) + c.val * m3 + e.val
      subst e1; ring))

/-- Four axes, joined in pairs. -/
theorem cast_join (x : (⟨4, ![m0, m1, m2, m3]⟩ : Shape).Idx → α) (h : (⟨4, ![m0, m1, m2, m3]⟩ : Shape).ShapeCasts ⟨2, ![n0, n1]⟩)
    (e1 : n1 = m2 * m3) (i : Fin n0) (j : Fin n1) (a : Fin m0) (b : Fin m1) (c : Fin m2) (e : Fin m3)
    (h0 : i.val = a.val * m1 + b.val) (h1 : j.val = c.val * m3 + e.val) :
    shapeCast (⟨2, ![n0, n1]⟩ : Shape) x h (ix2 i j) = x (ix4 a b c e) :=
  congrArg x (Shape.reshapeEquiv_eq_of_vals h _ _ _ _ (rowMajor_val4 _ (m1 * (m2 * m3)) (m2 * m3) m3 rfl rfl rfl) (rowMajor_val2 _ n1 rfl)
    (by
      show a.val * (m1 * (m2 * m3)) + b.val * (m2 * m3) + c.val * m3 + e.val = i.val * n1 + j.val
      rw [h0, h1]; subst e1; ring))

/-- A maximum over the second and the fourth of four axes. -/
theorem max_axes (v : FVec Ideal (⟨4, ![m0, m1, m2, m3]⟩ : Shape) .f32) (h : (⟨4, ![m0, m1, m2, m3]⟩ : Shape).Reduces [1, 3] ⟨2, ![m0, m2]⟩)
    (hφ : FKind.Formats .f32) (hacc : (0xFF800000#32 : BitVec 32) = FKind.maximumf.neutral .f32 hφ) (g : Fin m0) (q : Fin m2) :
    multiReduction (F := Ideal) .maximumf [1, 3] (⟨2, ![m0, m2]⟩ : Shape) v 0xFF800000#32 h hφ hacc (ix2 g q)
      = Finset.univ.sup fun k : Fin m1 × Fin m3 => (v (ix4 g k.1 q k.2) : EReal) := by
  rw [multiReduction_maximumf_eq_fold]
  refine (Finset.fold_filter_eq_fold_of_fiber (FloatOps.maximumf (F := Ideal) (φ := .f32)) _ (fun k : Fin m1 × Fin m3 => (ix4 g k.1 q k.2 : (⟨4, ![m0, m1, m2, m3]⟩ : Shape).Idx))
    (fun _ _ e => Prod.ext (congrFun e 1) (congrFun e 3)) (fun i => ?_) _ v).trans ?_
  · constructor
    · intro e
      refine ⟨(i 1, i 3), ?_⟩
      funext a; apply Fin.ext
      match a with
      | ⟨0, _⟩ => exact (congrArg Fin.val (congrFun e (0 : Fin 2))).symm
      | ⟨1, _⟩ => rfl
      | ⟨2, _⟩ => exact (congrArg Fin.val (congrFun e (1 : Fin 2))).symm
      | ⟨3, _⟩ => rfl
    · rintro ⟨k, rfl⟩
      funext b
      apply Fin.ext
      match b with
      | ⟨0, _⟩ => rfl
      | ⟨1, _⟩ => rfl
  · exact congrArg (fun b : EReal => (Finset.univ : Finset (Fin m1 × Fin m3)).fold max b fun k => (v (ix4 g k.1 q k.2) : EReal)) neg_inf_f32

end

/-! ## The exponent of the reference -/

/-- The exponent, as the reference computes it for an array of numbers. -/
def expoV (s : Shape) (x : FVec Ideal s .f32) : FVec Ideal s .f32 :=
  select (andi (cmpf .oge x (broadcast s (Scalar.ofBits .f32 0x00800000#32))) (cmpf .olt x (broadcast s (Scalar.ofBits .f32 0x7B800000#32))))
    (addf (floor (divf (log x) (log (broadcast s (Scalar.ofBits .f32 0x40000000#32))))) (broadcast s (Scalar.ofBits .f32 0x3F800000#32)))
    (broadcast s (Scalar.ofBits .f32 0x00000000#32))

theorem expoV_apply (s : Shape) (x : FVec Ideal s .f32) (i : s.Idx) : expoV s x i = eOf (x i) := by
  unfold eOf
  pointwise [expoV]
  by_cases h1 : Ideal.ofBits .f32 8388608#32 ≤ x i <;> by_cases h2 : x i < Ideal.ofBits .f32 2071986176#32 <;>
    simp [h1, h2, Scalar.select, IntOp.andi]

/-- A product with the constant 1/448. -/
theorem ratio_apply (s : Shape) (x : FVec Ideal s .f32) (i : s.Idx) :
    mulf x (broadcast s (Scalar.ofBits .f32 0x3B124925#32)) i = x i * rec448 := rfl
theorem exp2_apply (s : Shape) (x : FVec Ideal s .f32) (i : s.Idx) : exp2 x i = Ideal.exp2 (x i) := rfl
theorem zero_f32 : Ideal.ofBits .f32 0x00000000#32 = 0 := by simp [Ideal.ofBits, Ideal.ieee]
/-- The inverse of a power of two. -/
theorem inv_apply (s : Shape) (x : FVec Ideal s .f32) (i : s.Idx) :
    exp2 (subf (broadcast s (Scalar.ofBits .f32 0x00000000#32)) x) i = Ideal.exp2 (0 - x i) :=
  congrArg (fun z : EReal => Ideal.exp2 (z - x i)) zero_f32

/-- The codes of an array of numbers and of their scales' inverses. -/
def codeV (s : Shape) (x e : FVec Ideal s .f32) : FVec Ideal s .fp8e4m3 :=
  truncf .fp8e4m3
    (minimumf (broadcast s (Scalar.ofBits .f32 0x43E00000#32)) (maximumf (broadcast s (Scalar.ofBits .f32 0xC3E00000#32)) (mulf x e)))
    (by decide)

theorem codeV_apply (s : Shape) (x e : FVec Ideal s .f32) (i : s.Idx) : codeV s x e i = clip (x i * e i) := rfl

/-! ## The kernel's words -/

theorem lane_word : ∀ k : Fin 256, Scalar.select (IntOp.cmpi .slt (BitVec.ofNat 32 k.val) 247#32) (BitVec.ofNat 32 k.val) 255#32 = lane k := by
  decide +kernel
theorem thr_word : ∀ k : Fin 256, IntOp.shli ArithUnit.vector (BitVec.ofNat 32 k.val) 23#32 = BitVec.ofNat 32 k.val <<< 23 := by
  decide +kernel

/-- The fold over the lanes, as the kernel's operations spell it. -/
theorem field_fold (t : EReal) :
    (Finset.univ.fold IntOp.maxsi 2147483648#32 fun x : Fin 256 =>
        if Ideal.ofBits .f32 (IntOp.shli ArithUnit.vector (BitVec.ofNat 32 x.val) 23#32) ≤ t then
          Scalar.select (IntOp.cmpi .slt (BitVec.ofNat 32 x.val) 247#32) (BitVec.ofNat 32 x.val) 255#32
        else 0#32) = fieldOf t := by
  unfold fieldOf thr
  refine congrArg (fun f => Finset.univ.fold IntOp.maxsi 2147483648#32 f) (funext fun k => ?_)
  rw [lane_word, thr_word]

/-- The exponent's word, as the kernel's operations spell it. -/
theorem expo_word (f : BitVec 32) :
    Scalar.select (IntOp.ori (IntOp.cmpi .eq f 0#32) (IntOp.cmpi .eq f 255#32)) (0#32) (IntOp.subi f 126#32) = expoOf f := by
  unfold expoOf
  by_cases h0 : f = 0#32 <;> by_cases h1 : f = 255#32 <;>
    simp [h0, h1, beq_eq_false_iff_ne.2, Scalar.select, IntOp.ori, IntOp.cmpi, IntOp.subi]

theorem shift_word (x : BitVec 32) : IntOp.shli ArithUnit.vector x 23#32 = x <<< 23 := by
  simp [IntOp.shli]

/-- The scale's word. -/
theorem up_word (f : BitVec 32) : IntOp.shli ArithUnit.vector (IntOp.addi (127#32) (expoOf f)) 23#32 = upWord f := shift_word _
/-- The word of the scale's inverse. -/
theorem down_word (f : BitVec 32) : IntOp.shli ArithUnit.vector (IntOp.subi (127#32) (expoOf f)) 23#32 = downWord f := shift_word _

end Cert.Spec
-- ==== Proof.Value.KerWeight.lean ====
/- A block's scale and codes as the kernel computes them, read at an index: a weight block, and the three rows of an activation group. -/
module

public import proofs.«01_k».proof.Proof.Value.Spec
public import proofs.«01_k».proof.Proof.KernelIdeal.Rolled

@[expose] public section

set_option maxRecDepth 16384

noncomputable section

namespace Cert.KernelIdeal.Rolled

open Cert.KernelIdeal Cert.KernelIdeal.Gen Idealize.ShloMosaic Cert.Spec Cert.Expo

/-! ## A weight block -/

theorem fieldW_apply (t : FVec Ideal S1x1 .f32) : fieldW t (ix2 (0 : Fin 1) (0 : Fin 1)) = fieldOf (t (ix2 (0 : Fin 1) (0 : Fin 1))) := by
  rw [← field_fold]
  pointwise [fieldW, thresholds, fields, lanes]

theorem expoW_apply (t : FVec Ideal S1x1 .f32) : expoW t (ix2 (0 : Fin 1) (0 : Fin 1)) = expoOf (fieldOf (t (ix2 (0 : Fin 1) (0 : Fin 1)))) := by
  rw [← expo_word, ← fieldW_apply]
  rfl

theorem ratioW_apply (v : Vec Ideal S128x128 .bf16) :
    ratioW v (ix2 (0 : Fin 1) (0 : Fin 1)) = (Finset.univ.sup fun k : Fin 128 × Fin 128 => mag (v (ix2 k.1 k.2))) * rec448 := by
  rw [← sup_strips fun k : Fin 128 × Fin 128 => mag (v (ix2 k.1 k.2))]
  pointwise [ratioW]
  rw [neg_inf_f32, neg_inf_bf16]
  rfl

/-- The word of the power of two, read as a number. -/
theorem up_apply (e : IVec S1x1 32) :
    (bitcastToFloat .f32 (shli (addi (broadcast S1x1 127#32) e) (broadcast S1x1 23#32)) : FVec Ideal S1x1 .f32) (ix2 (0 : Fin 1) (0 : Fin 1))
      = Ideal.ofBits .f32 (IntOp.shli ArithUnit.vector (IntOp.addi (127#32) (e (ix2 (0 : Fin 1) (0 : Fin 1)))) 23#32) := rfl
theorem down_apply (e : IVec S1x1 32) :
    invW (F := Ideal) e (ix2 (0 : Fin 1) (0 : Fin 1))
      = Ideal.ofBits .f32 (IntOp.shli ArithUnit.vector (IntOp.subi (127#32) (e (ix2 (0 : Fin 1) (0 : Fin 1)))) 23#32) := rfl

/-- A weight block's scale is the power of two of its exponent. -/
theorem scaleW_apply (v : Vec Ideal S128x128 .bf16) :
    scaleW v (ix2 (0 : Fin 1) (0 : Fin 1))
      = Ideal.exp2 (eOf ((Finset.univ.sup fun k : Fin 128 × Fin 128 => mag (v (ix2 k.1 k.2))) * rec448)) := by
  unfold scaleW
  rw [up_apply, expoW_apply, up_word, up_eq, ratioW_apply]

/-- The codes from the numbers and the scale's inverse. -/
def clipW (v : Vec Ideal S128x128 .bf16) (s : FVec Ideal S1x1 .f32) : FVec Ideal S128x128 .fp8e4m3 :=
  truncf .fp8e4m3
    (minimumf (broadcast S128x128 (Scalar.truncf .bf16 bitsLt_bf16_f32 (Scalar.ofBits .f32 0x43E00000#32)))
      (maximumf (broadcast S128x128 (Scalar.truncf .bf16 bitsLt_bf16_f32 (Scalar.ofBits .f32 0xC3E00000#32)))
        (mulf v (broadcastTo S128x128 (truncf .bf16 s bitsLt_bf16_f32) broadcasts_S1x1_S128x128))))
    bitsLt_fp8e4m3_bf16
theorem clipW_apply (v : Vec Ideal S128x128 .bf16) (s : FVec Ideal S1x1 .f32) (i j : Fin 128) :
    clipW v s (ix2 i j) = clip (v (ix2 i j) * s (ix2 (0 : Fin 1) (0 : Fin 1))) := by
  pointwise [clipW, clip]
theorem codesW_eq (v : Vec Ideal S128x128 .bf16) : codesW v = clipW v (invW (expoW (ratioW v))) := rfl

/-- A weight block's codes. -/
theorem codesW_apply (v : Vec Ideal S128x128 .bf16) (i j : Fin 128) :
    codesW v (ix2 i j)
      = clip (v (ix2 i j) * Ideal.exp2 (0 - eOf ((Finset.univ.sup fun k : Fin 128 × Fin 128 => mag (v (ix2 k.1 k.2))) * rec448))) := by
  rw [codesW_eq, clipW_apply, down_apply, expoW_apply, down_word, down_eq, ratioW_apply]

/-! ## An activation group -/

theorem fieldX_apply (t : FVec Ideal S3x1 .f32) (b : Fin 3) : fieldX t (ix2 b (0 : Fin 1)) = fieldOf (t (ix2 b (0 : Fin 1))) := by
  rw [← field_fold]
  pointwise [fieldX, thresholds, fields, lanes]

theorem expoX_apply (t : FVec Ideal S3x1 .f32) (b : Fin 3) : expoX t (ix2 b (0 : Fin 1)) = expoOf (fieldOf (t (ix2 b (0 : Fin 1)))) := by
  rw [← expo_word, ← fieldX_apply]
  rfl

theorem ratioX_apply (v : FVec Ideal S3x128 .f32) (b : Fin 3) :
    ratioX v (ix2 b (0 : Fin 1)) = (Finset.univ.sup fun k : Fin 128 => mag (v (ix2 b k))) * rec448 := by
  pointwise [ratioX]
  rw [neg_inf_f32]
  rfl

theorem upX_apply (e : IVec S3x1 32) (b : Fin 3) :
    (bitcastToFloat .f32 (shli (addi (broadcast S3x1 127#32) e) (broadcast S3x1 23#32)) : FVec Ideal S3x1 .f32) (ix2 b (0 : Fin 1))
      = Ideal.ofBits .f32 (IntOp.shli ArithUnit.vector (IntOp.addi (127#32) (e (ix2 b (0 : Fin 1)))) 23#32) := rfl
/-- The inverses of three powers of two. -/
def invX (e : IVec S3x1 32) : FVec Ideal S3x1 .f32 :=
  bitcastToFloat .f32 (shli (subi (broadcast S3x1 127#32) e) (broadcast S3x1 23#32))
theorem downX_apply (e : IVec S3x1 32) (b : Fin 3) :
    invX e (ix2 b (0 : Fin 1)) = Ideal.ofBits .f32 (IntOp.shli ArithUnit.vector (IntOp.subi (127#32) (e (ix2 b (0 : Fin 1)))) 23#32) := rfl

/-- An activation group's scale is the power of two of its exponent. -/
theorem scaleX_apply (v : FVec Ideal S3x128 .f32) (b : Fin 3) :
    scaleX v (ix2 b (0 : Fin 1)) = Ideal.exp2 (eOf ((Finset.univ.sup fun k : Fin 128 => mag (v (ix2 b k))) * rec448)) := by
  unfold scaleX
  rw [upX_apply, expoX_apply, up_word, up_eq, ratioX_apply]

theorem bcastX_apply {α : Type} (s : S3x1.Idx → α) (b : Fin 3) (k : Fin 128) :
    broadcastTo S3x128 s broadcasts_S3x1_S3x128 (ix2 b k) = s (ix2 b (0 : Fin 1)) := by
  pointwise

theorem codesX_eq (v : FVec Ideal S3x128 .f32) :
    codesX v = codeV S3x128 v (broadcastTo S3x128 (invX (expoX (ratioX v))) broadcasts_S3x1_S3x128) := rfl

/-- An activation group's codes. -/
theorem codesX_apply (v : FVec Ideal S3x128 .f32) (b : Fin 3) (k : Fin 128) :
    codesX v (ix2 b k)
      = clip (v (ix2 b k) * Ideal.exp2 (0 - eOf ((Finset.univ.sup fun k : Fin 128 => mag (v (ix2 b k))) * rec448))) := by
  rw [codesX_eq, codeV_apply, bcastX_apply, downX_apply, expoX_apply, down_word, down_eq, ratioX_apply]

/-- Codes times scales. -/
def timesX (c : FVec Ideal S3x128 .fp8e4m3) (s : FVec Ideal S3x1 .f32) : FVec Ideal S1x3x128 .bf16 :=
  shapeCast S1x3x128
    (mulf (extf .bf16 c bitsLt_fp8e4m3_bf16) (broadcastTo S3x128 (truncf .bf16 s bitsLt_bf16_f32) broadcasts_S3x1_S3x128))
    shapeCasts_S3x128_S1x3x128
theorem timesX_apply (c : FVec Ideal S3x128 .fp8e4m3) (s : FVec Ideal S3x1 .f32) (b : Fin 3) (k : Fin 128) :
    timesX c s (ix3 (0 : Fin 1) b k) = c (ix2 b k) * s (ix2 b (0 : Fin 1)) := by
  pointwise [timesX]
theorem backX_eq (v : FVec Ideal S3x128 .f32) : backX v = timesX (codesX v) (scaleX v) := rfl
/-- An activation group's codes times their scale. -/
theorem backX_apply (v : FVec Ideal S3x128 .f32) (b : Fin 3) (k : Fin 128) :
    backX v (ix3 (0 : Fin 1) b k) = codesX v (ix2 b k) * scaleX v (ix2 b (0 : Fin 1)) := by
  rw [backX_eq, timesX_apply]

end Cert.KernelIdeal.Rolled
-- ==== Proof.Value.Finals.lean ====
/- What the kernel's arrays hold after its run, and what its results hold after the reshapes that follow. -/
module

public import proofs.«01_k».proof.Proof.KernelIdeal.Quiet
public import Idealize.ShloMosaic.Lib.Pipeline.ValueKit
public import Idealize.ShloMosaic.Lib.Pointwise

@[expose] public section

set_option maxRecDepth 65536

noncomputable section

namespace Cert.KernelIdeal.Rolled

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The last grid point. -/
def tl : Fin cfg0.N := ⟨8, by decide⟩

theorem final4 (c : Dev nD) : (dats m 0 c).arrAt 4 cfg0.N = yOf (accV m c 9) :=
  (dats m 0 c).arrAt_eq_of_after_last 4 tl (by decide +kernel) _ fun j => rfl
theorem final5 (c : Dev nD) : (dats m 0 c).arrAt 5 cfg0.N = residV m c :=
  (dats m 0 c).arrAt_eq_of_after_last 5 tl (by decide +kernel) _ fun j => rfl
theorem final6 (c : Dev nD) : (dats m 0 c).arrAt 6 cfg0.N = actCodes (normV m c) :=
  (dats m 0 c).arrAt_eq_of_after_last 6 tl (by decide +kernel) _ fun j => rfl
theorem final7 (c : Dev nD) : (dats m 0 c).arrAt 7 cfg0.N = actScales (normV m c) :=
  (dats m 0 c).arrAt_eq_of_after_last 7 tl (by decide +kernel) _ fun j => rfl

/-- The weight's codes, a block of 256 rows at each grid point. -/
def wCodes (c : Dev nD) : S2304x9216.Idx → Elt F .fp8e4m3 := fun i =>
  codesAll (wV m c ⟨(i 0).val / 256, lt_of_lt_of_eq (by have h : (i 0).val < 2304 := (i 0).isLt; omega) N_0.symm⟩)
    (ix2 (⟨(i 0).val % 256, Nat.mod_lt _ (by decide)⟩ : Fin 256) (⟨(i 1).val, (i 1).isLt⟩ : Fin 9216))
/-- The weight's scales, two groups at each grid point. -/
def wScales (c : Dev nD) : S9x2x72.Idx → Elt F .f32 := fun i =>
  scalesAll (wV m c ⟨(i 0).val, lt_of_lt_of_eq (i 0).isLt N_0.symm⟩)
    (ix3 (0 : Fin 1) (⟨(i 1).val, (i 1).isLt⟩ : Fin 2) (⟨(i 2).val, (i 2).isLt⟩ : Fin 72))

theorem idx3 : ∀ t : Fin cfg0.N, win0_3.index t (0 : Fin 2) = t.val ∧ win0_3.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

theorem final8 (c : Dev nD) : (dats m 0 c).arrAt 8 cfg0.N = wCodes m c := by
  refine (dats m 0 c).arrAt_eq_of_covers 8 _ (by decide +kernel) fun t hf y => ?_
  have e0 : (((win0_8.blk t).view.emb y 0 : Fin _) : ℕ) = t.val * 256 + (y 0).val := by blk_simp [(idx8 t).1]
  have e1 : (((win0_8.blk t).view.emb y 1 : Fin _) : ℕ) = (y 1).val := by blk_simp [(idx8 t).2]
  have hy : (y 0).val < 256 := (y 0).isLt
  show codesAll (wV m c t) y = wCodes m c ((win0_8.blk t).view.emb y)
  have key : ∀ (t' : Fin cfg0.N) (y' : S256x9216.Idx), t' = t → y' = y → codesAll (wV m c t) y = codesAll (wV m c t') y' := by
    rintro _ _ rfl rfl; rfl
  refine key _ _ (Fin.ext ?_) (funext fun a => Fin.ext ?_)
  · show ((win0_8.blk t).view.emb y 0 : Fin _).val / 256 = t.val
    rw [e0]; omega
  · match a with
    | ⟨0, _⟩ => show ((win0_8.blk t).view.emb y 0 : Fin _).val % 256 = (y 0).val; rw [e0]; omega
    | ⟨1, _⟩ => exact e1

theorem final9 (c : Dev nD) : (dats m 0 c).arrAt 9 cfg0.N = wScales m c := by
  refine (dats m 0 c).arrAt_eq_of_covers 9 _ (by decide +kernel) fun t hf y => ?_
  have hy : (y 0).val < 1 := (y 0).isLt
  have e0 : (((win0_9.blk t).view.emb y 0 : Fin _) : ℕ) = t.val := by blk_simp [(idx9 t).1]
  have e1 : (((win0_9.blk t).view.emb y 1 : Fin _) : ℕ) = (y 1).val := by blk_simp [(idx9 t).2.1]
  have e2 : (((win0_9.blk t).view.emb y 2 : Fin _) : ℕ) = (y 2).val := by blk_simp [(idx9 t).2.2]
  show scalesAll (wV m c t) y = wScales m c ((win0_9.blk t).view.emb y)
  have key : ∀ (t' : Fin cfg0.N) (y' : S1x2x72.Idx), t' = t → y' = y → scalesAll (wV m c t) y = scalesAll (wV m c t') y' := by
    rintro _ _ rfl rfl; rfl
  refine key _ _ (Fin.ext e0) (funext fun a => Fin.ext ?_)
  match a with
  | ⟨0, _⟩ => show 0 = (y 0).val; omega
  | ⟨1, _⟩ => exact e1
  | ⟨2, _⟩ => exact e2

/-- The weight's block at a grid point, read off the array. -/
theorem wV_apply (c : Dev nD) (t : Fin cfg0.N) (y : S256x9216.Idx) :
    wV m c t y = m ((c : Thread nD τ).loc main_arg3)
      (ix2 (⟨t.val * 256 + (y 0).val, by have h := lt9 t; have hy : (y 0).val < 256 := (y 0).isLt; omega⟩ : Fin 2304) (⟨(y 1).val, (y 1).isLt⟩ : Fin 9216)) := by
  have e0 : (((win0_3.blk t).view.emb y 0 : Fin _) : ℕ) = t.val * 256 + (y 0).val := by blk_simp [(idx3 t).1]
  have e1 : (((win0_3.blk t).view.emb y 1 : Fin _) : ℕ) = (y 1).val := by blk_simp [(idx3 t).2]
  show V m c main_arg3 ((win0_3.blk t).view.emb y) = _
  rw [V_main_arg3]
  refine congrArg _ (funext fun a => Fin.ext ?_)
  match a with
  | ⟨0, _⟩ => exact e0
  | ⟨1, _⟩ => exact e1

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)

theorem iblk0_eq (c : Dev nD) (t : Fin cfg0.N) :
    (iblk m c 0 t : S3x2304.Idx → Elt F .bf16) = shapeCast S3x2304 (m ((c : Thread nD τ).loc main_arg0) : S3x1x2304.Idx → Elt F .bf16) shapeCasts_S3x1x2304_S3x2304 := by
  funext y
  have e : (win0_0.blk t).view.emb y = y := by
    funext a; apply Fin.ext
    match a with
    | ⟨0, _⟩ => show ((win0_0.blk t).view.emb y 0 : Fin _).val = (y 0).val; blk_simp [(idx0 t).1]
    | ⟨1, _⟩ => show ((win0_0.blk t).view.emb y 1 : Fin _).val = (y 1).val; blk_simp [(idx0 t).2]
  show V m c main_v0 ((win0_0.blk t).view.emb y) = _
  rw [e]
  show V0 m c (Proc.devRef .tc main_v0) y = _
  simp only [V0, List.flatten_cons, List.flatten_nil, List.append_nil]
  after_results
  rfl
theorem iblk1_eq (c : Dev nD) (t : Fin cfg0.N) :
    (iblk m c 1 t : S3x2304.Idx → Elt F .bf16) = shapeCast S3x2304 (m ((c : Thread nD τ).loc main_arg1) : S3x1x2304.Idx → Elt F .bf16) shapeCasts_S3x1x2304_S3x2304 := by
  funext y
  have e : (win0_1.blk t).view.emb y = y := by
    funext a; apply Fin.ext
    match a with
    | ⟨0, _⟩ => show ((win0_1.blk t).view.emb y 0 : Fin _).val = (y 0).val; blk_simp [(idx1 t).1]
    | ⟨1, _⟩ => show ((win0_1.blk t).view.emb y 1 : Fin _).val = (y 1).val; blk_simp [(idx1 t).2]
  show V m c main_v1 ((win0_1.blk t).view.emb y) = _
  rw [e]
  show V0 m c (Proc.devRef .tc main_v1) y = _
  simp only [V0, List.flatten_cons, List.flatten_nil, List.append_nil]
  after_results
  rfl
theorem iblk2_eq (c : Dev nD) (t : Fin cfg0.N) :
    (iblk m c 2 t : S1x2304.Idx → Elt F .f32) = shapeCast S1x2304 (m ((c : Thread nD τ).loc main_arg2) : S2304.Idx → Elt F .f32) shapeCasts_S2304_S1x2304 := by
  funext y
  have e : (win0_2.blk t).view.emb y = y := by
    funext a; apply Fin.ext
    match a with
    | ⟨0, _⟩ => show ((win0_2.blk t).view.emb y 0 : Fin _).val = (y 0).val; blk_simp [(idx2 t).1]
    | ⟨1, _⟩ => show ((win0_2.blk t).view.emb y 1 : Fin _).val = (y 1).val; blk_simp [(idx2 t).2]
  show V m c main_v2 ((win0_2.blk t).view.emb y) = _
  rw [e]
  show V0 m c (Proc.devRef .tc main_v2) y = _
  simp only [V0, List.flatten_cons, List.flatten_nil, List.append_nil]
  after_results
  rfl

/-- An array of the region, as the reshapes after it find it. -/
theorem arr_read (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr spec0 (by decide) c _ _ w

theorem W_main_v4 (c : Dev nD) :
    (Pipeline.afterTail₀ cfgs (dats m) 0 (V0 m) [hostOps1] c main_v4 : S3x1x9216.Idx → Elt F .bf16) = shapeCast S3x1x9216 (yOf (accV m c 9) : S3x9216.Idx → Elt F .bf16) shapeCasts_S3x9216_S3x1x9216 := by
  unfold Pipeline.afterTail₀
  simp only [List.flatten_cons, List.flatten_nil, List.append_nil]
  after_results
  exact congrArg (fun X : S3x9216.Idx → Elt F .bf16 => shapeCast S3x1x9216 X shapeCasts_S3x9216_S3x1x9216) ((arr_read m c 4).trans (final4 m c))

theorem W_main_v5 (c : Dev nD) :
    (Pipeline.afterTail₀ cfgs (dats m) 0 (V0 m) [hostOps1] c main_v5 : S3x1x2304.Idx → Elt F .bf16) = shapeCast S3x1x2304 (residV m c : S3x2304.Idx → Elt F .bf16) shapeCasts_S3x2304_S3x1x2304 := by
  unfold Pipeline.afterTail₀
  simp only [List.flatten_cons, List.flatten_nil, List.append_nil]
  after_results
  exact congrArg (fun X : S3x2304.Idx → Elt F .bf16 => shapeCast S3x1x2304 X shapeCasts_S3x2304_S3x1x2304) ((arr_read m c 5).trans (final5 m c))

theorem W_main_v6 (c : Dev nD) :
    (Pipeline.afterTail₀ cfgs (dats m) 0 (V0 m) [hostOps1] c main_v6 : S3x1x2304.Idx → Elt F .fp8e4m3) = shapeCast S3x1x2304 (actCodes (normV m c) : S3x2304.Idx → Elt F .fp8e4m3) shapeCasts_S3x2304_S3x1x2304 := by
  unfold Pipeline.afterTail₀
  simp only [List.flatten_cons, List.flatten_nil, List.append_nil]
  after_results
  exact congrArg (fun X : S3x2304.Idx → Elt F .fp8e4m3 => shapeCast S3x1x2304 X shapeCasts_S3x2304_S3x1x2304) ((arr_read m c 6).trans (final6 m c))

theorem W_main_v7 (c : Dev nD) :
    (Pipeline.afterTail₀ cfgs (dats m) 0 (V0 m) [hostOps1] c main_v7 : S3x1x18.Idx → Elt F .f32) = shapeCast S3x1x18 (actScales (normV m c) : S3x18.Idx → Elt F .f32) shapeCasts_S3x18_S3x1x18 := by
  unfold Pipeline.afterTail₀
  simp only [List.flatten_cons, List.flatten_nil, List.append_nil]
  after_results
  exact congrArg (fun X : S3x18.Idx → Elt F .f32 => shapeCast S3x1x18 X shapeCasts_S3x18_S3x1x18) ((arr_read m c 7).trans (final7 m c))

theorem W_main_v8 (c : Dev nD) :
    (Pipeline.afterTail₀ cfgs (dats m) 0 (V0 m) [hostOps1] c main_v8 : S18x72.Idx → Elt F .f32) = shapeCast S18x72 (wScales m c : S9x2x72.Idx → Elt F .f32) shapeCasts_S9x2x72_S18x72 := by
  unfold Pipeline.afterTail₀
  simp only [List.flatten_cons, List.flatten_nil, List.append_nil]
  after_results
  exact congrArg (fun X : S9x2x72.Idx → Elt F .f32 => shapeCast S18x72 X shapeCasts_S9x2x72_S18x72) ((arr_read m c 9).trans (final9 m c))

/-- The run, read at the results and the arguments. -/
theorem results : θ_run defs (onTc (τ := τ) (main (F := F))) ⟨m, fun _ => 0, ρ⟩ (fun r => ∀ c : Dev nD,
      r.2.mem ((c.tc : Thread nD τ).loc main_v4) = shapeCast S3x1x9216 (yOf (accV m c 9)) shapeCasts_S3x9216_S3x1x9216
      ∧ r.2.mem ((c.tc : Thread nD τ).loc main_v5) = shapeCast S3x1x2304 (residV m c) shapeCasts_S3x2304_S3x1x2304
      ∧ r.2.mem ((c.tc : Thread nD τ).loc main_v6) = shapeCast S3x1x2304 (actCodes (normV m c)) shapeCasts_S3x2304_S3x1x2304
      ∧ r.2.mem ((c.tc : Thread nD τ).loc main_v7) = shapeCast S3x1x18 (actScales (normV m c)) shapeCasts_S3x18_S3x1x18
      ∧ r.2.mem ((c.tc : Thread nD τ).loc main_v3_4) = wCodes m c
      ∧ r.2.mem ((c.tc : Thread nD τ).loc main_v8) = shapeCast S18x72 (wScales m c) shapeCasts_S9x2x72_S18x72
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).2 main_v4 (Pipeline.mem_restRefs_of main_v4 (by decide) (by decide))).trans (W_main_v4 m c),
      ((h.1 c).2 main_v5 (Pipeline.mem_restRefs_of main_v5 (by decide) (by decide))).trans (W_main_v5 m c),
      ((h.1 c).2 main_v6 (Pipeline.mem_restRefs_of main_v6 (by decide) (by decide))).trans (W_main_v6 m c),
      ((h.1 c).2 main_v7 (Pipeline.mem_restRefs_of main_v7 (by decide) (by decide))).trans (W_main_v7 m c),
      ((h.1 c).1 8).trans (final8 m c),
      ((h.1 c).2 main_v8 (Pipeline.mem_restRefs_of main_v8 (by decide) (by decide))).trans (W_main_v8 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).1 3).trans (((dats m 0 c).arrAt_in 3 rfl _).trans (V_main_arg3 m c))⟩) (run m ρ)

end Cert.KernelIdeal.Rolled
-- ==== Proof.Value.KerResults.lean ====
/- The kernel's results read at an index: the residual stream, the normed activations, the scales and the codes. -/
module

public import proofs.«01_k».proof.Proof.Value.KerWeight
public import proofs.«01_k».proof.Proof.Value.Finals

@[expose] public section

set_option maxRecDepth 16384

noncomputable section

namespace Cert.KernelIdeal.Rolled

open Cert.KernelIdeal Cert.KernelIdeal.Gen Idealize.ShloMosaic Idealize.ShloMosaic.TcCoe Cert.Spec Cert.Expo

/-! ## The weight's rows of one step -/

section
variable (W : S256x9216.Idx → EReal) (w : S2304x9216.Idx → EReal) {t : ℕ} (ht : t < 9)
  (hW : ∀ (a : Fin 256) (j : Fin 9216) (i : Fin 2304), i.val = t * 256 + a.val → W (ix2 a j) = w (ix2 i j))
include ht hW

/-- A block of the step's rows is a block of the weight. -/
theorem ld_rW {b q : ℕ} (hb : b < 2) (hq : q < 72) (k l : Fin 128) (i : Fin 2304) (j : Fin 9216)
    (hi : i.val = (2 * t + b) * 128 + k.val) (hj : j.val = q * 128 + l.val) :
    View.ld (Val := Elt Ideal) (e' := .bf16) W (rW hb hq) (ix2 k l) = w (ix2 i j) := by
  refine (View.ld_unit_apply_of (Val := Elt Ideal) (e := .bf16) W _ _ _ (ix2 k l)
    (ix2 (⟨128 * b + k.val, by omega⟩ : Fin 256) (⟨128 * q + l.val, by omega⟩ : Fin 9216)) (fun a => ?_)).trans ?_
  · match a with
    | ⟨0, _⟩ => rfl
    | ⟨1, _⟩ => rfl
  · refine (hW _ _ i (by dsimp only; omega)).trans (congrArg (fun z => w (ix2 i z)) (Fin.ext ?_))
    show 128 * q + l.val = j.val; omega

/-- The largest magnitude of a block of the step's rows. -/
theorem max_rW {b q : ℕ} (hb : b < 2) (hq : q < 72) (g : Fin 18) (p : Fin 72) (hg : g.val = 2 * t + b) (hp : p.val = q) :
    (Finset.univ.sup fun k : Fin 128 × Fin 128 => mag (View.ld (Val := Elt Ideal) (e' := .bf16) W (rW hb hq) (ix2 k.1 k.2))) = wMax w g p := by
  rw [wMax]
  refine congrArg (Finset.univ.sup (α := EReal)) (funext fun k => congrArg mag ?_)
  exact ld_rW W w ht hW hb hq k.1 k.2 _ _ (by dsimp only; omega) (by dsimp only; omega)

/-- The scale of a block of the step's rows. -/
theorem sc_spec {b q : ℕ} (hb : b < 2) (hq : q < 72) (g : Fin 18) (p : Fin 72) (hg : g.val = 2 * t + b) (hp : p.val = q) :
    sc (F := Ideal) W hb hq (ix2 (0 : Fin 1) (0 : Fin 1)) = wScale w g p := by
  rw [sc, scaleW_apply, wScale, wExp]
  exact congrArg (fun s : EReal => Ideal.exp2 (eOf (s * rec448))) (max_rW W w ht hW hb hq g p hg hp)

/-- The codes of the step's rows. -/
theorem codes_spec (a : Fin 256) (j : Fin 9216) (i : Fin 2304) (hi : i.val = t * 256 + a.val) :
    codesAll (F := Ideal) W (ix2 a j) = wCode w i j := by
  have hb : a.val / 128 < 2 := by omega
  have hq : j.val / 128 < 72 := by omega
  have e : codesAll (F := Ideal) W (ix2 a j)
      = codesW (View.ld (Val := Elt Ideal) (e' := .bf16) W (rW hb hq)) (ix2 (⟨a.val % 128, by omega⟩ : Fin 128) (⟨j.val % 128, by omega⟩ : Fin 128)) := rfl
  rw [e, codesW_apply, wCode, wExp]
  refine congrArg₂ (fun x s : EReal => clip (x * Ideal.exp2 (0 - eOf (s * rec448)))) ?_ ?_
  · exact ld_rW W w ht hW hb hq _ _ i j (by dsimp only; omega) (by dsimp only; omega)
  · exact max_rW W w ht hW hb hq _ _ (by dsimp only; omega) rfl

end

/-! ## The rows -/

/-- The residual stream, cell by cell. -/
theorem resid_apply (x r : Vec Ideal S3x2304 .bf16) (b : Fin 3) (i : Fin 2304) : resid x r (ix2 b i) = x (ix2 b i) + r (ix2 b i) := by
  pointwise [resid]

/-- The normed activations, cell by cell. -/
theorem normed_apply (h : FVec Ideal S3x2304 .bf16) (g : Vec Ideal S1x2304 .f32) (b : Fin 3) (i : Fin 2304) :
    normed h g (ix2 b i)
      = h (ix2 b i)
          * Ideal.rsqrt (Ideal.div (∑ k : Fin 2304, h (ix2 b k) * h (ix2 b k)) (Ideal.ofBits .f32 0x45100000#32) + Ideal.ofBits .f32 0x358637BD#32)
          * g (ix2 (0 : Fin 1) i) := by
  pointwise [normed]

theorem cast_in {α : Type} (v : S3x1x2304.Idx → α) (b : Fin 3) (i : Fin 2304) :
    shapeCast S3x2304 v shapeCasts_S3x1x2304_S3x2304 (ix2 b i) = v (ix3 b (0 : Fin 1) i) := by
  pointwise
theorem cast_gain {α : Type} (v : S2304.Idx → α) (i : Fin 2304) :
    shapeCast S1x2304 v shapeCasts_S2304_S1x2304 (ix2 (0 : Fin 1) i) = v (ix1 i) := by
  pointwise

/-- A group of the normed activations, cell by cell. -/
theorem grp_apply (N : FVec Ideal S3x2304 .f32) {g : ℕ} (hg : g < 18) (b : Fin 3) (k : Fin 128) :
    grp N hg (ix2 b k) = N (ix2 b (⟨g * 128 + k.val, by omega⟩ : Fin 2304)) := by
  refine congrArg N (funext fun a => Fin.ext ?_)
  match a with
  | ⟨0, _⟩ => show 0 + b.val = b.val; omega
  | ⟨1, _⟩ => show 128 * g + k.val = g * 128 + k.val; omega

section
variable (N : FVec Ideal S3x2304 .f32) (x r : S3x1x2304.Idx → EReal) (gain : S2304.Idx → EReal)
  (hN : ∀ (b : Fin 3) (i : Fin 2304), N (ix2 b i) = nrm x r gain b i)
include hN

/-- The scale of an activation group. -/
theorem scale_spec {g : ℕ} (hg : g < 18) (b : Fin 3) (p : Fin 18) (hp : p.val = g) :
    scaleX (grp N hg) (ix2 b (0 : Fin 1)) = aScale x r gain b p := by
  subst hp
  rw [scaleX_apply, aScale, aExp]
  simp only [grp_apply, hN]

/-- The codes of an activation group. -/
theorem code_spec {g : ℕ} (hg : g < 18) (b : Fin 3) (k : Fin 128) (i : Fin 2304) (hi : i.val = g * 128 + k.val) :
    codesX (grp N hg) (ix2 b k) = aCode x r gain b i := by
  have hp : (⟨i.val / 128, by omega⟩ : Fin 18) = ⟨g, hg⟩ := Fin.ext (by show i.val / 128 = g; omega)
  have hi' : i = ⟨g * 128 + k.val, by omega⟩ := Fin.ext hi
  rw [codesX_apply, aCode, hp, aExp]
  simp only [grp_apply, hN]
  rw [hi']

/-- The activation scales the kernel writes. -/
theorem actScales_spec (b : Fin 3) (g : Fin 18) : actScales N (ix2 b g) = aScale x r gain b g :=
  scale_spec N x r gain hN g.isLt b g rfl

/-- The activation codes the kernel writes. -/
theorem actCodes_spec (b : Fin 3) (i : Fin 2304) : actCodes N (ix2 b i) = aCode x r gain b i :=
  code_spec N x r gain hN (g := i.val / 128) (by omega) b (⟨i.val % 128, by omega⟩ : Fin 128) i (by dsimp only; omega)

/-- A group's codes times their scale. -/
theorem back_spec {g : ℕ} (hg : g < 18) (b : Fin 3) (k : Fin 128) (i : Fin 2304) (hi : i.val = g * 128 + k.val) :
    backX (grp N hg) (ix3 (0 : Fin 1) b k) = aCode x r gain b i * aScale x r gain b ⟨g, hg⟩ := by
  rw [backX_apply, code_spec N x r gain hN hg b k i hi, scale_spec N x r gain hN hg b ⟨g, hg⟩ rfl]

end

/-! ## The run's arrays -/

section
variable (m : (ℓ : Loc nD τ sig) → Buf (Elt Ideal) ℓ) (c : Dev nD)

/-- The four arguments. -/
abbrev argX : S3x1x2304.Idx → EReal := m ((c : Thread nD τ).loc main_arg0)
abbrev argR : S3x1x2304.Idx → EReal := m ((c : Thread nD τ).loc main_arg1)
abbrev argG : S2304.Idx → EReal := m ((c : Thread nD τ).loc main_arg2)
abbrev argW : S2304x9216.Idx → EReal := m ((c : Thread nD τ).loc main_arg3)

/-- The residual stream the kernel writes. -/
theorem residV_spec (b : Fin 3) (i : Fin 2304) : residV m c (ix2 b i) = res (argX m c) (argR m c) b i := by
  have e : residV m c = resid (F := Ideal) (shapeCast S3x2304 (argX m c) shapeCasts_S3x1x2304_S3x2304) (shapeCast S3x2304 (argR m c) shapeCasts_S3x1x2304_S3x2304) :=
    congrArg₂ (fun x r : Vec Ideal S3x2304 .bf16 => resid x r) (iblk0_eq m c t0) (iblk1_eq m c t0)
  rw [e, resid_apply, cast_in, cast_in, res]

/-- The normed activations the kernel computes from its arguments. -/
theorem normV_spec (b : Fin 3) (i : Fin 2304) : normV m c (ix2 b i) = nrm (argX m c) (argR m c) (argG m c) b i := by
  have e : normV m c = normed (F := Ideal) (residV m c) (shapeCast S1x2304 (argG m c) shapeCasts_S2304_S1x2304) :=
    congrArg (fun g : Vec Ideal S1x2304 .f32 => normed (residV m c) g) (iblk2_eq m c t0)
  rw [e, normed_apply, cast_gain, nrm]
  simp only [residV_spec]

/-- The rows of the weight that a step reads. -/
theorem wV_spec (t : Fin cfg0.N) (a : Fin 256) (j : Fin 9216) (i : Fin 2304) (hi : i.val = t.val * 256 + a.val) :
    wV m c t (ix2 a j) = argW m c (ix2 i j) :=
  (wV_apply m c t (ix2 a j)).trans (congrArg (fun z => argW m c (ix2 z j)) (Fin.ext hi.symm))

/-- The weight codes the kernel writes. -/
theorem wCodes_spec (i : Fin 2304) (j : Fin 9216) : wCodes m c (ix2 i j) = wCode (argW m c) i j :=
  codes_spec (t := i.val / 256) (wV m c ⟨i.val / 256, lt_of_lt_of_eq (by omega) N_0.symm⟩) (argW m c) (by omega)
    (fun a j i h => wV_spec m c _ a j i h) (⟨i.val % 256, by omega⟩ : Fin 256) j i (by dsimp only; omega)

theorem scales_cast (v : FVec Ideal S1x1 .f32) :
    shapeCast S1x1x1 v shapeCasts_S1x1_S1x1x1 (ix3 (0 : Fin 1) (0 : Fin 1) (0 : Fin 1)) = v (ix2 (0 : Fin 1) (0 : Fin 1)) := by
  pointwise

/-- The weight scales the kernel writes. -/
theorem wScales_spec (t : Fin 9) (b : Fin 2) (q : Fin 72) (g : Fin 18) (hg : g.val = 2 * t.val + b.val) :
    wScales m c (ix3 t b q) = wScale (argW m c) g q :=
  (scales_cast _).trans
    (sc_spec (t := t.val) (wV m c ⟨t.val, lt_of_lt_of_eq t.isLt N_0.symm⟩) (argW m c) t.isLt (fun a j i h => wV_spec m c _ a j i h) b.isLt q.isLt g q hg rfl)

/-- The weight scales of nine steps of two, joined to eighteen rows. -/
theorem cast_scales {α : Type} (v : S9x2x72.Idx → α) (g : Fin 18) (q : Fin 72) :
    shapeCast S18x72 v shapeCasts_S9x2x72_S18x72 (ix2 g q) = v (ix3 (⟨g.val / 2, by omega⟩ : Fin 9) (⟨g.val % 2, by omega⟩ : Fin 2) q) := by
  pointwise

end

end Cert.KernelIdeal.Rolled
-- ==== Proof.Value.KerProd.lean ====
/- The kernel's accumulator read at an index: after `n` steps it holds the sum over the first `2 n` groups. -/
module

public import proofs.«01_k».proof.Proof.Value.KerResults

@[expose] public section

set_option maxRecDepth 16384

noncomputable section

namespace Cert.KernelIdeal.Rolled

open Cert.KernelIdeal Cert.KernelIdeal.Gen Idealize.ShloMosaic Idealize.ShloMosaic.TcCoe Cert.Spec Cert.Expo

/-! ## One step on one chunk -/

/-- The step's product. -/
def mmS (x : FVec Ideal S16x256 .bf16) (w : Vec Ideal S256x256 .fp8e4m3) : FVec Ideal S16x256 .f32 :=
  matmul (φ₂ := .fp8e4m3) dot_S16x256_S256x256_S16x256_1_0_0_1_n_n none x (shapeCast S256x256 w shapeCasts_S256x256_S256x256) (constant S16x256 .f32 0x00000000#32)
theorem mmS_apply (x : FVec Ideal S16x256 .bf16) (w : Vec Ideal S256x256 .fp8e4m3) (p : Fin 16) (l : Fin 256) :
    mmS x w (ix2 p l) = ∑ k : Fin 256, (x (ix2 p k) : EReal) * w (ix2 k l) := by
  pointwise [mmS]

theorem scaleRow_apply (s0 s1 : FVec Ideal S1x1 .f32) (b : Fin 8) (l : Fin 256) :
    scaleRow s0 s1 (ix2 b l) = if l.val < 128 then s0 (ix2 (0 : Fin 1) (0 : Fin 1)) else s1 (ix2 (0 : Fin 1) (0 : Fin 1)) := by
  pointwise [scaleRow]
  split <;> rfl

theorem rows_lo (M : FVec Ideal S16x256 .f32) (b : Fin 8) (l : Fin 256) :
    extractStridedSlice S8x256 ![0, 0] M slices_S16x256_o0_0_S8x256 (ix2 b l) = M (ix2 (⟨b.val, by omega⟩ : Fin 16) l) := by
  pointwise
theorem rows_hi (M : FVec Ideal S16x256 .f32) (b : Fin 8) (l : Fin 256) :
    extractStridedSlice S8x256 ![8, 0] M slices_S16x256_o8_0_S8x256 (ix2 b l) = M (ix2 (⟨8 + b.val, by omega⟩ : Fin 16) l) := by
  pointwise

theorem accStep_eq (x : FVec Ideal S16x256 .bf16) (w : Vec Ideal S256x256 .fp8e4m3) (a : Vec Ideal S8x256 .f32) (s00 s01 s10 s11 : FVec Ideal S1x1 .f32) :
    accStep x w a s00 s01 s10 s11 =
      shapeCast S8x256
        (addf a (addf (mulf (extractStridedSlice S8x256 ![0, 0] (mmS x w) slices_S16x256_o0_0_S8x256) (scaleRow s00 s01))
          (mulf (extractStridedSlice S8x256 ![8, 0] (mmS x w) slices_S16x256_o8_0_S8x256) (scaleRow s10 s11))))
        shapeCasts_S8x256_S8x256 := rfl
/-- The sum of an accumulator and two scaled arrays. -/
theorem sum3_apply (a p0 r0 p1 r1 : FVec Ideal S8x256 .f32) (b : Fin 8) (l : Fin 256) :
    shapeCast S8x256 (addf a (addf (mulf p0 r0) (mulf p1 r1))) shapeCasts_S8x256_S8x256 (ix2 b l)
      = a (ix2 b l) + (p0 (ix2 b l) * r0 (ix2 b l) + p1 (ix2 b l) * r1 (ix2 b l)) := by
  pointwise

theorem accStep_apply (x : FVec Ideal S16x256 .bf16) (w : Vec Ideal S256x256 .fp8e4m3) (a : Vec Ideal S8x256 .f32) (s00 s01 s10 s11 : FVec Ideal S1x1 .f32)
    (b : Fin 8) (l : Fin 256) :
    accStep x w a s00 s01 s10 s11 (ix2 b l)
      = a (ix2 b l)
        + ((∑ k : Fin 256, (x (ix2 (⟨b.val, by omega⟩ : Fin 16) k) : EReal) * w (ix2 k l))
              * (if l.val < 128 then s00 (ix2 (0 : Fin 1) (0 : Fin 1)) else s01 (ix2 (0 : Fin 1) (0 : Fin 1)))
            + (∑ k : Fin 256, (x (ix2 (⟨8 + b.val, by omega⟩ : Fin 16) k) : EReal) * w (ix2 k l))
              * (if l.val < 128 then s10 (ix2 (0 : Fin 1) (0 : Fin 1)) else s11 (ix2 (0 : Fin 1) (0 : Fin 1)))) := by
  rw [accStep_eq, sum3_apply, rows_lo, rows_hi, scaleRow_apply, scaleRow_apply, mmS_apply, mmS_apply]

/-! ## A sum in two halves -/

/-- A sum over 256 whose upper half is zero. -/
theorem sum_lo (f : Fin 256 → EReal) (g : Fin 128 → EReal) (h0 : ∀ k : Fin 128, f ⟨k.val, by omega⟩ = g k) (h1 : ∀ k : Fin 256, 128 ≤ k.val → f k = 0) :
    ∑ k, f k = ∑ k, g k := by
  rw [Fin.sum_univ_add (a := 128) (b := 128) f]
  have e0 : ∑ k : Fin 128, f (Fin.castAdd 128 k) = ∑ k, g k := Finset.sum_congr rfl fun k _ => h0 k
  have e1 : ∑ k : Fin 128, f (Fin.natAdd 128 k) = 0 := Finset.sum_eq_zero fun k _ => h1 (Fin.natAdd 128 k) (Nat.le_add_right 128 k.val)
  rw [e0, e1, add_zero]
/-- A sum over 256 whose lower half is zero. -/
theorem sum_hi (f : Fin 256 → EReal) (g : Fin 128 → EReal) (h0 : ∀ k : Fin 128, f ⟨128 + k.val, by omega⟩ = g k) (h1 : ∀ k : Fin 256, k.val < 128 → f k = 0) :
    ∑ k, f k = ∑ k, g k := by
  rw [Fin.sum_univ_add (a := 128) (b := 128) f]
  have e0 : ∑ k : Fin 128, f (Fin.natAdd 128 k) = ∑ k, g k := Finset.sum_congr rfl fun k _ => h0 k
  have e1 : ∑ k : Fin 128, f (Fin.castAdd 128 k) = 0 := Finset.sum_eq_zero fun k _ => h1 (Fin.castAdd 128 k) k.isLt
  rw [e0, e1, zero_add]

/-! ## The matmul's rows of a step -/

theorem off_rows : ∀ t : Fin cfg0.N, k0_off1 (grid0.coords t) (0 : Fin 3) = t.val ∧ k0_off1 (grid0.coords t) (1 : Fin 3) = 0 ∧ k0_off1 (grid0.coords t) (2 : Fin 3) = 0 :=
  (by decide +kernel : ∀ t : Fin grid0.N, _)

theorem cast_step {α : Type} (v : S1x16x256.Idx → α) (p : Fin 16) (k : Fin 256) :
    shapeCast S16x256 v shapeCasts_S1x16x256_S16x256 (ix2 p k) = v (ix3 (0 : Fin 1) p k) := by
  pointwise

theorem rowsOf_apply (t : Fin cfg0.N) (L : S9x16x256.Idx → EReal) (p : Fin 16) (k : Fin 256) :
    rowsOf (F := Ideal) (grid0.coords t) L (ix2 p k) = L (ix3 (⟨t.val, lt9 t⟩ : Fin 9) p k) := by
  rw [rowsOf, cast_step]
  obtain ⟨e0, e1, e2⟩ := off_rows t
  refine View.ld_unit_apply_of (Val := Elt Ideal) (e := .bf16) L _ _ _ (ix3 (0 : Fin 1) p k) _ fun a => ?_
  match a with
  | ⟨0, _⟩ => show t.val = k0_off1 (grid0.coords t) (0 : Fin 3) + 0; omega
  | ⟨1, _⟩ => show p.val = k0_off1 (grid0.coords t) (1 : Fin 3) + p.val; omega
  | ⟨2, _⟩ => show k.val = k0_off1 (grid0.coords t) (2 : Fin 3) + k.val; omega

theorem zero_bf16 : Ideal.ofBits .bf16 0x0000#16 = 0 := by simp [Ideal.ofBits, Ideal.ieee]
theorem rows0_apply (y : S9x16x256.Idx) : rows0 (F := Ideal) y = (0 : EReal) := zero_bf16
theorem acc0_apply (y : S8x9216.Idx) : acc0 (F := Ideal) y = (0 : EReal) := zero_f32

section
variable (N : FVec Ideal S3x2304 .f32) (x r : S3x1x2304.Idx → EReal) (gain : S2304.Idx → EReal)
  (hN : ∀ (b : Fin 3) (i : Fin 2304), N (ix2 b i) = nrm x r gain b i)

/-- A row outside its group's half is zero. -/
theorem rowsAll_zero (t : Fin 9) (p : Fin 16) (k : Fin 256) (h : p.val / 8 ≠ k.val / 128) :
    rowsAll N rows0 (ix3 t p k) = (0 : EReal) := by
  have e : rowsAll N rows0 (ix3 t p k) = if p.val / 8 = k.val / 128 ∧ p.val % 8 < 3 then rowsAt N (ix3 t p k) else rows0 (ix3 t p k) := rfl
  rw [e, if_neg (by omega), rows0_apply]

include hN in
/-- A row of a group: its codes times their scale. -/
theorem rowsAll_group (t : Fin 9) (p : Fin 16) (k : Fin 256) (b : Fin 3) (g : Fin 18) (i : Fin 2304)
    (h : p.val / 8 = k.val / 128) (hb : p.val % 8 = b.val) (hg : g.val = 2 * t.val + k.val / 128) (hi : i.val = g.val * 128 + k.val % 128) :
    rowsAll N rows0 (ix3 t p k) = aCode x r gain b i * aScale x r gain b g := by
  have e : rowsAll N rows0 (ix3 t p k) = if p.val / 8 = k.val / 128 ∧ p.val % 8 < 3 then rowsAt N (ix3 t p k) else rows0 (ix3 t p k) := rfl
  have hk : 2 * t.val + k.val / 128 < 18 := by omega
  have e' : rowsAt N (ix3 t p k)
      = backX (grp N hk) (ix3 (0 : Fin 1) (⟨p.val % 8 % 3, by omega⟩ : Fin 3) (⟨k.val % 128, by omega⟩ : Fin 128)) := rfl
  have hb' : (⟨p.val % 8 % 3, by omega⟩ : Fin 3) = b := Fin.ext (by show p.val % 8 % 3 = b.val; omega)
  have hg' : (⟨2 * t.val + k.val / 128, hk⟩ : Fin 18) = g := Fin.ext hg.symm
  rw [e, if_pos ⟨h, by omega⟩, e', hb', back_spec N x r gain hN hk b _ i (by dsimp only; omega), hg']

end

/-! ## The accumulator -/

section
variable (m : (ℓ : Loc nD τ sig) → Buf (Elt Ideal) ℓ) (c : Dev nD)

/-- Group `g`'s part of the product. -/
def part (b : Fin 3) (j : Fin 9216) (g : Fin 18) : EReal :=
  (∑ k : Fin 128, aCode (argX m c) (argR m c) (argG m c) b (⟨g.val * 128 + k.val, by omega⟩ : Fin 2304) * aScale (argX m c) (argR m c) (argG m c) b g
      * wCode (argW m c) (⟨g.val * 128 + k.val, by omega⟩ : Fin 2304) j)
    * wScale (argW m c) g (⟨j.val / 128, by omega⟩ : Fin 72)

/-- A chunk's codes. -/
theorem ld_codes (t : Fin cfg0.N) {d : ℕ} (hd : d < 36) (k l : Fin 256) (i : Fin 2304) (j : Fin 9216)
    (hi : i.val = t.val * 256 + k.val) (hj : j.val = 256 * d + l.val) :
    View.ld (Val := Elt Ideal) (e' := .fp8e4m3) (codesAll (wV m c t)) (rP hd) (ix2 k l) = wCode (argW m c) i j := by
  refine (View.ld_unit_apply_of (Val := Elt Ideal) (e := .fp8e4m3) (codesAll (wV m c t)) _ _ _ (ix2 k l) (ix2 k j) (fun a => ?_)).trans ?_
  · match a with
    | ⟨0, _⟩ => show k.val = 0 + k.val; omega
    | ⟨1, _⟩ => exact hj
  · exact codes_spec (wV m c t) (argW m c) (lt9 t) (fun a j i h => wV_spec m c t a j i h) k j i hi

/-- A chunk's accumulator. -/
theorem ld_acc (A : S8x9216.Idx → EReal) {d : ℕ} (hd : d < 36) (b : Fin 8) (l : Fin 256) (j : Fin 9216) (hj : j.val = 256 * d + l.val) :
    View.ld (Val := Elt Ideal) (e' := .f32) A (rA hd) (ix2 b l) = A (ix2 b j) := by
  refine View.ld_unit_apply_of (Val := Elt Ideal) (e := .f32) A _ _ _ (ix2 b l) (ix2 b j) (fun a => ?_)
  match a with
  | ⟨0, _⟩ => show b.val = 0 + b.val; omega
  | ⟨1, _⟩ => exact hj

/-- One of the two scales of a chunk's row of blocks. -/
theorem sc_pick (t : Fin cfg0.N) {b d : ℕ} (hb : b < 2) (h0 : 2 * d < 72) (h1 : 2 * d + 1 < 72) (l : Fin 256) (g : Fin 18) (q : Fin 72)
    (hg : g.val = 2 * t.val + b) (hq : q.val = 2 * d + l.val / 128) :
    (if l.val < 128 then sc (F := Ideal) (wV m c t) hb h0 (ix2 (0 : Fin 1) (0 : Fin 1)) else sc (F := Ideal) (wV m c t) hb h1 (ix2 (0 : Fin 1) (0 : Fin 1)))
      = wScale (argW m c) g q := by
  by_cases hl : l.val < 128
  · rw [if_pos hl]
    exact sc_spec (wV m c t) (argW m c) (lt9 t) (fun a j i h => wV_spec m c t a j i h) hb h0 g q hg (by omega)
  · rw [if_neg hl]
    exact sc_spec (wV m c t) (argW m c) (lt9 t) (fun a j i h => wV_spec m c t a j i h) hb h1 g q hg (by omega)

/-- One step adds its two groups' parts. -/
theorem accAll_spec (t : Fin cfg0.N) (A : S8x9216.Idx → EReal) (b : Fin 3) (j : Fin 9216) (g0 g1 : Fin 18) (hg0 : g0.val = 2 * t.val) (hg1 : g1.val = 2 * t.val + 1) :
    accAll (F := Ideal) (wV m c t) (rowsOf (grid0.coords t) (lhsV m c)) A (ix2 (⟨b.val, by omega⟩ : Fin 8) j)
      = A (ix2 (⟨b.val, by omega⟩ : Fin 8) j) + (part m c b j g0 + part m c b j g1) := by
  have hN := normV_spec m c
  have hd : j.val / 256 < 36 := by omega
  have ht := lt9 t
  have e : accAll (F := Ideal) (wV m c t) (rowsOf (grid0.coords t) (lhsV m c)) A (ix2 (⟨b.val, by omega⟩ : Fin 8) j)
      = accStep (rowsOf (grid0.coords t) (lhsV m c)) (View.ld (Val := Elt Ideal) (e' := .fp8e4m3) (codesAll (wV m c t)) (rP hd))
          (View.ld (Val := Elt Ideal) (e' := .f32) A (rA hd))
          (sc (wV m c t) (b := 0) (q := 2 * (j.val / 256)) (by omega) (by omega)) (sc (wV m c t) (b := 0) (q := 2 * (j.val / 256) + 1) (by omega) (by omega))
          (sc (wV m c t) (b := 1) (q := 2 * (j.val / 256)) (by omega) (by omega)) (sc (wV m c t) (b := 1) (q := 2 * (j.val / 256) + 1) (by omega) (by omega))
          (ix2 (⟨b.val, by omega⟩ : Fin 8) (⟨j.val % 256, by omega⟩ : Fin 256)) := rfl
  rw [e, accStep_apply]
  refine congrArg₂ (fun a s : EReal => a + s) ?_ (congrArg₂ (fun a s : EReal => a + s) (congrArg₂ (fun a s : EReal => a * s) ?_ ?_) (congrArg₂ (fun a s : EReal => a * s) ?_ ?_))
  · exact ld_acc A hd _ _ j (by dsimp only; omega)
  · refine sum_lo _ _ (fun k => ?_) (fun k hk => ?_)
    · refine congrArg₂ (fun a s : EReal => a * s) ?_ (ld_codes m c t hd _ _ _ j (by dsimp only; omega) (by dsimp only; omega))
      refine (rowsOf_apply t (lhsV m c) _ _).trans (rowsAll_group (normV m c) _ _ _ hN _ _ _ b g0 _ ?_ ?_ ?_ ?_)
      · dsimp only; omega
      · dsimp only; omega
      · dsimp only; omega
      · dsimp only; omega
    · refine (congrArg (fun a : EReal => a * _) ((rowsOf_apply t (lhsV m c) _ _).trans (rowsAll_zero (normV m c) _ _ _ ?_))).trans (zero_mul _)
      dsimp only; omega
  · exact sc_pick m c t (by omega) (by omega) (by omega) _ g0 _ (by omega) (by dsimp only; omega)
  · refine sum_hi _ _ (fun k => ?_) (fun k hk => ?_)
    · refine congrArg₂ (fun a s : EReal => a * s) ?_ (ld_codes m c t hd _ _ _ j (by dsimp only; omega) (by dsimp only; omega))
      refine (rowsOf_apply t (lhsV m c) _ _).trans (rowsAll_group (normV m c) _ _ _ hN _ _ _ b g1 _ ?_ ?_ ?_ ?_)
      · dsimp only; omega
      · dsimp only; omega
      · dsimp only; omega
      · dsimp only; omega
    · refine (congrArg (fun a : EReal => a * _) ((rowsOf_apply t (lhsV m c) _ _).trans (rowsAll_zero (normV m c) _ _ _ ?_))).trans (zero_mul _)
      dsimp only; omega
  · exact sc_pick m c t (by omega) (by omega) (by omega) _ g1 _ (by omega) (by dsimp only; omega)

/-- Group `g`'s part, zero past the last group. -/
def partN (b : Fin 3) (j : Fin 9216) (g : ℕ) : EReal := if h : g < 18 then part m c b j ⟨g, h⟩ else 0

/-- The accumulator after `n` steps. -/
theorem accV_spec (b : Fin 3) (j : Fin 9216) : ∀ n : ℕ, n ≤ 9 →
    accV m c n (ix2 (⟨b.val, by omega⟩ : Fin 8) j) = ∑ g ∈ Finset.range (2 * n), partN m c b j g
  | 0, _ => acc0_apply _
  | n + 1, h => by
    have hn : n < cfg0.N := lt_of_lt_of_eq (by omega) N_0.symm
    have h0 : partN m c b j (2 * n) = part m c b j ⟨2 * n, by omega⟩ := dif_pos _
    have h1 : partN m c b j (2 * n + 1) = part m c b j ⟨2 * n + 1, by omega⟩ := dif_pos _
    rw [show 2 * (n + 1) = 2 * n + 1 + 1 by omega, Finset.sum_range_succ, Finset.sum_range_succ, ← accV_spec b j n (by omega), h0, h1, add_assoc]
    exact (congrFun (accV_succ m c ⟨n, hn⟩) _).trans (accAll_spec m c ⟨n, hn⟩ (accV m c n) b j _ _ rfl rfl)

/-- The product. -/
theorem yOf_spec (b : Fin 3) (j : Fin 9216) :
    yOf (accV m c 9) (ix2 b j) = prod (argX m c) (argR m c) (argG m c) (argW m c) b j := by
  have e : yOf (accV m c 9) (ix2 b j) = accV m c 9 (ix2 (⟨b.val, by omega⟩ : Fin 8) j) := by
    refine View.ld_unit_apply_of (Val := Elt Ideal) (e := .f32) (accV m c 9) _ _ _ (ix2 b j) _ fun a => ?_
    match a with
    | ⟨0, _⟩ => show b.val = 0 + b.val; omega
    | ⟨1, _⟩ => show j.val = 0 + j.val; omega
  rw [e, accV_spec m c b j 9 le_rfl, Finset.sum_range, prod]
  exact Finset.sum_congr rfl fun g _ => dif_pos g.isLt

end

end Cert.KernelIdeal.Rolled
-- ==== Proof.Value.RefAct.lean ====
/- The reference's activation results read at an index: the residual stream, the normed activations, their scales and codes. -/
module

public import proofs.«01_k».proof.Proof.Value.Spec
public import proofs.«01_k».proof.Proof.Gen.ReferenceIdeal.Skeleton

@[expose] public section

set_option maxRecDepth 16384

noncomputable section

namespace Cert.ReferenceIdeal.Read

open Cert.ReferenceIdeal Cert.ReferenceIdeal.Gen Idealize.ShloMosaic Cert.Spec Cert.Expo

variable (x r : Vec Ideal S3x1x2304 .bf16) (gain : Vec Ideal S2304 .f32)

/-- The reference's residual stream. -/
theorem pay2_apply (b : Fin 3) (i : Fin 2304) : k0_pay2 x r (ix3 b (0 : Fin 1) i) = res x r b i := rfl

/-- The normed activations of any residual stream. -/
def normV (h : FVec Ideal S3x1x2304 .f32) : FVec Ideal S3x1x2304 .f32 :=
  mulf
    (mulf h
      (broadcastTo S3x1x2304
        (rsqrt
          (addf
            (divf
              (shapeCast S3x1x1 (multiReduction .add [2] S3x1 (mulf h h) 0x00000000#32 reduces_S3x1x2304_S3x1 (.inl rfl) rfl) shapeCasts_S3x1_S3x1x1)
              (broadcast S3x1x1 (Scalar.ofBits .f32 0x45100000#32)))
            (broadcast S3x1x1 (Scalar.ofBits .f32 0x358637BD#32))))
        broadcasts_S3x1x1_S3x1x2304))
    (broadcastTo S3x1x2304 (shapeCast S1x1x2304 gain shapeCasts_S2304_S1x1x2304) broadcasts_S1x1x2304_S3x1x2304)

theorem normV_apply (h : FVec Ideal S3x1x2304 .f32) (b : Fin 3) (i : Fin 2304) :
    normV gain h (ix3 b (0 : Fin 1) i)
      = h (ix3 b (0 : Fin 1) i)
          * Ideal.rsqrt (Ideal.div (∑ k : Fin 2304, h (ix3 b (0 : Fin 1) k) * h (ix3 b (0 : Fin 1) k)) (Ideal.ofBits .f32 0x45100000#32) + Ideal.ofBits .f32 0x358637BD#32)
          * gain (ix1 i) := by
  pointwise [normV]

/-- Any row array cut into groups. -/
theorem cast_group {α : Type} (v : S3x1x2304.Idx → α) (b : Fin 3) (g : Fin 18) (k : Fin 128) :
    shapeCast S3x1x18x128 v shapeCasts_S3x1x2304_S3x1x18x128 (ix4 b (0 : Fin 1) g k) = v (ix3 b (0 : Fin 1) (⟨g.val * 128 + k.val, by omega⟩ : Fin 2304)) := by
  pointwise

theorem pay3_eq : k0_pay3 x r gain = shapeCast S3x1x18x128 (normV gain (extf .f32 (k0_pay2 x r) bitsLt_bf16_f32)) shapeCasts_S3x1x2304_S3x1x18x128 := rfl
theorem wide_apply (h : FVec Ideal S3x1x2304 .bf16) (i : S3x1x2304.Idx) : extf .f32 h bitsLt_bf16_f32 i = h i := rfl

theorem pay3_apply (b : Fin 3) (g : Fin 18) (k : Fin 128) :
    k0_pay3 x r gain (ix4 b (0 : Fin 1) g k) = nrm x r gain b (⟨g.val * 128 + k.val, by omega⟩ : Fin 2304) := by
  rw [pay3_eq, cast_group, normV_apply, nrm]
  simp only [wide_apply, pay2_apply]

/-- The largest magnitude of each group. -/
def gmaxV (v : FVec Ideal S3x1x18x128 .f32) : FVec Ideal S3x1x18 .f32 :=
  multiReduction (F := Ideal) .maximumf [3] S3x1x18 (absf v) 0xFF800000#32 reduces_S3x1x18x128_S3x1x18 (.inl rfl) rfl
theorem gmaxV_apply (v : FVec Ideal S3x1x18x128 .f32) (b : Fin 3) (g : Fin 18) :
    gmaxV v (ix3 b (0 : Fin 1) g) = Finset.univ.sup fun k : Fin 128 => mag (v (ix4 b (0 : Fin 1) g k)) := by
  pointwise [gmaxV]
  rw [neg_inf_f32]; rfl

theorem pay4_eq : k0_pay4 x r gain = expoV S3x1x18 (mulf (gmaxV (k0_pay3 x r gain)) (broadcast S3x1x18 (Scalar.ofBits .f32 0x3B124925#32))) := rfl

/-- The exponents of the reference's activation scales. -/
theorem pay4_apply (b : Fin 3) (g : Fin 18) : k0_pay4 x r gain (ix3 b (0 : Fin 1) g) = aExp x r gain b g := by
  rw [pay4_eq, expoV_apply, ratio_apply, gmaxV_apply, aExp]
  simp only [pay3_apply]

theorem pay5_eq (e : FVec Ideal S3x1x18 .f32) : k0_pay5 e = exp2 e := rfl
/-- The reference's activation scales. -/
theorem pay5_apply (b : Fin 3) (g : Fin 18) : k0_pay5 (k0_pay4 x r gain) (ix3 b (0 : Fin 1) g) = aScale x r gain b g := by
  rw [pay5_eq, exp2_apply, pay4_apply, aScale]

/-- A number per group, laid over the group. -/
theorem bcast_group {α : Type} (v : S3x1x18.Idx → α) (b : Fin 3) (g : Fin 18) (k : Fin 128) :
    broadcastTo S3x1x18x128 (shapeCast S3x1x18x1 v shapeCasts_S3x1x18_S3x1x18x1) broadcasts_S3x1x18x1_S3x1x18x128 (ix4 b (0 : Fin 1) g k)
      = v (ix3 b (0 : Fin 1) g) := by
  pointwise
/-- The groups joined to rows. -/
theorem cast_rows {α : Type} (v : S3x1x18x128.Idx → α) (b : Fin 3) (i : Fin 2304) :
    shapeCast S3x1x2304 v shapeCasts_S3x1x18x128_S3x1x2304 (ix3 b (0 : Fin 1) i)
      = v (ix4 b (0 : Fin 1) (⟨i.val / 128, by omega⟩ : Fin 18) (⟨i.val % 128, by omega⟩ : Fin 128)) := by
  pointwise

theorem pay6_eq (v : FVec Ideal S3x1x18x128 .f32) (e : FVec Ideal S3x1x18 .f32) : k0_pay6 v e =
    shapeCast S3x1x2304
      (codeV S3x1x18x128 v
        (broadcastTo S3x1x18x128
          (shapeCast S3x1x18x1 (exp2 (subf (broadcast S3x1x18 (Scalar.ofBits .f32 0x00000000#32)) e)) shapeCasts_S3x1x18_S3x1x18x1)
          broadcasts_S3x1x18x1_S3x1x18x128))
      shapeCasts_S3x1x18x128_S3x1x2304 := rfl

/-- The reference's activation codes. -/
theorem pay6_apply (b : Fin 3) (i : Fin 2304) :
    k0_pay6 (k0_pay3 x r gain) (k0_pay4 x r gain) (ix3 b (0 : Fin 1) i) = aCode x r gain b i := by
  rw [pay6_eq, cast_rows, codeV_apply, bcast_group, inv_apply, pay4_apply, pay3_apply, aCode]
  refine congrArg (fun j => clip (nrm x r gain b j * _)) (Fin.ext ?_)
  show i.val / 128 * 128 + i.val % 128 = i.val; omega

end Cert.ReferenceIdeal.Read
-- ==== Proof.Value.RefWeight.lean ====
/- The reference's weight results read at an index: the scales and the codes. -/
module

public import proofs.«01_k».proof.Proof.Value.Spec
public import proofs.«01_k».proof.Proof.Gen.ReferenceIdeal.Skeleton

@[expose] public section

set_option maxRecDepth 16384

noncomputable section

namespace Cert.ReferenceIdeal.Read

open Cert.ReferenceIdeal Cert.ReferenceIdeal.Gen Idealize.ShloMosaic Cert.Spec Cert.Expo

variable (w : Vec Ideal S2304x9216 .bf16)

/-- The weight cut into blocks. -/
theorem pay7_apply (g : Fin 18) (a : Fin 128) (q : Fin 72) (b : Fin 128) :
    k0_pay7 w (ix4 g a q b) = w (ix2 (⟨g.val * 128 + a.val, by omega⟩ : Fin 2304) (⟨q.val * 128 + b.val, by omega⟩ : Fin 9216)) :=
  cast_split (n0 := 2304) (n1 := 9216) (m0 := 18) (m1 := 128) (m2 := 72) (m3 := 128) w shapeCasts_S2304x9216_S18x128x72x128 rfl g a q b (by omega) (by omega)

/-- The largest magnitude of each block. -/
def amax : FVec Ideal S18x72 .f32 :=
  multiReduction (F := Ideal) .maximumf [1, 3] S18x72 (absf (k0_pay7 w)) 0xFF800000#32 reduces_S18x128x72x128_S18x72 (.inl rfl) rfl

/-- The largest magnitude of each block of the weight. -/
theorem amax_apply (g : Fin 18) (q : Fin 72) : amax w (ix2 g q) = wMax w g q := by
  refine (max_axes (m0 := 18) (m1 := 128) (m2 := 72) (m3 := 128) (absf (k0_pay7 w)) reduces_S18x128x72x128_S18x72 (.inl rfl) rfl g q).trans ?_
  refine congrArg (Finset.univ.sup (α := EReal)) (funext fun k => ?_)
  exact congrArg mag (pay7_apply w g k.1 q k.2)

/-- The exponent, as one function of the magnitudes. -/
theorem pay8_eq : k0_pay8 w = expoV S18x72 (mulf (amax w) (broadcast S18x72 (Scalar.ofBits .f32 0x3B124925#32))) := rfl

/-- The exponents of the reference's weight scales. -/
theorem pay8_apply (g : Fin 18) (q : Fin 72) : k0_pay8 w (ix2 g q) = wExp w g q := by
  rw [pay8_eq, expoV_apply, ratio_apply, amax_apply, wExp]

theorem pay9_eq : k0_pay9 w = exp2 (k0_pay8 w) := rfl

/-- The reference's weight scales. -/
theorem pay9_apply (g : Fin 18) (q : Fin 72) : k0_pay9 w (ix2 g q) = wScale w g q := by
  rw [pay9_eq, exp2_apply, pay8_apply, wScale]

/-- A number per block. -/
theorem cast_block {α : Type} (v : S18x72.Idx → α) (g : Fin 18) (a : Fin 1) (q : Fin 72) (b : Fin 1) :
    shapeCast S18x1x72x1 v shapeCasts_S18x72_S18x1x72x1 (ix4 g a q b) = v (ix2 g q) :=
  (cast_split (n0 := 18) (n1 := 72) (m0 := 18) (m1 := 1) (m2 := 72) (m3 := 1) v shapeCasts_S18x72_S18x1x72x1 rfl g a q b (by omega) (by omega)).trans
    (congrArg v (congrArg₂ ix2 (Fin.ext (by show g.val * 1 + a.val = g.val; omega)) (Fin.ext (by show q.val * 1 + b.val = q.val; omega))))

/-- A number per block, laid over the block. -/
theorem bcast_block {α : Type} (v : S18x1x72x1.Idx → α) (g : Fin 18) (a : Fin 128) (q : Fin 72) (b : Fin 128) :
    broadcastTo S18x128x72x128 v broadcasts_S18x1x72x1_S18x128x72x128 (ix4 g a q b) = v (ix4 g (0 : Fin 1) q (0 : Fin 1)) := by
  pointwise

theorem pay10_eq : k0_pay10 w =
    shapeCast S2304x9216
      (codeV S18x128x72x128 (k0_pay7 w)
        (broadcastTo S18x128x72x128
          (shapeCast S18x1x72x1 (exp2 (subf (broadcast S18x72 (Scalar.ofBits .f32 0x00000000#32)) (k0_pay8 w))) shapeCasts_S18x72_S18x1x72x1)
          broadcasts_S18x1x72x1_S18x128x72x128))
      shapeCasts_S18x128x72x128_S2304x9216 := rfl

/-- The reference's weight codes. -/
theorem pay10_apply (i : Fin 2304) (j : Fin 9216) : k0_pay10 w (ix2 i j) = wCode w i j := by
  rw [pay10_eq, cast_join (n0 := 2304) (n1 := 9216) (m0 := 18) (m1 := 128) (m2 := 72) (m3 := 128) _ shapeCasts_S18x128x72x128_S2304x9216 rfl i j
    (⟨i.val / 128, by omega⟩ : Fin 18) (⟨i.val % 128, by omega⟩ : Fin 128) (⟨j.val / 128, by omega⟩ : Fin 72) (⟨j.val % 128, by omega⟩ : Fin 128)
    (by dsimp only; omega) (by dsimp only; omega), codeV_apply, pay7_apply, bcast_block, cast_block, inv_apply, pay8_apply, wCode]
  refine congrArg (fun x : EReal => clip (x * _)) (congrArg w (congrArg₂ ix2 (Fin.ext ?_) (Fin.ext ?_)))
  · show i.val / 128 * 128 + i.val % 128 = i.val; omega
  · show j.val / 128 * 128 + j.val % 128 = j.val; omega

end Cert.ReferenceIdeal.Read
-- ==== Proof.Value.RefProd.lean ====
/- The reference's product read at an index. -/
module

public import proofs.«01_k».proof.Proof.Value.RefAct
public import proofs.«01_k».proof.Proof.Value.RefWeight

@[expose] public section

set_option maxRecDepth 16384

noncomputable section

namespace Cert.ReferenceIdeal.Read

open Cert.ReferenceIdeal Cert.ReferenceIdeal.Gen Idealize.ShloMosaic Cert.Spec Cert.Expo

/-- The groups' numbers as the matmul takes them. -/
def lhsV (s : FVec Ideal S3x1x18 .f32) (c : FVec Ideal S3x1x2304 .bf16) : FVec Ideal S18x3x128 .bf16 :=
  transpose S18x3x128 [1, 0, 2]
    (mulf (shapeCast S3x18x128 c shapeCasts_S3x1x2304_S3x18x128)
      (broadcastTo S3x18x128 (shapeCast S3x18x1 (shapeCast S3x18 (truncf .bf16 s bitsLt_bf16_f32) shapeCasts_S3x1x18_S3x18) shapeCasts_S3x18_S3x18x1)
        broadcasts_S3x18x1_S3x18x128))
    transposes_S3x18x128_p1_0_2_S18x3x128

theorem lhsV_apply (s : FVec Ideal S3x1x18 .f32) (c : FVec Ideal S3x1x2304 .bf16) (g : Fin 18) (b : Fin 3) (k : Fin 128) :
    lhsV s c (ix3 g b k) = c (ix3 b (0 : Fin 1) (⟨g.val * 128 + k.val, by omega⟩ : Fin 2304)) * s (ix3 b (0 : Fin 1) g) := by
  pointwise [lhsV]

/-- The weight's codes cut into groups of rows. -/
def rhsV (w : FVec Ideal S2304x9216 .fp8e4m3) : FVec Ideal S18x128x9216 .bf16 :=
  shapeCast S18x128x9216 (extf .bf16 w bitsLt_fp8e4m3_bf16) shapeCasts_S2304x9216_S18x128x9216

theorem rhsV_apply (w : FVec Ideal S2304x9216 .fp8e4m3) (g : Fin 18) (k : Fin 128) (j : Fin 9216) :
    rhsV w (ix3 g k j) = w (ix2 (⟨g.val * 128 + k.val, by omega⟩ : Fin 2304) j) :=
  congrArg w (Shape.reshapeEquiv_eq_of_vals shapeCasts_S2304x9216_S18x128x9216 _ _ _ _
    (rowMajor_val2 (ix2 (⟨g.val * 128 + k.val, by omega⟩ : Fin 2304) j) 9216 rfl) (rowMajor_val3 (ix3 g k j) (128 * 9216) 9216 rfl rfl)
    (by show (g.val * 128 + k.val) * 9216 + j.val = g.val * (128 * 9216) + k.val * 9216 + j.val; omega))

/-- The groups' products. -/
def mmV (l : FVec Ideal S18x3x128 .bf16) (w : FVec Ideal S18x128x9216 .bf16) : FVec Ideal S18x3x9216 .f32 :=
  matmul dot_S18x3x128_S18x128x9216_S18x3x9216_2_1_1_2_0_0 none l w (constant S18x3x9216 .f32 0x00000000#32)

/-- The product of each group, cell by cell. -/
theorem mmV_apply (l : FVec Ideal S18x3x128 .bf16) (w : FVec Ideal S18x128x9216 .bf16) (g : Fin 18) (b : Fin 3) (j : Fin 9216) :
    mmV l w (ix3 g b j) = ∑ k : Fin 128, l (ix3 g b k) * w (ix3 g k j) := by
  refine (Ideal.matmul_apply₁_of dot_S18x3x128_S18x128x9216_S18x3x9216_2_1_1_2_0_0 (a := 2) rfl (K := 128) rfl l w _ (ix3 g b j)
    (fun k => ix3 g b k) (fun k => ix3 g k j) (fun k => ?_) (fun k => ?_)).trans ?_
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl
    | ⟨2, _⟩ => rfl
  · exact (congrArg (fun z : EReal => z + ∑ k : Fin 128, l (ix3 g b k) * w (ix3 g k j)) zero_f32).trans (zero_add _)

/-- The groups' products cut into blocks of columns. -/
theorem cast_cols {α : Type} (v : S18x3x9216.Idx → α) (g : Fin 18) (b : Fin 3) (q : Fin 72) (l : Fin 128) :
    shapeCast S18x3x72x128 v shapeCasts_S18x3x9216_S18x3x72x128 (ix4 g b q l) = v (ix3 g b (⟨q.val * 128 + l.val, by omega⟩ : Fin 9216)) :=
  congrArg v (Shape.reshapeEquiv_eq_of_vals shapeCasts_S18x3x9216_S18x3x72x128 _ _ _ _
    (rowMajor_val3 (ix3 g b (⟨q.val * 128 + l.val, by omega⟩ : Fin 9216)) (3 * 9216) 9216 rfl rfl)
    (rowMajor_val4 (ix4 g b q l) (3 * (72 * 128)) (72 * 128) 128 rfl rfl rfl)
    (by show g.val * (3 * 9216) + b.val * 9216 + (q.val * 128 + l.val) = g.val * (3 * (72 * 128)) + b.val * (72 * 128) + q.val * 128 + l.val; omega))
/-- A number per block, laid over the block. -/
theorem bcast_cols {α : Type} (v : S18x1x72x1.Idx → α) (g : Fin 18) (b : Fin 3) (q : Fin 72) (l : Fin 128) :
    broadcastTo S18x3x72x128 v broadcasts_S18x1x72x1_S18x3x72x128 (ix4 g b q l) = v (ix4 g (0 : Fin 1) q (0 : Fin 1)) := by
  pointwise
/-- The blocks of columns joined. -/
theorem join_cols {α : Type} (v : S3x72x128.Idx → α) (b : Fin 3) (j : Fin 9216) :
    shapeCast S3x1x9216 v shapeCasts_S3x72x128_S3x1x9216 (ix3 b (0 : Fin 1) j)
      = v (ix3 b (⟨j.val / 128, by omega⟩ : Fin 72) (⟨j.val % 128, by omega⟩ : Fin 128)) :=
  congrArg v (Shape.reshapeEquiv_eq_of_vals shapeCasts_S3x72x128_S3x1x9216 _ _ _ _
    (rowMajor_val3 (ix3 b (⟨j.val / 128, by omega⟩ : Fin 72) (⟨j.val % 128, by omega⟩ : Fin 128)) (72 * 128) 128 rfl rfl)
    (rowMajor_val3 (ix3 b (0 : Fin 1) j) (1 * 9216) 9216 rfl rfl)
    (by show b.val * (72 * 128) + j.val / 128 * 128 + j.val % 128 = b.val * (1 * 9216) + 0 * 9216 + j.val; omega))

/-- The sum over the groups. -/
def sumV (v : FVec Ideal S18x3x72x128 .f32) : FVec Ideal S3x72x128 .f32 :=
  multiReduction .add [0] S3x72x128 v 0x00000000#32 reduces_S18x3x72x128_S3x72x128 (.inl rfl) rfl
/-- The sum over the groups. -/
theorem sumV_apply (v : FVec Ideal S18x3x72x128 .f32) (b : Fin 3) (q : Fin 72) (l : Fin 128) :
    sumV v (ix3 b q l) = ∑ g : Fin 18, v (ix4 g b q l) :=
  Ideal.reduceAdd_r4_a0 reduces_S18x3x72x128_S3x72x128 v (ix3 b q l)
theorem narrow_apply (h : FVec Ideal S3x1x9216 .f32) (i : S3x1x9216.Idx) : truncf .bf16 h bitsLt_bf16_f32 i = h i := rfl
theorem prod_apply (x y : FVec Ideal S18x3x72x128 .f32) (i : S18x3x72x128.Idx) : mulf x y i = x i * y i := rfl

theorem pay1_eq (s : FVec Ideal S3x1x18 .f32) (t : FVec Ideal S18x72 .f32) (w : FVec Ideal S2304x9216 .fp8e4m3) (c : FVec Ideal S3x1x2304 .bf16) :
    k0_pay1 s t w c =
      truncf .bf16
        (shapeCast S3x1x9216
          (sumV (mulf (shapeCast S18x3x72x128 (mmV (lhsV s c) (rhsV w)) shapeCasts_S18x3x9216_S18x3x72x128)
            (broadcastTo S18x3x72x128 (shapeCast S18x1x72x1 t shapeCasts_S18x72_S18x1x72x1) broadcasts_S18x1x72x1_S18x3x72x128)))
          shapeCasts_S3x72x128_S3x1x9216)
        bitsLt_bf16_f32 := rfl

theorem pay11_apply (v : FVec Ideal S3x1x18x128 .f32) (e : FVec Ideal S3x1x18 .f32) (i : S3x1x2304.Idx) :
    k0_pay11 v e i = k0_pay6 v e i := rfl

/-- The product, from the scales and the codes. -/
theorem pay1_apply (s : FVec Ideal S3x1x18 .f32) (t : FVec Ideal S18x72 .f32) (w : FVec Ideal S2304x9216 .fp8e4m3) (c : FVec Ideal S3x1x2304 .bf16)
    (b : Fin 3) (j : Fin 9216) :
    k0_pay1 s t w c (ix3 b (0 : Fin 1) j)
      = ∑ g : Fin 18,
          (∑ k : Fin 128, c (ix3 b (0 : Fin 1) (⟨g.val * 128 + k.val, by omega⟩ : Fin 2304)) * s (ix3 b (0 : Fin 1) g)
              * w (ix2 (⟨g.val * 128 + k.val, by omega⟩ : Fin 2304) j))
            * t (ix2 g (⟨j.val / 128, by omega⟩ : Fin 72)) := by
  rw [pay1_eq, narrow_apply, join_cols, sumV_apply]
  refine Finset.sum_congr rfl fun g _ => ?_
  rw [prod_apply, cast_cols, bcast_cols, cast_block, mmV_apply]
  refine congrArg (fun z : EReal => z * _) (Finset.sum_congr rfl fun k _ => ?_)
  rw [lhsV_apply, rhsV_apply]
  refine congrArg (fun z => _ * _ * w (ix2 _ z)) (Fin.ext ?_)
  show j.val / 128 * 128 + j.val % 128 = j.val; omega

variable (x r : Vec Ideal S3x1x2304 .bf16) (gain : Vec Ideal S2304 .f32) (w : Vec Ideal S2304x9216 .bf16)

/-- The reference's product. -/
theorem pay1_spec (b : Fin 3) (j : Fin 9216) :
    k0_pay1 (k0_pay5 (k0_pay4 x r gain)) (k0_pay9 w) (k0_pay10 w) (k0_pay11 (k0_pay3 x r gain) (k0_pay4 x r gain)) (ix3 b (0 : Fin 1) j)
      = prod x r gain w b j := by
  rw [pay1_apply, prod]
  simp only [pay11_apply, pay6_apply, pay5_apply, pay9_apply, pay10_apply]

end Cert.ReferenceIdeal.Read
-- ==== Proof.Value.Reference.lean ====
/- The reference's six results after its run, each as one function of its four arguments. The reference runs at one grid point
   and every block is a whole array. -/
module

public import proofs.«01_k».proof.Proof.Gen.ReferenceIdeal.Frame
public import Idealize.ShloMosaic.Lib.Pipeline.Value

@[expose] public section

noncomputable section

namespace Cert.ReferenceIdeal.Final

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t)) := by
  show (cfg0.win 7).cut (grid0.coords t) ((dats m 0 c).after 7 t) = _
  rw [after0_7]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t)) := by
  show (cfg0.win 8).cut (grid0.coords t) ((dats m 0 c).after 8 t) = _
  rw [after0_8]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t)) := by
  show (cfg0.win 9).cut (grid0.coords t) ((dats m 0 c).after 9 t) = _
  rw [after0_9]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_3) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_4) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_5) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S3x1x2304.Idx) : ((cfg0.win 0).blk t).view.emb j = j := by
  obtain ⟨e0, e1, e2⟩ := idx_zero0 t
  funext a; apply Fin.ext
  match a with
  | ⟨0, _⟩ => show win0_0.index t (0 : Fin 3) * 3 + 1 * (j 0).val = (j 0).val; omega
  | ⟨1, _⟩ => show win0_0.index t (1 : Fin 3) * 1 + 1 * (j 1).val = (j 1).val; omega
  | ⟨2, _⟩ => show win0_0.index t (2 : Fin 3) * 2304 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S3x1x2304.Idx) : ((cfg0.win 1).blk t).view.emb j = j := by
  obtain ⟨e0, e1, e2⟩ := idx_zero1 t
  funext a; apply Fin.ext
  match a with
  | ⟨0, _⟩ => show win0_1.index t (0 : Fin 3) * 3 + 1 * (j 0).val = (j 0).val; omega
  | ⟨1, _⟩ => show win0_1.index t (1 : Fin 3) * 1 + 1 * (j 1).val = (j 1).val; omega
  | ⟨2, _⟩ => show win0_1.index t (2 : Fin 3) * 2304 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0] : Fin 1 → Nat) = fun _ => 0 := funext fun a => by fin_cases a <;> rfl

/-- Window 2's block index at the one point is zero on every axis. -/
theorem idx_zero2 : ∀ t : Fin cfg0.N, win0_2.index t (0 : Fin 1) = 0 :=
  (by decide +kernel : ∀ t : Fin grid0.N, _)

/-- An index of window 2's block is the same index of its array. -/
theorem emb2 (t : Fin cfg0.N) (j : S2304.Idx) : ((cfg0.win 2).blk t).view.emb j = j := by
  have e0 := idx_zero2 t
  funext a; apply Fin.ext
  match a with
  | ⟨0, _⟩ => show win0_2.index t (0 : Fin 1) * 2304 + 1 * (j 0).val = (j 0).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S2304x9216.Idx) : ((cfg0.win 3).blk t).view.emb j = j := by
  obtain ⟨e0, e1⟩ := idx_zero3 t
  funext a; apply Fin.ext
  match a with
  | ⟨0, _⟩ => show win0_3.index t (0 : Fin 2) * 2304 + 1 * (j 0).val = (j 0).val; omega
  | ⟨1, _⟩ => show win0_3.index t (1 : Fin 2) * 9216 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S3x1x9216.Idx) : ((cfg0.win 4).blk t).view.emb j = j := by
  obtain ⟨e0, e1, e2⟩ := idx_zero4 t
  funext a; apply Fin.ext
  match a with
  | ⟨0, _⟩ => show win0_4.index t (0 : Fin 3) * 3 + 1 * (j 0).val = (j 0).val; omega
  | ⟨1, _⟩ => show win0_4.index t (1 : Fin 3) * 1 + 1 * (j 1).val = (j 1).val; omega
  | ⟨2, _⟩ => show win0_4.index t (2 : Fin 3) * 9216 + 1 * (j 2).val = (j 2).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S3x1x2304.Idx) : ((cfg0.win 5).blk t).view.emb j = j := by
  obtain ⟨e0, e1, e2⟩ := idx_zero5 t
  funext a; apply Fin.ext
  match a with
  | ⟨0, _⟩ => show win0_5.index t (0 : Fin 3) * 3 + 1 * (j 0).val = (j 0).val; omega
  | ⟨1, _⟩ => show win0_5.index t (1 : Fin 3) * 1 + 1 * (j 1).val = (j 1).val; omega
  | ⟨2, _⟩ => show win0_5.index t (2 : Fin 3) * 2304 + 1 * (j 2).val = (j 2).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S3x1x2304.Idx) : ((cfg0.win 6).blk t).view.emb j = j := by
  obtain ⟨e0, e1, e2⟩ := idx_zero6 t
  funext a; apply Fin.ext
  match a with
  | ⟨0, _⟩ => show win0_6.index t (0 : Fin 3) * 3 + 1 * (j 0).val = (j 0).val; omega
  | ⟨1, _⟩ => show win0_6.index t (1 : Fin 3) * 1 + 1 * (j 1).val = (j 1).val; omega
  | ⟨2, _⟩ => show win0_6.index t (2 : Fin 3) * 2304 + 1 * (j 2).val = (j 2).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S3x1x18.Idx) : ((cfg0.win 7).blk t).view.emb j = j := by
  obtain ⟨e0, e1, e2⟩ := idx_zero7 t
  funext a; apply Fin.ext
  match a with
  | ⟨0, _⟩ => show win0_7.index t (0 : Fin 3) * 3 + 1 * (j 0).val = (j 0).val; omega
  | ⟨1, _⟩ => show win0_7.index t (1 : Fin 3) * 1 + 1 * (j 1).val = (j 1).val; omega
  | ⟨2, _⟩ => show win0_7.index t (2 : Fin 3) * 18 + 1 * (j 2).val = (j 2).val; omega

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S2304x9216.Idx) : ((cfg0.win 8).blk t).view.emb j = j := by
  obtain ⟨e0, e1⟩ := idx_zero8 t
  funext a; apply Fin.ext
  match a with
  | ⟨0, _⟩ => show win0_8.index t (0 : Fin 2) * 2304 + 1 * (j 0).val = (j 0).val; omega
  | ⟨1, _⟩ => show win0_8.index t (1 : Fin 2) * 9216 + 1 * (j 1).val = (j 1).val; omega

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S18x72.Idx) : ((cfg0.win 9).blk t).view.emb j = j := by
  obtain ⟨e0, e1⟩ := idx_zero9 t
  funext a; apply Fin.ext
  match a with
  | ⟨0, _⟩ => show win0_9.index t (0 : Fin 2) * 18 + 1 * (j 0).val = (j 0).val; omega
  | ⟨1, _⟩ => show win0_9.index t (1 : Fin 2) * 72 + 1 * (j 1).val = (j 1).val; omega

/-! ### Output window 4: the array after the run -/

/-- What the window's array ends holding: `out0_4` applied to the argument arrays in place of the input blocks (a value that the
    frame states apart, `kK_payN a…`, keeps its loads inside its own definition). -/
abbrev G4 (a0 : Vec F S3x1x2304 .bf16) (a1 : Vec F S3x1x2304 .bf16) (a2 : Vec F S2304 .f32) (a3 : Vec F S2304x9216 .bf16) : Vec F S3x1x9216 .bf16 :=
  k0_pay1 (k0_pay14 a0 a1 a2 a3) (k0_pay15 a0 a1 a2 a3) (k0_pay16 a0 a1 a2 a3) (k0_pay11 (k0_pay12 a0 a1 a2 a3) (k0_pay13 a0 a1 a2 a3))

/-- The one store through the whole rectangle leaves its payload. -/
theorem out4_eq (a0 : Vec F S3x1x2304 .bf16) (a1 : Vec F S3x1x2304 .bf16) (a2 : Vec F S2304 .f32) (a3 : Vec F S2304x9216 .bf16) : out0_4 (F := F) a0 a1 a2 a3 = G4 a0 a1 a2 a3 := by
  unfold out0_4
  rw [View.canon_unit_zero hz4]

/-- Cutting the point's block out of `X` and reading `X` through the block's view give the same. -/
theorem cut4_eq (t : Fin cfg0.N) (X : Vec F S3x1x9216 .bf16) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S3x1x9216.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks (a value that the
    frame states apart, `kK_payN a…`, keeps its loads inside its own definition). -/
abbrev G5 (a0 : Vec F S3x1x2304 .bf16) (a1 : Vec F S3x1x2304 .bf16) (a2 : Vec F S2304 .f32) (a3 : Vec F S2304x9216 .bf16) : Vec F S3x1x2304 .bf16 :=
  k0_pay2 a0 a1

/-- A load of the whole of a block reads the block, and the one store through the whole rectangle leaves its payload. -/
theorem out5_eq (a0 : Vec F S3x1x2304 .bf16) (a1 : Vec F S3x1x2304 .bf16) (a2 : Vec F S2304 .f32) (a3 : Vec F S2304x9216 .bf16) : out0_5 (F := F) a0 a1 a2 a3 = G5 a0 a1 a2 a3 := by
  unfold out0_5
  rw [View.canon_unit_zero hz5, View.ld_unit_zero (S := S3x1x2304) hz0 _ a0, View.ld_unit_zero (S := S3x1x2304) hz1 _ a1]

/-- Cutting the point's block out of `X` and reading `X` through the block's view give the same. -/
theorem cut5_eq (t : Fin cfg0.N) (X : Vec F S3x1x2304 .bf16) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S3x1x2304.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ### Output window 6: the array after the run -/

/-- What the window's array ends holding: `out0_6` applied to the argument arrays in place of the input blocks (a value that the
    frame states apart, `kK_payN a…`, keeps its loads inside its own definition). -/
abbrev G6 (a0 : Vec F S3x1x2304 .bf16) (a1 : Vec F S3x1x2304 .bf16) (a2 : Vec F S2304 .f32) (a3 : Vec F S2304x9216 .bf16) : Vec F S3x1x2304 .fp8e4m3 :=
  k0_pay6 (k0_pay12 a0 a1 a2 a3) (k0_pay13 a0 a1 a2 a3)

/-- The one store through the whole rectangle leaves its payload. -/
theorem out6_eq (a0 : Vec F S3x1x2304 .bf16) (a1 : Vec F S3x1x2304 .bf16) (a2 : Vec F S2304 .f32) (a3 : Vec F S2304x9216 .bf16) : out0_6 (F := F) a0 a1 a2 a3 = G6 a0 a1 a2 a3 := by
  unfold out0_6
  rw [View.canon_unit_zero hz6]

/-- Cutting the point's block out of `X` and reading `X` through the block's view give the same. -/
theorem cut6_eq (t : Fin cfg0.N) (X : Vec F S3x1x2304 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3)) := by
  show (cfg0.win 6).cut (grid0.coords t) ((dats m 0 c).after 6 t) = _
  rw [after0_6, out6_eq, iblk0_eq, iblk1_eq, iblk2_eq, iblk3_eq]
  exact cut6_eq t _

/-- Every index of the array is in the point's block. -/
theorem covered6 (i : S3x1x2304.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  ((dats m 0 c).arrAt_eq_of_cover 6 (G6 (V m c main_arg0) (V m c main_arg1) (V m c main_arg2) (V m c main_arg3)) (fun t _ => flushed6_eq m c t) covered6).trans (by rw [V_main_arg0, V_main_arg1, V_main_arg2, V_main_arg3])

/-! ### Output window 7: the array after the run -/

/-- What the window's array ends holding: `out0_7` applied to the argument arrays in place of the input blocks (a value that the
    frame states apart, `kK_payN a…`, keeps its loads inside its own definition). -/
abbrev G7 (a0 : Vec F S3x1x2304 .bf16) (a1 : Vec F S3x1x2304 .bf16) (a2 : Vec F S2304 .f32) (a3 : Vec F S2304x9216 .bf16) : Vec F S3x1x18 .f32 :=
  k0_pay14 a0 a1 a2 a3

/-- The one store through the whole rectangle leaves its payload. -/
theorem out7_eq (a0 : Vec F S3x1x2304 .bf16) (a1 : Vec F S3x1x2304 .bf16) (a2 : Vec F S2304 .f32) (a3 : Vec F S2304x9216 .bf16) : out0_7 (F := F) a0 a1 a2 a3 = G7 a0 a1 a2 a3 := by
  unfold out0_7
  rw [View.canon_unit_zero hz7]

/-- Cutting the point's block out of `X` and reading `X` through the block's view give the same. -/
theorem cut7_eq (t : Fin cfg0.N) (X : Vec F S3x1x18 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3)) := by
  show (cfg0.win 7).cut (grid0.coords t) ((dats m 0 c).after 7 t) = _
  rw [after0_7, out7_eq, iblk0_eq, iblk1_eq, iblk2_eq, iblk3_eq]
  exact cut7_eq t _

/-- Every index of the array is in the point's block. -/
theorem covered7 (i : S3x1x18.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) :=
  ((dats m 0 c).arrAt_eq_of_cover 7 (G7 (V m c main_arg0) (V m c main_arg1) (V m c main_arg2) (V m c main_arg3)) (fun t _ => flushed7_eq m c t) covered7).trans (by rw [V_main_arg0, V_main_arg1, V_main_arg2, V_main_arg3])

/-! ### Output window 8: the array after the run -/

/-- What the window's array ends holding: `out0_8` applied to the argument arrays in place of the input blocks (a value that the
    frame states apart, `kK_payN a…`, keeps its loads inside its own definition). -/
abbrev G8 (a0 : Vec F S3x1x2304 .bf16) (a1 : Vec F S3x1x2304 .bf16) (a2 : Vec F S2304 .f32) (a3 : Vec F S2304x9216 .bf16) : Vec F S2304x9216 .fp8e4m3 :=
  k0_pay16 a0 a1 a2 a3

/-- The one store through the whole rectangle leaves its payload. -/
theorem out8_eq (a0 : Vec F S3x1x2304 .bf16) (a1 : Vec F S3x1x2304 .bf16) (a2 : Vec F S2304 .f32) (a3 : Vec F S2304x9216 .bf16) : out0_8 (F := F) a0 a1 a2 a3 = G8 a0 a1 a2 a3 := by
  unfold out0_8
  rw [View.canon_unit_zero hz8]

/-- Cutting the point's block out of `X` and reading `X` through the block's view give the same. -/
theorem cut8_eq (t : Fin cfg0.N) (X : Vec F S2304x9216 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3)) := by
  show (cfg0.win 8).cut (grid0.coords t) ((dats m 0 c).after 8 t) = _
  rw [after0_8, out8_eq, iblk0_eq, iblk1_eq, iblk2_eq, iblk3_eq]
  exact cut8_eq t _

/-- Every index of the array is in the point's block. -/
theorem covered8 (i : S2304x9216.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) :=
  ((dats m 0 c).arrAt_eq_of_cover 8 (G8 (V m c main_arg0) (V m c main_arg1) (V m c main_arg2) (V m c main_arg3)) (fun t _ => flushed8_eq m c t) covered8).trans (by rw [V_main_arg0, V_main_arg1, V_main_arg2, V_main_arg3])

/-! ### Output window 9: the array after the run -/

/-- What the window's array ends holding: `out0_9` applied to the argument arrays in place of the input blocks (a value that the
    frame states apart, `kK_payN a…`, keeps its loads inside its own definition). -/
abbrev G9 (a0 : Vec F S3x1x2304 .bf16) (a1 : Vec F S3x1x2304 .bf16) (a2 : Vec F S2304 .f32) (a3 : Vec F S2304x9216 .bf16) : Vec F S18x72 .f32 :=
  k0_pay15 a0 a1 a2 a3

/-- The one store through the whole rectangle leaves its payload. -/
theorem out9_eq (a0 : Vec F S3x1x2304 .bf16) (a1 : Vec F S3x1x2304 .bf16) (a2 : Vec F S2304 .f32) (a3 : Vec F S2304x9216 .bf16) : out0_9 (F := F) a0 a1 a2 a3 = G9 a0 a1 a2 a3 := by
  unfold out0_9
  rw [View.canon_unit_zero hz9]

/-- Cutting the point's block out of `X` and reading `X` through the block's view give the same. -/
theorem cut9_eq (t : Fin cfg0.N) (X : Vec F S18x72 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3)) := by
  show (cfg0.win 9).cut (grid0.coords t) ((dats m 0 c).after 9 t) = _
  rw [after0_9, out9_eq, iblk0_eq, iblk1_eq, iblk2_eq, iblk3_eq]
  exact cut9_eq t _

/-- Every index of the array is in the point's block. -/
theorem covered9 (i : S18x72.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) :=
  ((dats m 0 c).arrAt_eq_of_cover 9 (G9 (V m c main_arg0) (V m c main_arg1) (V m c main_arg2) (V m c main_arg3)) (fun t _ => flushed9_eq m c t) covered9).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G6 (m ((c : Thread nD τ).loc main_arg0)) (m ((c : Thread nD τ).loc main_arg1)) (m ((c : Thread nD τ).loc main_arg2)) (m ((c : Thread nD τ).loc main_arg3))
      ∧ r.2.mem ((c : Thread nD τ).loc main_v0_3) = G7 (m ((c : Thread nD τ).loc main_arg0)) (m ((c : Thread nD τ).loc main_arg1)) (m ((c : Thread nD τ).loc main_arg2)) (m ((c : Thread nD τ).loc main_arg3))
      ∧ r.2.mem ((c : Thread nD τ).loc main_v0_4) = G8 (m ((c : Thread nD τ).loc main_arg0)) (m ((c : Thread nD τ).loc main_arg1)) (m ((c : Thread nD τ).loc main_arg2)) (m ((c : Thread nD τ).loc main_arg3))
      ∧ r.2.mem ((c : Thread nD τ).loc main_v0_5) = G9 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      (post7 m r h c).trans (final7 m c),
      (post8 m r h c).trans (final8 m c),
      (post9 m r h c).trans (final9 m c),
      kept_main_arg0 m r h c,
      kept_main_arg1 m r h c,
      kept_main_arg2 m r h c,
      kept_main_arg3 m r h c⟩)
    (run_main m ρ)

end Cert.ReferenceIdeal.Final

end
-- ==== Proof.Value.Equal.lean ====
/- Each of the six results as one array of the arguments, and the two programs' results equal to it. -/
module

public import proofs.«01_k».proof.Proof.Value.KerProd
public import proofs.«01_k».proof.Proof.Value.RefProd
public import proofs.«01_k».proof.Proof.Value.Reference

@[expose] public section

set_option maxRecDepth 16384

noncomputable section

namespace Cert.Spec

open Idealize.ShloMosaic Idealize.ShloMosaic.TcCoe

/-! ## The six arrays -/

section
variable (x r : (⟨3, ![3, 1, 2304]⟩ : Shape).Idx → EReal) (gain : (⟨1, ![2304]⟩ : Shape).Idx → EReal) (w : (⟨2, ![2304, 9216]⟩ : Shape).Idx → EReal)

/-- Result 1: the product. -/
def arrY : (⟨3, ![3, 1, 9216]⟩ : Shape).Idx → EReal := fun i => prod x r gain w (i 0) (i 2)
/-- Result 2: the residual stream. -/
def arrH : (⟨3, ![3, 1, 2304]⟩ : Shape).Idx → EReal := fun i => res x r (i 0) (i 2)
/-- Result 3: the activation codes. -/
def arrC : (⟨3, ![3, 1, 2304]⟩ : Shape).Idx → EReal := fun i => aCode x r gain (i 0) (i 2)
/-- Result 4: the activation scales. -/
def arrS : (⟨3, ![3, 1, 18]⟩ : Shape).Idx → EReal := fun i => aScale x r gain (i 0) (i 2)
/-- Result 5: the weight codes. -/
def arrWC : (⟨2, ![2304, 9216]⟩ : Shape).Idx → EReal := fun i => wCode w (i 0) (i 1)
/-- Result 6: the weight scales. -/
def arrWS : (⟨2, ![18, 72]⟩ : Shape).Idx → EReal := fun i => wScale w (i 0) (i 1)

end

/-- Two arrays of rows are equal if they agree at every row and column. -/
theorem ext3 {n k : ℕ} (A B : (⟨3, ![n, 1, k]⟩ : Shape).Idx → EReal) (h : ∀ (b : Fin n) (j : Fin k), A (ix3 b (0 : Fin 1) j) = B (ix3 b (0 : Fin 1) j)) :
    A = B := by
  funext i
  have e : i = ix3 (i 0) (0 : Fin 1) (i 2) := by
    funext a; apply Fin.ext
    match a with
    | ⟨0, _⟩ => rfl
    | ⟨1, _⟩ => have h1 : (i 1).val < 1 := (i 1).isLt; show (i 1).val = 0; omega
    | ⟨2, _⟩ => rfl
  rw [e]; exact h _ _
/-- Two matrices are equal if they agree at every row and column. -/
theorem ext2 {n k : ℕ} (A B : (⟨2, ![n, k]⟩ : Shape).Idx → EReal) (h : ∀ (b : Fin n) (j : Fin k), A (ix2 b j) = B (ix2 b j)) : A = B := by
  funext i
  have e : i = ix2 (i 0) (i 1) := by
    funext a; apply Fin.ext
    match a with
    | ⟨0, _⟩ => rfl
    | ⟨1, _⟩ => rfl
  rw [e]; exact h _ _

/-! ## The reference -/

section
open Cert.ReferenceIdeal Cert.ReferenceIdeal.Gen Cert.ReferenceIdeal.Read Cert.ReferenceIdeal.Final
variable (x r : Vec Ideal S3x1x2304 .bf16) (gain : Vec Ideal S2304 .f32) (w : Vec Ideal S2304x9216 .bf16)

/-- A load of the whole activations is the activations. -/
theorem ldX (x : Vec Ideal S3x1x2304 .bf16) : View.ld (Val := Elt Ideal) (e' := .bf16) x r0_0 = x := View.ld_unit_zero (S := S3x1x2304) hz0 _ x
/-- A load of the whole gain is the gain. -/
theorem ldG : View.ld (Val := Elt Ideal) (e' := .f32) gain r0_1 = gain := View.ld_unit_zero (S := S2304) hz2 _ gain
/-- A load of the whole weight is the weight. -/
theorem ldW : View.ld (Val := Elt Ideal) (e' := .bf16) w r0_2 = w := View.ld_unit_zero (S := S2304x9216) hz3 _ w

/-- The reference's normed activations, from its arguments. -/
theorem v12 : k0_pay12 x r gain w = k0_pay3 x r gain := by unfold k0_pay12; rw [ldX, ldX, ldG]
/-- The exponents of its activation scales, from its arguments. -/
theorem v13 : k0_pay13 x r gain w = k0_pay4 x r gain := by unfold k0_pay13; rw [ldX, ldX, ldG]
/-- Its activation scales, from its arguments. -/
theorem v14 : k0_pay14 x r gain w = k0_pay5 (k0_pay4 x r gain) := by unfold k0_pay14; rw [v13]
/-- Its weight scales, from its arguments. -/
theorem v15 : k0_pay15 x r gain w = k0_pay9 w := by unfold k0_pay15; rw [ldW]
/-- Its weight codes, from its arguments. -/
theorem v16 : k0_pay16 x r gain w = k0_pay10 w := by unfold k0_pay16; rw [ldW]

/-- The reference's result 1 is the product. -/
theorem ref_Y : G4 x r gain w = arrY x r gain w := by
  unfold G4
  rw [v12, v13, v14, v15, v16]
  exact ext3 _ _ fun b j => pay1_spec x r gain w b j
/-- The reference's result 2 is the residual stream. -/
theorem ref_H : G5 x r gain w = arrH x r := ext3 _ _ fun b i => pay2_apply x r b i
/-- The reference's result 3 is the activation codes. -/
theorem ref_C : G6 x r gain w = arrC x r gain := by
  unfold G6
  rw [v12, v13]
  exact ext3 _ _ fun b i => pay6_apply x r gain b i
/-- The reference's result 4 is the activation scales. -/
theorem ref_S : G7 x r gain w = arrS x r gain := by
  unfold G7
  rw [v14]
  exact ext3 _ _ fun b g => pay5_apply x r gain b g
/-- The reference's result 5 is the weight codes. -/
theorem ref_WC : G8 x r gain w = arrWC w := by
  unfold G8
  rw [v16]
  exact ext2 _ _ fun i j => pay10_apply w i j
/-- The reference's result 6 is the weight scales. -/
theorem ref_WS : G9 x r gain w = arrWS w := by
  unfold G9
  rw [v15]
  exact ext2 _ _ fun g q => pay9_apply w g q

end

/-! ## The kernel -/

section
open Cert.KernelIdeal Cert.KernelIdeal.Gen Cert.KernelIdeal.Rolled

/-- The product's rows, with the axis of length one put in. -/
theorem out_y {α : Type} (v : S3x9216.Idx → α) (b : Fin 3) (j : Fin 9216) :
    shapeCast S3x1x9216 v shapeCasts_S3x9216_S3x1x9216 (ix3 b (0 : Fin 1) j) = v (ix2 b j) := by
  pointwise
/-- Rows of activations, with the axis of length one put in. -/
theorem out_h {α : Type} (v : S3x2304.Idx → α) (b : Fin 3) (i : Fin 2304) :
    shapeCast S3x1x2304 v shapeCasts_S3x2304_S3x1x2304 (ix3 b (0 : Fin 1) i) = v (ix2 b i) := by
  pointwise
/-- Rows of scales, with the axis of length one put in. -/
theorem out_s {α : Type} (v : S3x18.Idx → α) (b : Fin 3) (g : Fin 18) :
    shapeCast S3x1x18 v shapeCasts_S3x18_S3x1x18 (ix3 b (0 : Fin 1) g) = v (ix2 b g) := by
  pointwise

variable (m : (ℓ : Loc nD τ sig) → Buf (Elt Ideal) ℓ) (c : Dev nD)

/-- The kernel's result 1 is the product. -/
theorem ker_Y : shapeCast S3x1x9216 (yOf (accV m c 9)) shapeCasts_S3x9216_S3x1x9216 = arrY (argX m c) (argR m c) (argG m c) (argW m c) :=
  ext3 _ _ fun b j => (out_y _ b j).trans (yOf_spec m c b j)
/-- The kernel's result 2 is the residual stream. -/
theorem ker_H : shapeCast S3x1x2304 (residV m c) shapeCasts_S3x2304_S3x1x2304 = arrH (argX m c) (argR m c) :=
  ext3 _ _ fun b i => (out_h _ b i).trans (residV_spec m c b i)
/-- The kernel's result 3 is the activation codes. -/
theorem ker_C : shapeCast S3x1x2304 (actCodes (normV m c)) shapeCasts_S3x2304_S3x1x2304 = arrC (argX m c) (argR m c) (argG m c) :=
  ext3 _ _ fun b i => (out_h _ b i).trans (actCodes_spec (normV m c) _ _ _ (normV_spec m c) b i)
/-- The kernel's result 4 is the activation scales. -/
theorem ker_S : shapeCast S3x1x18 (actScales (normV m c)) shapeCasts_S3x18_S3x1x18 = arrS (argX m c) (argR m c) (argG m c) :=
  ext3 _ _ fun b g => (out_s _ b g).trans (actScales_spec (normV m c) _ _ _ (normV_spec m c) b g)
/-- The kernel's result 5 is the weight codes. -/
theorem ker_WC : wCodes m c = arrWC (argW m c) := ext2 _ _ fun i j => wCodes_spec m c i j
/-- The kernel's result 6 is the weight scales. -/
theorem ker_WS : shapeCast S18x72 (wScales m c) shapeCasts_S9x2x72_S18x72 = arrWS (argW m c) :=
  ext2 _ _ fun g q => (cast_scales _ g q).trans (wScales_spec m c _ _ q g (by show g.val = 2 * (g.val / 2) + g.val % 2; omega))

end

end Cert.Spec
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Kernel.Quiet
public import proofs.«01_k».proof.Proof.KernelIdeal.Quiet
public import proofs.«01_k».proof.Proof.Value.Equal
public import Idealize.ShloMosaic.Adequacy
public import Idealize.ShloMosaic.Init

@[expose] public section

noncomputable section

namespace Cert.Proof

open Idealize.ShloMosaic Idealize.SL.Sem Cert.Kernel

/-- The reference runs, leaves its arguments as they were, and ends with every semaphore at zero. -/
theorem reference_runs : Cert.quiescent_ReferenceIdeal :=
  fun m g _ => Cert.ReferenceIdeal.Gen.frame m g

/-- The kernel and the reference, run on equal arguments over the extended reals, end with the same six results: each is the one
    array of the arguments that `Cert.Spec` names. -/
theorem results_equal : Cert.algebraic_KernelIdeal_ReferenceIdeal := by
  intro m g m' g' _ hargs
  refine ⟨fun c => Cert.Spec.arrY (Cert.KernelIdeal.Rolled.argX m c) (Cert.KernelIdeal.Rolled.argR m c) (Cert.KernelIdeal.Rolled.argG m c) (Cert.KernelIdeal.Rolled.argW m c),
    fun c => Cert.Spec.arrH (Cert.KernelIdeal.Rolled.argX m c) (Cert.KernelIdeal.Rolled.argR m c),
    fun c => Cert.Spec.arrC (Cert.KernelIdeal.Rolled.argX m c) (Cert.KernelIdeal.Rolled.argR m c) (Cert.KernelIdeal.Rolled.argG m c),
    fun c => Cert.Spec.arrS (Cert.KernelIdeal.Rolled.argX m c) (Cert.KernelIdeal.Rolled.argR m c) (Cert.KernelIdeal.Rolled.argG m c),
    fun c => Cert.Spec.arrWC (Cert.KernelIdeal.Rolled.argW m c),
    fun c => Cert.Spec.arrWS (Cert.KernelIdeal.Rolled.argW m c), ?_, ?_⟩
  · refine (θ_run Cert.KernelIdeal.defs _ _).mono (fun r h c => ?_) (Cert.KernelIdeal.Rolled.results m g)
    obtain ⟨h0, h1, h2, h3, h4, h5, ha⟩ := h c
    exact ⟨h0.trans (Cert.Spec.ker_Y m c), h1.trans (Cert.Spec.ker_H m c), h2.trans (Cert.Spec.ker_C m c), h3.trans (Cert.Spec.ker_S m c),
      h4.trans (Cert.Spec.ker_WC m c), h5.trans (Cert.Spec.ker_WS m c), ha⟩
  · refine (θ_run Cert.ReferenceIdeal.defs _ _).mono (fun r h c => ?_) (Cert.ReferenceIdeal.Final.run m' g')
    obtain ⟨h0, h1, h2, h3, h4, h5, ha⟩ := h c
    obtain ⟨e0, e1, e2, e3⟩ := hargs c
    rw [e0, e1, e2, e3] at h0 h1 h2 h3 h4 h5
    exact ⟨h0.trans (Cert.Spec.ref_Y _ _ _ _), h1.trans (Cert.Spec.ref_H _ _ _ _), h2.trans (Cert.Spec.ref_C _ _ _ _), h3.trans (Cert.Spec.ref_S _ _ _ _),
      h4.trans (Cert.Spec.ref_WC _ _ _ _), h5.trans (Cert.Spec.ref_WS _ _ _ _), ha⟩

/-- All the claims. -/
theorem claim : Cert.Claim :=
  ⟨Cert.Kernel.Gen.facts, Cert.KernelIdeal.Gen.facts, Cert.ReferenceIdeal.Gen.facts,
    fun m g _ => Cert.Kernel.Rolled.quiet m g,
    fun m g _ => Cert.KernelIdeal.Rolled.quiet m g,
    reference_runs, trivial, results_equal⟩

end Cert.Proof

end
